-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_cond [hPre_finite_cond : Cert.Pre_finite_cond.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_cond.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_cond [hPre_finite_cond : Cert.Pre_finite_cond.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_cond.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite_cond [hKernel5Ideal : Cert.Kernel5Ideal.Facts] [hPre_finite_cond : Cert.Pre_finite_cond.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_cond m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite_cond [hReference5Ideal : Cert.Reference5Ideal.Facts] [hPre_finite_cond : Cert.Pre_finite_cond.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_cond m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v69) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_v29) = v1 c
          ∧ r.2.mem ((c.tc : Thread Cert.Reference3Ideal.nD Cert.Reference3Ideal.τ).loc Cert.Reference3Ideal.main_v30) = v2 c
          ∧ r.2.mem ((c.tc : Thread Cert.Reference3Ideal.nD Cert.Reference3Ideal.τ).loc Cert.Reference3Ideal.main_v31) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_finite_cond [hKernel5Ideal : Cert.Kernel5Ideal.Facts] [hReference5Ideal : Cert.Reference5Ideal.Facts] [hPre_finite_cond : Cert.Pre_finite_cond.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_cond m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_qk : Cert.Pre_finite_qk.Facts) (hPre_finite_cond : Cert.Pre_finite_cond.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_cond (hKernel5Ideal := hKernel5Ideal) (hPre_finite_cond := hPre_finite_cond)
    ∧ quiescent_Reference5Ideal (hReference5Ideal := hReference5Ideal)
    ∧ quiescent_Reference5Ideal_pre_finite_cond (hReference5Ideal := hReference5Ideal) (hPre_finite_cond := hPre_finite_cond)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_cond (hKernel5Ideal := hKernel5Ideal) (hReference5Ideal := hReference5Ideal) (hPre_finite_cond := hPre_finite_cond)
-- ==== Pre_finite_cond.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩

class Facts : Prop where
  bcast_S_S4x1024 : S_.BroadcastsInDim S4x1024 (![] : Fin 0 → Fin S4x1024.rank)
  reducesTo_S4x1024_S_d0_1 : S4x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S2x1024x6144 : S_.BroadcastsInDim S2x1024x6144 (![] : Fin 0 → Fin S2x1024x6144.rank)
  reducesTo_S2x1024x6144_S_d0_1_2 : S2x1024x6144.ReducesTo [0, 1, 2] S_

variable [Facts]

def fn {F : FTy → Type} [FloatOps F] (main_arg0 : FVec F S4x1024 .f32) (main_arg1 : FVec F S1024 .f32) (main_arg2 : FVec F S2x1024x6144 .f32) (main_arg3 : FVec F S2x6144 .f32) : IVec S_ 1 :=
  let main_v0 : FVec F S4x1024 .f32 := Host.absf main_arg0
  let main_cst : FVec F S_ .f32 := constant S_ .f32 0x7F800000#32
  let main_v1 : FVec F S4x1024 .f32 := broadcastInDim S4x1024 ![] bcast_S_S4x1024 main_cst
  let main_v2 : IVec S4x1024 1 := cmpf .olt main_v0 main_v1
  let main_c : IVec S_ 1 := constantI S_ 1 1#1
  let main_v3 : IVec S_ 1 := (fun x v => Host.reduce IntOp.andi x v reducesTo_S4x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S2x1024x6144 .f32 := Host.absf main_arg2
  let main_cst_2 : FVec F S_ .f32 := constant S_ .f32 0x7F800000#32
  let main_v10 : FVec F S2x1024x6144 .f32 := broadcastInDim S2x1024x6144 ![] bcast_S_S2x1024x6144 main_cst_2
  let main_v11 : IVec S2x1024x6144 1 := cmpf .olt main_v9 main_v10
  let main_c_3 : IVec S_ 1 := constantI S_ 1 1#1
  let main_v12 : IVec S_ 1 := (fun x v => Host.reduce IntOp.andi x v reducesTo_S2x1024x6144_S_d0_1_2 h_S_) main_v11 main_c_3
  let main_v13 : IVec S_ 1 := andi main_v8 main_v12
  main_v13
-- ==== Pre_finite_qk.lean ====
abbrev S4x4096x512 : Shape := ⟨3, ![4, 4096, 512]⟩
abbrev S4x4352x512 : Shape := ⟨3, ![4, 4352, 512]⟩
abbrev S4x256x4352 : Shape := ⟨3, ![4, 256, 4352]⟩
abbrev S_ : Shape := ⟨0, ![]⟩

class Facts : Prop where
  bitsLt_bf16_f32 : FTy.bits .bf16 < FTy.bits .f32
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S4x4352x512 : S_.BroadcastsInDim S4x4352x512 (![] : Fin 0 → Fin S4x4352x512.rank)
  reducesTo_S4x4352x512_S_d0_1_2 : S4x4352x512.ReducesTo [0, 1, 2] S_

variable [Facts]

def fn {F : FTy → Type} [FloatOps F] (main_arg0 : FVec F S4x4096x512 .bf16) (main_arg1 : FVec F S4x4352x512 .bf16) (main_arg2 : FVec F S4x256x4352 .bf16) : IVec S_ 1 :=
  let main_v0 : FVec F S4x4096x512 .f32 := (extf .f32 · bitsLt_bf16_f32) main_arg0
  let main_v1 : FVec F S4x4096x512 .f32 := Host.absf main_v0
  let main_cst : FVec F S_ .f32 := constant S_ .f32 0x7F800000#32
  let main_v2 : FVec F S4x4096x512 .f32 := broadcastInDim S4x4096x512 ![] bcast_S_S4x4096x512 main_cst
  let main_v3 : IVec S4x4096x512 1 := cmpf .olt main_v1 main_v2
  let main_c : IVec S_ 1 := constantI S_ 1 1#1
  let main_v4 : IVec S_ 1 := (fun x v => Host.reduce IntOp.andi x v reducesTo_S4x4096x512_S_d0_1_2 h_S_) main_v3 main_c
  let main_v5 : FVec F S4x4352x512 .f32 := (extf .f32 · bitsLt_bf16_f32) main_arg1
  let main_v6 : FVec F S4x4352x512 .f32 := Host.absf main_v5
  let main_cst_0 : FVec F S_ .f32 := constant S_ .f32 0x7F800000#32
  let main_v7 : FVec F S4x4352x512 .f32 := broadcastInDim S4x4352x512 ![] bcast_S_S4x4352x512 main_cst_0
  let main_v8 : IVec S4x4352x512 1 := cmpf .olt main_v6 main_v7
  let main_c_1 : IVec S_ 1 := constantI S_ 1 1#1
  let main_v9 : IVec S_ 1 := (fun x v => Host.reduce IntOp.andi x v reducesTo_S4x4352x512_S_d0_1_2 h_S_) main_v8 main_c_1
  let main_v10 : IVec S_ 1 := andi main_v4 main_v9
  main_v10
-- ==== Kernel.lean ====
abbrev S4x4096x512 : Shape := ⟨3, ![4, 4096, 512]⟩
abbrev S4x4352x512 : Shape := ⟨3, ![4, 4352, 512]⟩
abbrev S4x256x4352 : Shape := ⟨3, ![4, 256, 4352]⟩
abbrev S4x4096x256 : Shape := ⟨3, ![4, 4096, 256]⟩
abbrev S1x512x512 : Shape := ⟨3, ![1, 512, 512]⟩
abbrev S1x4352x512 : Shape := ⟨3, ![1, 4352, 512]⟩
abbrev S1x256x4352 : Shape := ⟨3, ![1, 256, 4352]⟩
abbrev S1x512x256 : Shape := ⟨3, ![1, 512, 256]⟩
abbrev S512x512 : Shape := ⟨2, ![512, 512]⟩
abbrev S1x512 : Shape := ⟨2, ![1, 512]⟩
abbrev S64x512 : Shape := ⟨2, ![64, 512]⟩
abbrev S1x1152x128 : Shape := ⟨3, ![1, 1152, 128]⟩
abbrev S1152x128 : Shape := ⟨2, ![1152, 128]⟩
abbrev S512x128 : Shape := ⟨2, ![512, 128]⟩
abbrev S1152x512 : Shape := ⟨2, ![1152, 512]⟩
abbrev S512 : Shape := ⟨1, ![512]⟩
abbrev S1x64x1152 : Shape := ⟨3, ![1, 64, 1152]⟩
abbrev S64x1152 : Shape := ⟨2, ![64, 1152]⟩
abbrev S1x1024x128 : Shape := ⟨3, ![1, 1024, 128]⟩
abbrev S1024x128 : Shape := ⟨2, ![1024, 128]⟩
abbrev S1024x512 : Shape := ⟨2, ![1024, 512]⟩
abbrev S1x64x1024 : Shape := ⟨3, ![1, 64, 1024]⟩
abbrev S64x1024 : Shape := ⟨2, ![64, 1024]⟩
abbrev S256x512 : Shape := ⟨2, ![256, 512]⟩
abbrev S512x256 : Shape := ⟨2, ![512, 256]⟩

abbrev nBuf : Space → Nat
  | .hbm => 4
  | .vmem => 8
  | .smem => 0
  | _ => 0

abbrev bufTy : (tb : Table) → Fin (tcTables nBuf tb) → BufTy
  | .hbm, ⟨0, _⟩ => ⟨S4x4096x512, .bf16⟩
  | .hbm, ⟨1, _⟩ => ⟨S4x4352x512, .bf16⟩
  | .hbm, ⟨2, _⟩ => ⟨S4x256x4352, .bf16⟩
  | .hbm, ⟨3, _⟩ => ⟨S4x4096x256, .bf16⟩
  | .local _ .vmem, ⟨0, _⟩ => ⟨S1x512x512, .bf16⟩
  | .local _ .vmem, ⟨1, _⟩ => ⟨S1x512x512, .bf16⟩
  | .local _ .vmem, ⟨2, _⟩ => ⟨S1x4352x512, .bf16⟩
  | .local _ .vmem, ⟨3, _⟩ => ⟨S1x4352x512, .bf16⟩
  | .local _ .vmem, ⟨4, _⟩ => ⟨S1x256x4352, .bf16⟩
  | .local _ .vmem, ⟨5, _⟩ => ⟨S1x256x4352, .bf16⟩
  | .local _ .vmem, ⟨6, _⟩ => ⟨S1x512x256, .bf16⟩
  | .local _ .vmem, ⟨7, _⟩ => ⟨S1x512x256, .bf16⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x4352 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4x4096x512 : Shape := ⟨3, ![4, 4096, 512]⟩
abbrev S4x4352x512 : Shape := ⟨3, ![4, 4352, 512]⟩
abbrev S4x256x4352 : Shape := ⟨3, ![4, 256, 4352]⟩
abbrev S4x4096x4x128 : Shape := ⟨4, ![4, 4096, 4, 128]⟩
abbrev S4x4352x4x128 : Shape := ⟨4, ![4, 4352, 4, 128]⟩
abbrev S4x4x64x4352 : Shape := ⟨4, ![4, 4, 64, 4352]⟩
abbrev S4x4x4096x4352 : Shape := ⟨4, ![4, 4, 4096, 4352]⟩
abbrev S_ : Shape := ⟨0, ![]⟩
abbrev S4x4x4096 : Shape := ⟨3, ![4, 4, 4096]⟩
abbrev S4x4x4096x1 : Shape := ⟨4, ![4, 4, 4096, 1]⟩
abbrev S4x4x64x4096 : Shape := ⟨4, ![4, 4, 64, 4096]⟩
abbrev S4x4096x4x64 : Shape := ⟨4, ![4, 4096, 4, 64]⟩
abbrev S4x4096x256 : Shape := ⟨3, ![4, 4096, 256]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x512, .bf16⟩
  | .hbm, ⟨1, _⟩ => ⟨S4x4352x512, .bf16⟩
  | .hbm, ⟨2, _⟩ => ⟨S4x256x4352, .bf16⟩
  | .hbm, ⟨3, _⟩ => ⟨S4x4096x512, .f32⟩
  | .hbm, ⟨4, _⟩ => ⟨S4x4096x4x128, .f32⟩
  | .hbm, ⟨5, _⟩ => ⟨S4x4352x512, .f32⟩
  | .hbm, ⟨6, _⟩ => ⟨S4x4352x4x128, .f32⟩
  | .hbm, ⟨7, _⟩ => ⟨S4x256x4352, .f32⟩
  | .hbm, ⟨8, _⟩ => ⟨S4x4x64x4352, .f32⟩
  | .hbm, ⟨9, _⟩ => ⟨S4x4x4096x4352, .f32⟩
  | .hbm, ⟨10, _⟩ => ⟨S_, .f32⟩
  | .hbm, ⟨11, _⟩ => ⟨S_, .f32⟩
  | .hbm, ⟨12, _⟩ => ⟨S4x4x4096x4352, .f32⟩
  | .hbm, ⟨13, _⟩ => ⟨S4x4x4096x4352, .f32⟩
  | .hbm, ⟨14, _⟩ => ⟨S_, .f32⟩
  | .hbm, ⟨15, _⟩ => ⟨S4x4x4096, .f32⟩
  | .hbm, ⟨16, _⟩ => ⟨S_, .f32⟩
  | .hbm, ⟨17, _⟩ => ⟨S4x4x4096, .f32⟩
  | .hbm, ⟨18, _⟩ => ⟨S4x4x4096, .f32⟩
  | .hbm, ⟨19, _⟩ => ⟨S4x4x4096x1, .f32⟩
  | .hbm, ⟨20, _⟩ => ⟨S4x4x4096x4352, .f32⟩
  | .hbm, ⟨21, _⟩ => ⟨S4x4x4096x4352, .f32⟩
  | .hbm, ⟨22, _⟩ => ⟨S4x4x4096x4352, .f32⟩
  | .hbm, ⟨23, _⟩ => ⟨S_, .f32⟩
  | .hbm, ⟨24, _⟩ => ⟨S4x4x4096, .f32⟩
  | .hbm, ⟨25, _⟩ => ⟨S4x4x4096x1, .f32⟩
  | .hbm, ⟨26, _⟩ => ⟨S4x4x4096x4352, .f32⟩
  | .hbm, ⟨27, _⟩ => ⟨S4x4x4096x4352, .f32⟩
  | .hbm, ⟨28, _⟩ => ⟨S4x4x64x4096, .f32⟩
  | .hbm, ⟨29, _⟩ => ⟨S4x4096x4x64, .f32⟩
  | .hbm, ⟨30, _⟩ => ⟨S4x4096x256, .f32⟩
  | .hbm, ⟨31, _⟩ => ⟨S4x4096x256, .bf16⟩
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x6x1024 : Shape := ⟨3, ![4, 6, 1024]⟩
abbrev S1x1024 : Shape := ⟨2, ![1, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S256x256 : Shape := ⟨2, ![256, 256]⟩
abbrev S1x5632 : Shape := ⟨2, ![1, 5632]⟩
abbrev S11x256x1024 : Shape := ⟨3, ![11, 256, 1024]⟩
abbrev S1x8x1024 : Shape := ⟨3, ![1, 8, 1024]⟩
abbrev S1x256x1024 : Shape := ⟨3, ![1, 256, 1024]⟩
abbrev S1x6x1024 : Shape := ⟨3, ![1, 6, 1024]⟩
abbrev S272x1024 : Shape := ⟨2, ![272, 1024]⟩
abbrev S3x272x512 : Shape := ⟨3, ![3, 272, 512]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S8x1024 : Shape := ⟨2, ![8, 1024]⟩
abbrev S8 : Shape := ⟨1, ![8]⟩
abbrev S8x1 : Shape := ⟨2, ![8, 1]⟩
abbrev S16x1024 : Shape := ⟨2, ![16, 1024]⟩
abbrev S8x512 : Shape := ⟨2, ![8, 512]⟩
abbrev S1024x256 : Shape := ⟨2, ![1024, 256]⟩
abbrev S272x256 : Shape := ⟨2, ![272, 256]⟩
abbrev S272x512 : Shape := ⟨2, ![272, 512]⟩
abbrev S256x512 : Shape := ⟨2, ![256, 512]⟩
abbrev S1x272x512 : Shape := ⟨3, ![1, 272, 512]⟩
abbrev S1x512 : Shape := ⟨2, ![1, 512]⟩
abbrev S3x256 : Shape := ⟨2, ![3, 256]⟩
abbrev S3x512 : Shape := ⟨2, ![3, 512]⟩
abbrev S1x256 : Shape := ⟨2, ![1, 256]⟩

abbrev nBuf : Space → Nat
  | .hbm => 17
  | .vmem => 21
  | .smem => 0
  | _ => 0

abbrev bufTy : (tb : Table) → Fin (tcTables nBuf tb) → BufTy
  | .hbm, ⟨0, _⟩ => ⟨S4x4096x1024, .f32⟩
  | .hbm, ⟨1, _⟩ => ⟨S4x6x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S256x256, .f32⟩
  | .hbm, ⟨9, _⟩ => ⟨S256x256, .f32⟩
  | .hbm, ⟨10, _⟩ => ⟨S256x256, .bf16⟩
  | .hbm, ⟨11, _⟩ => ⟨S256x256, .bf16⟩
  | .hbm, ⟨12, _⟩ => ⟨S1024x5632, .bf16⟩
  | .hbm, ⟨13, _⟩ => ⟨S1x5632, .f32⟩
  | .hbm, ⟨14, _⟩ => ⟨S11x256x1024, .f32⟩
  | .hbm, ⟨15, _⟩ => ⟨S11x256x1024, .bf16⟩
  | .hbm, ⟨16, _⟩ => ⟨S4x4096x1024, .f32⟩
  | .local _ .vmem, ⟨0, _⟩ => ⟨S1x8x1024, .f32⟩
  | .local _ .vmem, ⟨1, _⟩ => ⟨S1x8x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1x1024, .f32⟩
  | .local _ .vmem, ⟨10, _⟩ => ⟨S1024x5632, .bf16⟩
  | .local _ .vmem, ⟨11, _⟩ => ⟨S3x5632, .f32⟩
  | .local _ .vmem, ⟨12, _⟩ => ⟨S1x5632, .f32⟩
  | .local _ .vmem, ⟨13, _⟩ => ⟨S11x256x1024, .bf16⟩
  | .local _ .vmem, ⟨14, _⟩ => ⟨S256x256, .bf16⟩
  | .local _ .vmem, ⟨15, _⟩ => ⟨S256x256, .bf16⟩
  | .local _ .vmem, ⟨16, _⟩ => ⟨S1x256x1024, .f32⟩
  | .local _ .vmem, ⟨17, _⟩ => ⟨S1x256x1024, .f32⟩
  | .local _ .vmem, ⟨18, _⟩ => ⟨S272x1024, .bf16⟩
  | .local _ .vmem, ⟨19, _⟩ => ⟨S3x272x512, .f32⟩
  | .local _ .vmem, ⟨20, _⟩ => ⟨S256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S11x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S4x4096x1024 : Shape := ⟨3, ![4, 4096, 1024]⟩
abbrev S4x6x1024 : Shape := ⟨3, ![4, 6, 1024]⟩
abbrev S1x1024 : Shape := ⟨2, ![1, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x4096x5632 : Shape := ⟨3, ![4, 4096, 5632]⟩
abbrev S4x4098x5632 : Shape := ⟨3, ![4, 4098, 5632]⟩
abbrev S1x5632 : Shape := ⟨2, ![1, 5632]⟩
abbrev S1x1x5632 : Shape := ⟨3, ![1, 1, 5632]⟩
abbrev S4x4096x2816 : Shape := ⟨3, ![4, 4096, 2816]⟩

abbrev nBuf : Space → Nat
  | .hbm => 95
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x6x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S1024, .f32⟩
  | .hbm, ⟨9, _⟩ => ⟨S4x4096x1024, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x1024, .f32⟩
  | .hbm, ⟨21, _⟩ => ⟨S4x4096x1024, .f32⟩
  | .hbm, ⟨22, _⟩ => ⟨S1x1x1024, .f32⟩
  | .hbm, ⟨23, _⟩ => ⟨S4x4096x1024, .f32⟩
  | .hbm, ⟨24, _⟩ => ⟨S4x4096x1024, .f32⟩
  | .hbm, ⟨25, _⟩ => ⟨S4x1x1024, .f32⟩
  | .hbm, ⟨26, _⟩ => ⟨S4x1x1024, .f32⟩
  | .hbm, ⟨27, _⟩ => ⟨S_, .f32⟩
  | .hbm, ⟨28, _⟩ => ⟨S4x1x1024, .f32⟩
  | .hbm, ⟨29, _⟩ => ⟨S4x1x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S4x4096x5632, .f32⟩
  | .hbm, ⟨35, _⟩ => ⟨S_, .i32⟩
  | .hbm, ⟨36, _⟩ => ⟨S_, .f32⟩
  | .hbm, ⟨37, _⟩ => ⟨S4x4098x5632, .f32⟩
  | .hbm, ⟨38, _⟩ => ⟨S4x4096x5632, .f32⟩
  | .hbm, ⟨39, _⟩ => ⟨S1x5632, .f32⟩
  | .hbm, ⟨40, _⟩ => ⟨S5632, .f32⟩
  | .hbm, ⟨41, _⟩ => ⟨S1x1x5632, .f32⟩
  | .hbm, ⟨42, _⟩ => ⟨S4x4096x5632, .f32⟩
  | .hbm, ⟨43, _⟩ => ⟨S4x4096x5632, .f32⟩
  | .hbm, ⟨44, _⟩ => ⟨S4x4096x5632, .f32⟩
  | .hbm, ⟨45, _⟩ => ⟨S1x5632, .f32⟩
  | .hbm, ⟨46, _⟩ => ⟨S5632, .f32⟩
  | .hbm, ⟨47, _⟩ => ⟨S1x1x5632, .f32⟩
  | .hbm, ⟨48, _⟩ => ⟨S4x4096x5632, .f32⟩
  | .hbm, ⟨49, _⟩ => ⟨S4x4096x5632, .f32⟩
  | .hbm, ⟨50, _⟩ => ⟨S4x4096x5632, .f32⟩
  | .hbm, ⟨51, _⟩ => ⟨S4x4096x5632, .f32⟩
  | .hbm, ⟨52, _⟩ => ⟨S1x5632, .f32⟩
  | .hbm, ⟨53, _⟩ => ⟨S5632, .f32⟩
  | .hbm, ⟨54, _⟩ => ⟨S1x1x5632, .f32⟩
  | .hbm, ⟨55, _⟩ => ⟨S4x4096x5632, .f32⟩
  | .hbm, ⟨56, _⟩ => ⟨S4x4096x5632, .f32⟩
  | .hbm, ⟨57, _⟩ => ⟨S4x4096x5632, .f32⟩
  | .hbm, ⟨58, _⟩ => ⟨S1x1x5632, .f32⟩
  | .hbm, ⟨59, _⟩ => ⟨S4x4096x5632, .f32⟩
  | .hbm, ⟨60, _⟩ => ⟨S4x4096x5632, .f32⟩
  | .hbm, ⟨61, _⟩ => ⟨S4x4096x2816, .f32⟩
  | .hbm, ⟨62, _⟩ => ⟨S4x4096x2816, .f32⟩
  | .hbm, ⟨63, _⟩ => ⟨S4x1x1024, .f32⟩
  | .hbm, ⟨64, _⟩ => ⟨S4x4096x2816, .f32⟩
  | .hbm, ⟨65, _⟩ => ⟨S4x4096x2816, .f32⟩
  | .hbm, ⟨66, _⟩ => ⟨S_, .f32⟩
  | .hbm, ⟨67, _⟩ => ⟨S4x4096x2816, .f32⟩
  | .hbm, ⟨68, _⟩ => ⟨S4x4096x2816, .f32⟩
  | .hbm, ⟨69, _⟩ => ⟨S_, .f32⟩
  | .hbm, ⟨70, _⟩ => ⟨S4x4096x2816, .f32⟩
  | .hbm, ⟨71, _⟩ => ⟨S4x4096x2816, .f32⟩
  | .hbm, ⟨72, _⟩ => ⟨S4x4096x2816, .f32⟩
  | .hbm, ⟨73, _⟩ => ⟨S4x4096x2816, .f32⟩
  | .hbm, ⟨74, _⟩ => ⟨S4x4096x1024, .f32⟩
  | .hbm, ⟨75, _⟩ => ⟨S1024, .f32⟩
  | .hbm, ⟨76, _⟩ => ⟨S4x4096x1024, .f32⟩
  | .hbm, ⟨77, _⟩ => ⟨S_, .f32⟩
  | .hbm, ⟨78, _⟩ => ⟨S4x4096, .f32⟩
  | .hbm, ⟨79, _⟩ => ⟨S4x4096x1, .f32⟩
  | .hbm, ⟨80, _⟩ => ⟨S_, .f32⟩
  | .hbm, ⟨81, _⟩ => ⟨S4x4096x1, .f32⟩
  | .hbm, ⟨82, _⟩ => ⟨S4x4096x1, .f32⟩
  | .hbm, ⟨83, _⟩ => ⟨S_, .f32⟩
  | .hbm, ⟨84, _⟩ => ⟨S4x4096x1, .f32⟩
  | .hbm, ⟨85, _⟩ => ⟨S4x4096x1, .f32⟩
  | .hbm, ⟨86, _⟩ => ⟨S4x4096x1, .f32⟩
  | .hbm, ⟨87, _⟩ => ⟨S4x4096x1024, .f32⟩
  | .hbm, ⟨88, _⟩ => ⟨S4x4096x1024, .f32⟩
  | .hbm, ⟨89, _⟩ => ⟨S1x1x1024, .f32⟩
  | .hbm, ⟨90, _⟩ => ⟨S4x4096x1024, .f32⟩
  | .hbm, ⟨91, _⟩ => ⟨S4x4096x1024, .f32⟩
  | .hbm, ⟨92, _⟩ => ⟨S4x4096x1024, .f32⟩
  | .hbm, ⟨93, _⟩ => ⟨S4x4096x1024, .f32⟩
  | .hbm, ⟨94, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_call1_v5 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_3 : Ref sig .tc := ⟨.hbm, 77, rfl⟩
abbrev main_v55 : Ref sig .tc := ⟨.hbm, 78, rfl⟩
abbrev main_v56 : Ref sig .tc := ⟨.hbm, 79, rfl⟩
abbrev main_cst_4 : Ref sig .tc := ⟨.hbm, 80, rfl⟩
abbrev main_v57 : Ref sig .tc := ⟨.hbm, 81, rfl⟩
abbrev main_v58 : Ref sig .tc := ⟨.hbm, 82, rfl⟩
abbrev main_cst_5 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x6x1024 : Shape := ⟨3, ![4, 6, 1024]⟩
abbrev S1x1024 : Shape := ⟨2, ![1, 1024]⟩
abbrev S1024x2560 : Shape := ⟨2, ![1024, 2560]⟩
abbrev S4x4096x256 : Shape := ⟨3, ![4, 4096, 256]⟩
abbrev S4x4096x768 : Shape := ⟨3, ![4, 4096, 768]⟩
abbrev S4x4096x512 : Shape := ⟨3, ![4, 4096, 512]⟩
abbrev S1x1024x1024 : Shape := ⟨3, ![1, 1024, 1024]⟩
abbrev S1x6x1024 : Shape := ⟨3, ![1, 6, 1024]⟩
abbrev S1x1024x256 : Shape := ⟨3, ![1, 1024, 256]⟩
abbrev S1x1024x768 : Shape := ⟨3, ![1, 1024, 768]⟩
abbrev S1x1024x512 : Shape := ⟨3, ![1, 1024, 512]⟩
abbrev S1024x1024 : Shape := ⟨2, ![1024, 1024]⟩
abbrev S1024 : Shape := ⟨1, ![1024]⟩
abbrev S1024x1 : Shape := ⟨2, ![1024, 1]⟩
abbrev S1x1x1024 : Shape := ⟨3, ![1, 1, 1024]⟩
abbrev S1024x256 : Shape := ⟨2, ![1024, 256]⟩
abbrev S1024x768 : Shape := ⟨2, ![1024, 768]⟩
abbrev S1024x512 : Shape := ⟨2, ![1024, 512]⟩

abbrev nBuf : Space → Nat
  | .hbm => 8
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S4x6x1024, .f32⟩
  | .hbm, ⟨2, _⟩ => ⟨S1x1024, .f32⟩
  | .hbm, ⟨3, _⟩ => ⟨S1024x2560, .bf16⟩
  | .hbm, ⟨4, _⟩ => ⟨S4x4096x256, .bf16⟩
  | .hbm, ⟨5, _⟩ => ⟨S4x4096x768, .bf16⟩
  | .hbm, ⟨6, _⟩ => ⟨S4x4096x1024, .bf16⟩
  | .hbm, ⟨7, _⟩ => ⟨S4x4096x512, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2560, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x768, .bf16⟩
  | .local _ .vmem, ⟨9, _⟩ => ⟨S1x1024x768, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x512, .bf16⟩
  | .local _ .vmem, ⟨13, _⟩ => ⟨S1x1024x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S4x4096x1024 : Shape := ⟨3, ![4, 4096, 1024]⟩
abbrev S4x6x1024 : Shape := ⟨3, ![4, 6, 1024]⟩
abbrev S1x1024 : Shape := ⟨2, ![1, 1024]⟩
abbrev S1024x2560 : Shape := ⟨2, ![1024, 2560]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x4096x2560 : Shape := ⟨3, ![4, 4096, 2560]⟩
abbrev S4x4096x256 : Shape := ⟨3, ![4, 4096, 256]⟩
abbrev S4x4096x768 : Shape := ⟨3, ![4, 4096, 768]⟩
abbrev S4x4096x512 : Shape := ⟨3, ![4, 4096, 512]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x6x1024, .f32⟩
  | .hbm, ⟨2, _⟩ => ⟨S1x1024, .f32⟩
  | .hbm, ⟨3, _⟩ => ⟨S1024x2560, .bf16⟩
  | .hbm, ⟨4, _⟩ => ⟨S1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x1x1024, .f32⟩
  | .hbm, ⟨22, _⟩ => ⟨S4x1x1024, .f32⟩
  | .hbm, ⟨23, _⟩ => ⟨S_, .f32⟩
  | .hbm, ⟨24, _⟩ => ⟨S4x1x1024, .f32⟩
  | .hbm, ⟨25, _⟩ => ⟨S4x1x1024, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S1024x2560, .f32⟩
  | .hbm, ⟨31, _⟩ => ⟨S4x4096x2560, .f32⟩
  | .hbm, ⟨32, _⟩ => ⟨S4x4096x256, .f32⟩
  | .hbm, ⟨33, _⟩ => ⟨S4x4096x768, .f32⟩
  | .hbm, ⟨34, _⟩ => ⟨S4x4096x1024, .f32⟩
  | .hbm, ⟨35, _⟩ => ⟨S4x4096x512, .f32⟩
  | .hbm, ⟨36, _⟩ => ⟨S4x4096x256, .bf16⟩
  | .hbm, ⟨37, _⟩ => ⟨S4x4096x768, .bf16⟩
  | .hbm, ⟨38, _⟩ => ⟨S4x4096x1024, .bf16⟩
  | .hbm, ⟨39, _⟩ => ⟨S4x4096x512, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Kernel4.lean ====
abbrev S4x4096x256 : Shape := ⟨3, ![4, 4096, 256]⟩
abbrev S1024x1024 : Shape := ⟨2, ![1024, 1024]⟩
abbrev S4x4096x1024 : Shape := ⟨3, ![4, 4096, 1024]⟩
abbrev S4x6x1024 : Shape := ⟨3, ![4, 6, 1024]⟩
abbrev S1x1024 : Shape := ⟨2, ![1, 1024]⟩
abbrev S1x1024x256 : Shape := ⟨3, ![1, 1024, 256]⟩
abbrev S1x1024x1024 : Shape := ⟨3, ![1, 1024, 1024]⟩
abbrev S1x6x1024 : Shape := ⟨3, ![1, 6, 1024]⟩
abbrev S1024x256 : Shape := ⟨2, ![1024, 256]⟩
abbrev S256x1024 : Shape := ⟨2, ![256, 1024]⟩
abbrev S1x1x1024 : Shape := ⟨3, ![1, 1, 1024]⟩
abbrev S1024 : Shape := ⟨1, ![1024]⟩
abbrev S1024x1 : Shape := ⟨2, ![1024, 1]⟩

abbrev nBuf : Space → Nat
  | .hbm => 9
  | .vmem => 16
  | .smem => 0
  | _ => 0

abbrev bufTy : (tb : Table) → Fin (tcTables nBuf tb) → BufTy
  | .hbm, ⟨0, _⟩ => ⟨S4x4096x256, .bf16⟩
  | .hbm, ⟨1, _⟩ => ⟨S4x4096x256, .bf16⟩
  | .hbm, ⟨2, _⟩ => ⟨S4x4096x256, .bf16⟩
  | .hbm, ⟨3, _⟩ => ⟨S4x4096x256, .bf16⟩
  | .hbm, ⟨4, _⟩ => ⟨S1024x1024, .bf16⟩
  | .hbm, ⟨5, _⟩ => ⟨S4x4096x1024, .f32⟩
  | .hbm, ⟨6, _⟩ => ⟨S4x6x1024, .f32⟩
  | .hbm, ⟨7, _⟩ => ⟨S1x1024, .f32⟩
  | .hbm, ⟨8, _⟩ => ⟨S4x4096x1024, .f32⟩
  | .local _ .vmem, ⟨0, _⟩ => ⟨S1x1024x256, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1024x1024, .bf16⟩
  | .local _ .vmem, ⟨9, _⟩ => ⟨S1x1024x1024, .f32⟩
  | .local _ .vmem, ⟨10, _⟩ => ⟨S1x1024x1024, .f32⟩
  | .local _ .vmem, ⟨11, _⟩ => ⟨S1x6x1024, .f32⟩
  | .local _ .vmem, ⟨12, _⟩ => ⟨S1x6x1024, .f32⟩
  | .local _ .vmem, ⟨13, _⟩ => ⟨S1x1024, .f32⟩
  | .local _ .vmem, ⟨14, _⟩ => ⟨S1x1024x1024, .f32⟩
  | .local _ .vmem, ⟨15, _⟩ => ⟨S1x1024x1024, .f32⟩
  | _, _ => ⟨S4x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S4x4096x256 : Shape := ⟨3, ![4, 4096, 256]⟩
abbrev S1024x1024 : Shape := ⟨2, ![1024, 1024]⟩
abbrev S4x4096x1024 : Shape := ⟨3, ![4, 4096, 1024]⟩
abbrev S4x6x1024 : Shape := ⟨3, ![4, 6, 1024]⟩
abbrev S1x1024 : Shape := ⟨2, ![1, 1024]⟩
abbrev S4x1x1024 : Shape := ⟨3, ![4, 1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S4x4096x256, .bf16⟩
  | .hbm, ⟨1, _⟩ => ⟨S4x4096x256, .bf16⟩
  | .hbm, ⟨2, _⟩ => ⟨S4x4096x256, .bf16⟩
  | .hbm, ⟨3, _⟩ => ⟨S4x4096x256, .bf16⟩
  | .hbm, ⟨4, _⟩ => ⟨S1024x1024, .bf16⟩
  | .hbm, ⟨5, _⟩ => ⟨S4x4096x1024, .f32⟩
  | .hbm, ⟨6, _⟩ => ⟨S4x6x1024, .f32⟩
  | .hbm, ⟨7, _⟩ => ⟨S1x1024, .f32⟩
  | .hbm, ⟨8, _⟩ => ⟨S4x4096x1024, .bf16⟩
  | .hbm, ⟨9, _⟩ => ⟨S4x4096x1024, .f32⟩
  | .hbm, ⟨10, _⟩ => ⟨S1024x1024, .f32⟩
  | .hbm, ⟨11, _⟩ => ⟨S4x4096x1024, .f32⟩
  | .hbm, ⟨12, _⟩ => ⟨S4x1x1024, .f32⟩
  | .hbm, ⟨13, _⟩ => ⟨S1024, .f32⟩
  | .hbm, ⟨14, _⟩ => ⟨S4x4096x1024, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x1, .f32⟩
  | .hbm, ⟨25, _⟩ => ⟨S4x4096x1024, .f32⟩
  | .hbm, ⟨26, _⟩ => ⟨S4x4096x1024, .f32⟩
  | .hbm, ⟨27, _⟩ => ⟨S1x1x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | _, _ => ⟨S4x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== Kernel5.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S2x1x6144, .f32⟩
  | .hbm, ⟨9, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S2x6144x8 : Shape := ⟨3, ![2, 6144, 8]⟩
abbrev S2x8x6144 : Shape := ⟨3, ![2, 8, 6144]⟩
abbrev S2x1x6144 : Shape := ⟨3, ![2, 1, 6144]⟩

abbrev nBuf : Space → Nat
  | .hbm => 22
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S2x6144x8, .f32⟩
  | .hbm, ⟨18, _⟩ => ⟨S2x8x6144, .f32⟩
  | .hbm, ⟨19, _⟩ => ⟨S2x1x6144, .f32⟩
  | .hbm, ⟨20, _⟩ => ⟨S2x8x6144, .f32⟩
  | .hbm, ⟨21, _⟩ => ⟨S2x8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Proof.OnlineSoftmax.lean ====
/- The mathematics of a softmax average taken block by block, on extended reals.

   A row of attention holds a running maximum, a running sum of powers and a running weighted sum of values. `Running`
   says what those three stand for: whatever finite maximum they are next rescaled to, they become the sum `Z` of
   `2^σ` over the keys seen so far and the sum `W` of `v · 2^σ`, both divided by the power of two of that maximum.
   One block of keys adds its share to `Z` and `W` (`Running.step`), and the last division gives `W / Z`
   (`Running.result`). The values `v` may be infinite; the scores `σ` are real. -/
module

public import Idealize.ShloMosaic.PureOps.Ideal.Laws

@[expose] public section

noncomputable section

namespace Cert.Attn

open Idealize.ShloMosaic
open scoped BigOperators

/-- A nonnegative real factor goes through a finite sum of extended reals. -/
theorem coe_mul_sum {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.2 hc) (EReal.coe_ne_top c), ih]

/-- A sum of reals read as extended reals is the sum read as one. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of finitely many reals, taken from minus infinity: never plus infinity. -/
theorem fold_max_ne_top {ι : Type*} (s : Finset ι) (σ : ι → ℝ) : s.fold max (⊥ : EReal) (fun i => (σ i : EReal)) ≠ ⊤ := by
  classical
  induction s using Finset.induction_on with
  | empty => simp
  | insert a s ha ih =>
    rw [Finset.fold_insert ha]
    exact fun h => (max_eq_top.1 h).elim (EReal.coe_ne_top _) ih

/-- … and not minus infinity when there is one. -/
theorem fold_max_ne_bot {ι : Type*} (s : Finset ι) (hs : s.Nonempty) (σ : ι → ℝ) :
    s.fold max (⊥ : EReal) (fun i => (σ i : EReal)) ≠ ⊥ := by
  classical
  obtain ⟨a, ha⟩ := hs
  have h : ((σ a : ℝ) : EReal) ≤ s.fold max (⊥ : EReal) (fun i => (σ i : EReal)) :=
    Finset.le_fold_max _ |>.2 (Or.inr ⟨a, ha, le_rfl⟩)
  exact fun hb => EReal.coe_ne_bot (σ a) (le_bot_iff.1 (hb ▸ h))

/-- The running maximum `m`, sum `l` and weighted sum `a` of a row, standing for `Z` and `W`. -/
def Running (m l a : EReal) (Z : ℝ) (W : EReal) : Prop :=
  m ≠ ⊤ ∧ ∀ μ : ℝ, Ideal.exp2 (m - μ) * l = (((2 : ℝ) ^ (-μ) * Z : ℝ) : EReal)
    ∧ Ideal.exp2 (m - μ) * a = (((2 : ℝ) ^ (-μ) : ℝ) : EReal) * W

/-- Before the first key: minus infinity, zero and zero. -/
theorem Running.start : Running ⊥ 0 0 0 0 := by
  refine ⟨bot_ne_top, fun μ => ⟨?_, ?_⟩⟩ <;> simp

theorem exp2_coe_sub (x μ : ℝ) : Ideal.exp2 ((x : EReal) - (μ : EReal)) = (((2 : ℝ) ^ (-μ) * (2 : ℝ) ^ x : ℝ) : EReal) := by
  rw [← EReal.coe_sub, Ideal.exp2_coe, ← Real.rpow_add (by norm_num : (0 : ℝ) < 2)]
  show (((2 : ℝ) ^ (x - μ) : ℝ) : EReal) = _
  congr 2; ring

/-- ONE BLOCK OF KEYS, of scores `σ` and values `v`: the new maximum `m'`, the rescaled sums plus the block's own. -/
theorem Running.step {n : ℕ} (hn : 0 < n) {m l a : EReal} {Z : ℝ} {W : EReal} (h : Running m l a Z W) (σ : Fin n → ℝ)
    (v : Fin n → EReal) (m' : EReal) (hm' : m' = max m (Finset.univ.fold max ⊥ fun i => (σ i : EReal))) :
    Running m' (Ideal.exp2 (m - m') * l + ∑ i, Ideal.exp2 ((σ i : EReal) - m'))
      (Ideal.exp2 (m - m') * a + ∑ i, v i * Ideal.exp2 ((σ i : EReal) - m'))
      (Z + ∑ i, (2 : ℝ) ^ σ i) (W + ∑ i, v i * (((2 : ℝ) ^ σ i : ℝ) : EReal)) ∧ m' ≠ ⊥ := by
  have hne : (Finset.univ : Finset (Fin n)).Nonempty := ⟨⟨0, hn⟩, Finset.mem_univ _⟩
  have htop : m' ≠ ⊤ := by
    rw [hm']; exact fun ht => (max_eq_top.1 ht).elim h.1 (fold_max_ne_top _ σ)
  have hbot : m' ≠ ⊥ := by
    rw [hm']; exact fun hb => fold_max_ne_bot _ hne σ (max_eq_bot.1 hb).2
  refine ⟨?_, hbot⟩
  clear hm'
  lift m' to ℝ using ⟨htop, hbot⟩ with μ
  obtain ⟨hl, ha⟩ := h.2 μ
  have two : (0 : ℝ) < 2 := by norm_num
  have pos : ∀ x : ℝ, (0 : ℝ) ≤ (2 : ℝ) ^ x := fun x => (Real.rpow_pos_of_pos two x).le
  have hL : Ideal.exp2 (m - μ) * l + ∑ i, Ideal.exp2 ((σ i : EReal) - μ)
      = (((2 : ℝ) ^ (-μ) * (Z + ∑ i, (2 : ℝ) ^ σ i) : ℝ) : EReal) := by
    rw [hl, mul_add, EReal.coe_add, Finset.mul_sum, coe_sum]
    congr 1
    exact Finset.sum_congr rfl fun i _ => exp2_coe_sub _ _
  have hA : Ideal.exp2 (m - μ) * a + ∑ i, v i * Ideal.exp2 ((σ i : EReal) - μ)
      = (((2 : ℝ) ^ (-μ) : ℝ) : EReal) * (W + ∑ i, v i * (((2 : ℝ) ^ σ i : ℝ) : EReal)) := by
    rw [ha, EReal.left_distrib_of_nonneg_of_ne_top (EReal.coe_nonneg.2 (pos _)) (EReal.coe_ne_top _), coe_mul_sum _ _ (pos _)]
    congr 1
    refine Finset.sum_congr rfl fun i _ => ?_
    rw [exp2_coe_sub, EReal.coe_mul, mul_left_comm]
  rw [hL, hA]
  refine ⟨EReal.coe_ne_top _, fun ν => ?_⟩
  have hc : (2 : ℝ) ^ (-ν) * (2 : ℝ) ^ μ * (2 : ℝ) ^ (-μ) = (2 : ℝ) ^ (-ν) := by
    rw [mul_assoc, ← Real.rpow_add two]; simp
  rw [exp2_coe_sub]
  constructor
  · rw [← EReal.coe_mul, ← mul_assoc, hc]
  · rw [← mul_assoc, ← EReal.coe_mul, hc]

/-- THE RESULT of a row: the weighted sum over the sum, once every key is in. -/
theorem Running.result {m l a : EReal} {Z : ℝ} {W : EReal} (h : Running m l a Z W) (hm : m ≠ ⊥) (hZ : 0 < Z) :
    a * Ideal.div 1 l = W * ((1 / Z : ℝ) : EReal) := by
  have htop := h.1
  lift m to ℝ using ⟨htop, hm⟩ with μ
  obtain ⟨hl, ha⟩ := h.2 μ
  have two : (0 : ℝ) < 2 := by norm_num
  have e1 : Ideal.exp2 ((μ : EReal) - (μ : EReal)) = 1 := by
    rw [exp2_coe_sub, ← Real.rpow_add two]; simp
  rw [e1, one_mul] at hl ha
  have p : (0 : ℝ) < (2 : ℝ) ^ (-μ) := Real.rpow_pos_of_pos two _
  have hd : Ideal.div 1 l = ((1 / ((2 : ℝ) ^ (-μ) * Z) : ℝ) : EReal) := by
    rw [hl, Ideal.div, if_neg (by exact_mod_cast (mul_pos p hZ).ne'), one_mul, ← EReal.coe_inv, one_div]
  rw [hd, ha, mul_comm ((((2 : ℝ) ^ (-μ) : ℝ) : EReal)) W, mul_assoc, ← EReal.coe_mul]
  congr 2
  field_simp

/-- THE SAME ROW IN ONE PIECE: the softmax of the scores in nats, weighed with the values. -/
theorem softmax_row {n : ℕ} (hn : 0 < n) (σ : Fin n → ℝ) (v : Fin n → EReal) (M : ℝ) :
    ∑ k, v k * Ideal.div (Ideal.exp ((σ k : EReal) * ((Real.log 2 : ℝ) : EReal) - (M : EReal)))
        (∑ j, Ideal.exp ((σ j : EReal) * ((Real.log 2 : ℝ) : EReal) - (M : EReal)))
      = (∑ k, v k * (((2 : ℝ) ^ σ k : ℝ) : EReal)) * ((1 / ∑ k, (2 : ℝ) ^ σ k : ℝ) : EReal) := by
  have two : (0 : ℝ) < 2 := by norm_num
  have ee : ∀ k, Ideal.exp ((σ k : EReal) * ((Real.log 2 : ℝ) : EReal) - (M : EReal))
      = ((Real.exp (-M) * (2 : ℝ) ^ σ k : ℝ) : EReal) := fun k => by
    rw [← EReal.coe_mul, ← EReal.coe_sub, Ideal.exp_coe, Real.rpow_def_of_pos two, ← Real.exp_add]
    congr 2; ring
  have hne : (Finset.univ : Finset (Fin n)).Nonempty := ⟨⟨0, hn⟩, Finset.mem_univ _⟩
  have hZ : 0 < ∑ k, (2 : ℝ) ^ σ k := Finset.sum_pos (fun k _ => Real.rpow_pos_of_pos two _) hne
  have hE : 0 < Real.exp (-M) := Real.exp_pos _
  simp only [ee]
  rw [← coe_sum, ← Finset.mul_sum, mul_comm (∑ k, v k * _), coe_mul_sum _ _ (one_div_pos.2 hZ).le]
  refine Finset.sum_congr rfl fun k _ => ?_
  rw [Ideal.div, if_neg (by exact_mod_cast (mul_pos hE hZ).ne'), ← EReal.coe_inv, ← EReal.coe_mul,
    mul_left_comm, ← EReal.coe_mul]
  congr 2
  field_simp

end Cert.Attn

end
-- ==== Proof.AttnBlock.lean ====
/- One grid point of the attention call, restated with one definition per step instead of one per head and block.

   The kernel's body runs four heads over four blocks of keys, each written out. Here a block of `n` keys is one group of
   definitions (`scores`, `newMax`, `powers`, `rescale`, `newSum`, `newAcc`), a head is four of them in a row (`head`),
   and `out_eq` says that what the body stores is the four heads, one above the other, transposed. -/
module

public import proofs.«01_k».proof.Proof.Gen.KernelIdeal.Frame

@[expose] public section

noncomputable section

namespace Cert.Attn

open Cert.KernelIdeal Cert.KernelIdeal.Gen Idealize.ShloMosaic

variable {F : FTy → Type} [FloatOps F]

/-- The shape facts a block of `n` keys takes. -/
structure BlockFacts (n : ℕ) : Prop where
  castK : (⟨3, ![1, n, 128]⟩ : Shape).ShapeCasts ⟨2, ![n, 128]⟩
  castV : (⟨3, ![1, 64, n]⟩ : Shape).ShapeCasts ⟨2, ![64, n]⟩
  red : (⟨2, ![n, 512]⟩ : Shape).Reduces [0] S512
  bc : S1x512.Broadcasts ⟨2, ![n, 512]⟩

theorem facts1152 : BlockFacts 1152 :=
  ⟨shapeCasts_S1x1152x128_S1152x128, shapeCasts_S1x64x1152_S64x1152, reduces_S1152x512_S512, broadcasts_S1x512_S1152x512⟩
theorem facts1024 : BlockFacts 1024 :=
  ⟨shapeCasts_S1x1024x128_S1024x128, shapeCasts_S1x64x1024_S64x1024, reduces_S1024x512_S512, broadcasts_S1x512_S1024x512⟩

section Block
variable {n : ℕ} (ev : BlockFacts n)

/-- The scores of `n` keys against the 512 queries, for the head whose columns start at `o`. -/
def scores (o : ℕ) (ho : S512x512.Slices ![0, o] S512x128) (q : FVec F S512x512 .bf16) (k : FVec F ⟨3, ![1, n, 128]⟩ .bf16) :
    FVec F ⟨2, ![n, 512]⟩ .f32 :=
  matmul (DotDims.transposedRhs n 128 512) none (shapeCast _ k ev.castK) (extractStridedSlice S512x128 ![0, o] q ho)
    (constant _ .f32 0x00000000#32)

/-- The running maximum after the block. -/
def newMax (m : FVec F S1x512 .f32) (S : FVec F ⟨2, ![n, 512]⟩ .f32) : FVec F S1x512 .f32 :=
  maximumf m (shapeCast S1x512 (multiReduction .maximumf [0] S512 S 0xFF800000#32 ev.red (.inl rfl) rfl) shapeCasts_S512_S1x512)

/-- The powers of two of the block's scores, less the new maximum. -/
def powers (m' : FVec F S1x512 .f32) (S : FVec F ⟨2, ![n, 512]⟩ .f32) : FVec F ⟨2, ![n, 512]⟩ .f32 :=
  exp2 (subf S (broadcastTo _ m' ev.bc))

/-- What the sums so far are multiplied with. -/
def rescale (m m' : FVec F S1x512 .f32) : FVec F S1x512 .f32 := exp2 (subf m m')

/-- The running sum after the block. -/
def newSum (m m' l : FVec F S1x512 .f32) (S : FVec F ⟨2, ![n, 512]⟩ .f32) : FVec F S1x512 .f32 :=
  addf (mulf (rescale m m') l)
    (shapeCast S1x512 (multiReduction .add [0] S512 (powers ev m' S) 0x00000000#32 ev.red (.inl rfl) rfl) shapeCasts_S512_S1x512)

/-- The running weighted sum of values after the block. -/
def newAcc (m m' : FVec F S1x512 .f32) (a : FVec F S64x512 .f32) (S : FVec F ⟨2, ![n, 512]⟩ .f32)
    (v : FVec F ⟨3, ![1, 64, n]⟩ .bf16) : FVec F S64x512 .f32 :=
  addf (mulf (broadcastTo S64x512 (rescale m m') broadcasts_S1x512_S64x512) a)
    (matmul (DotDims.plain 64 n 512) none (shapeCast _ v ev.castV) (truncf .bf16 (powers ev m' S) bitsLt_bf16_f32)
      (constant _ .f32 0x00000000#32))

end Block

/-- The state before the first block. -/
def max0 : FVec F S1x512 .f32 := broadcast S1x512 (Scalar.ofBits .f32 0xFF800000#32)
def sum0 : FVec F S1x512 .f32 := broadcast S1x512 (Scalar.ofBits .f32 0x00000000#32)
def acc0 : FVec F S64x512 .f32 := broadcast S64x512 (Scalar.ofBits .f32 0x00000000#32)

/-- The last division. -/
def finish (l : FVec F S1x512 .f32) (a : FVec F S64x512 .f32) : FVec F S64x512 .f32 :=
  mulf a (broadcastTo S64x512 (divf (broadcast S1x512 (Scalar.ofBits .f32 0x3F800000#32)) l) broadcasts_S1x512_S64x512)

section Head
variable (S1 S2 : FVec F S1152x512 .f32) (S3 S4 : FVec F S1024x512 .f32)

def max1 : FVec F S1x512 .f32 := newMax facts1152 max0 S1
def max2 : FVec F S1x512 .f32 := newMax facts1152 (max1 S1) S2
def max3 : FVec F S1x512 .f32 := newMax facts1024 (max2 S1 S2) S3
def max4 : FVec F S1x512 .f32 := newMax facts1024 (max3 S1 S2 S3) S4

def sum1 : FVec F S1x512 .f32 := newSum facts1152 max0 (max1 S1) sum0 S1
def sum2 : FVec F S1x512 .f32 := newSum facts1152 (max1 S1) (max2 S1 S2) (sum1 S1) S2
def sum3 : FVec F S1x512 .f32 := newSum facts1024 (max2 S1 S2) (max3 S1 S2 S3) (sum2 S1 S2) S3
def sum4 : FVec F S1x512 .f32 := newSum facts1024 (max3 S1 S2 S3) (max4 S1 S2 S3 S4) (sum3 S1 S2 S3) S4

variable (v1 v2 : FVec F S1x64x1152 .bf16) (v3 v4 : FVec F S1x64x1024 .bf16)

def acc1 : FVec F S64x512 .f32 := newAcc facts1152 max0 (max1 S1) acc0 S1 v1
def acc2 : FVec F S64x512 .f32 := newAcc facts1152 (max1 S1) (max2 S1 S2) (acc1 S1 v1) S2 v2
def acc3 : FVec F S64x512 .f32 := newAcc facts1024 (max2 S1 S2) (max3 S1 S2 S3) (acc2 S1 S2 v1 v2) S3 v3
def acc4 : FVec F S64x512 .f32 := newAcc facts1024 (max3 S1 S2 S3) (max4 S1 S2 S3 S4) (acc3 S1 S2 S3 v1 v2 v3) S4 v4

/-- One head's averages, values down and queries across, from its scores and values in four blocks. -/
def headOf : FVec F S64x512 .f32 := finish (sum4 S1 S2 S3 S4) (acc4 S1 S2 S3 S4 v1 v2 v3 v4)

end Head

/-- The blocks' rectangles in the keys' and the values' windows, for the head at column `128 h` and row `64 h`. -/
theorem inbK {n : ℕ} (s o : ℕ) (hs : s + n ≤ 4352) (ho : o + 128 ≤ 512) :
    ∀ a, (![0, s, o] : Fin 3 → ℕ) a + (⟨3, ![1, n, 128]⟩ : Shape).size a ≤ S1x4352x512.size a
  | ⟨0, _⟩ => le_refl 1
  | ⟨1, _⟩ => hs
  | ⟨2, _⟩ => ho
theorem inbV {n : ℕ} (s o : ℕ) (hs : s + n ≤ 4352) (ho : o + 64 ≤ 256) :
    ∀ a, (![0, o, s] : Fin 3 → ℕ) a + (⟨3, ![1, 64, n]⟩ : Shape).size a ≤ S1x256x4352.size a
  | ⟨0, _⟩ => le_refl 1
  | ⟨1, _⟩ => ho
  | ⟨2, _⟩ => hs

/-- The keys `s … s + n` of head `h`, and their values. -/
def keys (n s h : ℕ) (hs : s + n ≤ 4352) (hh : h < 4) (x1 : FVec F S1x4352x512 .bf16) : FVec F ⟨3, ![1, n, 128]⟩ .bf16 :=
  View.ld (Val := Elt F) (e' := .bf16) x1 (Rect.unit (s := S1x4352x512) ![0, s, 128 * h] (⟨3, ![1, n, 128]⟩ : Shape).size (inbK s _ hs (by omega)))
def values (n s h : ℕ) (hs : s + n ≤ 4352) (hh : h < 4) (x2 : FVec F S1x256x4352 .bf16) : FVec F ⟨3, ![1, 64, n]⟩ .bf16 :=
  View.ld (Val := Elt F) (e' := .bf16) x2 (Rect.unit (s := S1x256x4352) ![0, 64 * h, s] (⟨3, ![1, 64, n]⟩ : Shape).size (inbV s _ hs (by omega)))

theorem slicesQ (h : ℕ) (hh : h < 4) : S512x512.Slices ![0, 128 * h] S512x128 :=
  (by decide : ∀ h : Fin 4, S512x512.Slices ![0, 128 * h.val] S512x128) ⟨h, hh⟩

/-- Head `h` of a grid point: from the block of queries and the whole of the keys and values of its batch. -/
def head (h : ℕ) (hh : h < 4) (q : FVec F S512x512 .bf16) (x1 : FVec F S1x4352x512 .bf16) (x2 : FVec F S1x256x4352 .bf16) :
    FVec F S64x512 .f32 :=
  headOf (scores facts1152 (128 * h) (slicesQ h hh) q (keys 1152 0 h (by omega) hh x1))
    (scores facts1152 (128 * h) (slicesQ h hh) q (keys 1152 1152 h (by omega) hh x1))
    (scores facts1024 (128 * h) (slicesQ h hh) q (keys 1024 2304 h (by omega) hh x1))
    (scores facts1024 (128 * h) (slicesQ h hh) q (keys 1024 3328 h (by omega) hh x1))
    (values 1152 0 h (by omega) hh x2) (values 1152 1152 h (by omega) hh x2)
    (values 1024 2304 h (by omega) hh x2) (values 1024 3328 h (by omega) hh x2)

/-- The four heads one above the other, transposed and rounded. -/
def lay (o : Fin 4 → FVec F S64x512 .f32) : FVec F S1x512x256 .bf16 :=
  shapeCast S1x512x256 (truncf .bf16 (transpose S512x256 [1, 0]
    (concatenate S256x512 0 [⟨S64x512, o 0⟩, ⟨S64x512, o 1⟩, ⟨S64x512, o 2⟩, ⟨S64x512, o 3⟩]
      concatenates_S64x512_S64x512_S64x512_S64x512_S256x512_d0) transposes_S256x512_p1_0_S512x256) bitsLt_bf16_f32)
    shapeCasts_S512x256_S1x512x256

set_option maxRecDepth 16384 in
set_option maxHeartbeats 4000000 in
/-- WHAT A GRID POINT STORES: the four heads of its queries. -/
theorem out_eq (x0 : Vec F S1x512x512 .bf16) (x1 : Vec F S1x4352x512 .bf16) (x2 : Vec F S1x256x4352 .bf16) :
    out0_3 x0 x1 x2 = View.canon [⟨r0_33, lay fun h : Fin 4 =>
      head h.val h.isLt (k0_pay2 (View.ld x0 r0_0)) x1 x2⟩] := rfl

end Cert.Attn

end
-- ==== Proof.AttnValue.lean ====
/- What one head of one grid point holds, entry by entry, on extended reals: with real scores, the softmax average. -/
module

public import proofs.«01_k».proof.Proof.OnlineSoftmax
public import proofs.«01_k».proof.Proof.AttnBlock
public import Idealize.ShloMosaic.Lib.MatmulPlain
public import Idealize.ShloMosaic.Lib.IdealHost
public import Idealize.ShloMosaic.Lib.ValueIdx
public import Idealize.ShloMosaic.Lib.Pipeline.Value

@[expose] public section

noncomputable section

namespace Cert.Attn

open Cert.KernelIdeal Cert.KernelIdeal.Gen Idealize.ShloMosaic Idealize.ShloMosaic.ValueIdx
open scoped BigOperators

/-- The word of minus infinity. -/
theorem ofBits_bot : Ideal.ofBits .f32 0xFF800000#32 = ⊥ := by simp [Ideal.ofBits, Ideal.ieee]

/-! ## The layout steps, read at an index -/

theorem row_cast (x : FVec Ideal S512 .f32) (r : Fin 512) :
    shapeCast S1x512 x shapeCasts_S512_S1x512 (ix2 (0 : Fin 1) r) = x (ix1 r) :=
  shapeCast_apply x _ _ _ (by
    rw [Shape.rowMajor_val_one, Shape.rowMajor_val_two]
    show r.val = (0 : ℕ) * 512 + r.val
    omega)

theorem row_down {n : ℕ} (x : FVec Ideal S1x512 .f32) (h : S1x512.Broadcasts ⟨2, ![n, 512]⟩) (i : Fin n) (r : Fin 512) :
    broadcastTo (⟨2, ![n, 512]⟩ : Shape) x h (ix2 i r) = x (ix2 (0 : Fin 1) r) :=
  broadcastTo_apply x h _ _ fun a => match a with
    | ⟨0, _⟩ => rfl
    | ⟨1, _⟩ => rfl

section Block
variable {n : ℕ} (ev : BlockFacts n)

theorem lift_eq (r : Fin 512) (i : Fin n) : ev.red.lift (ix1 r) i = ix2 i r := by
  funext a
  apply Fin.ext
  match a with
  | ⟨0, _⟩ => rfl
  | ⟨1, _⟩ => rfl

theorem scores_apply (o : ℕ) (ho : S512x512.Slices ![0, o] S512x128) (hb : o + 128 ≤ 512) (q : FVec Ideal S512x512 .bf16)
    (k : FVec Ideal ⟨3, ![1, n, 128]⟩ .bf16) (i : Fin n) (r : Fin 512) :
    scores ev o ho q k (ix2 i r)
      = ∑ d : Fin 128, k (ix3 (0 : Fin 1) i d) * q (ix2 r (⟨o + d.val, by omega⟩ : Fin 512)) := by
  unfold scores
  refine (Ideal.matmul_transposedRhs_apply none _ _ _ i r).trans ?_
  rw [show (constant (⟨2, ![n, 512]⟩ : Shape) .f32 0x00000000#32 : FVec Ideal _ .f32) (ix2 i r) = 0 from Ideal.ofBits_zero_f32,
    zero_add]
  refine Finset.sum_congr rfl fun d _ => ?_
  congr 1
  · exact shapeCast_apply k _ _ _ (by
      rw [Shape.rowMajor_val_two, Shape.rowMajor_val_three]
      show ((0 : ℕ) * n + i.val) * 128 + d.val = i.val * 128 + d.val
      omega)
  · exact extractStridedSlice_apply _ q ho _ _ fun a => match a with
      | ⟨0, _⟩ => (Nat.zero_add r.val).symm
      | ⟨1, _⟩ => rfl

theorem newMax_apply (m : FVec Ideal S1x512 .f32) (S : FVec Ideal ⟨2, ![n, 512]⟩ .f32) (r : Fin 512) :
    newMax ev m S (ix2 (0 : Fin 1) r) = max (m (ix2 (0 : Fin 1) r)) (Finset.univ.fold max ⊥ fun i : Fin n => S (ix2 i r)) := by
  unfold newMax
  rw [maximumf_apply, row_cast]
  refine congrArg (max _) ((Ideal.multiReduction_maximumf_single S 0xFF800000#32 ev.red (.inl rfl) rfl (ix1 r)).trans ?_)
  rw [show (FloatOps.ofBits .f32 0xFF800000#32 : Ideal .f32) = ⊥ from ofBits_bot]
  exact congrArg (fun f => Finset.fold max (⊥ : EReal) f Finset.univ) (funext fun i => congrArg S (lift_eq ev r i))

theorem powers_apply (m' : FVec Ideal S1x512 .f32) (S : FVec Ideal ⟨2, ![n, 512]⟩ .f32) (i : Fin n) (r : Fin 512) :
    powers ev m' S (ix2 i r) = Ideal.exp2 (S (ix2 i r) - m' (ix2 (0 : Fin 1) r)) := by
  unfold powers
  show Ideal.exp2 (S (ix2 i r) - broadcastTo _ m' ev.bc (ix2 i r)) = _
  rw [row_down]

theorem newSum_apply (m m' l : FVec Ideal S1x512 .f32) (S : FVec Ideal ⟨2, ![n, 512]⟩ .f32) (r : Fin 512) :
    newSum ev m m' l S (ix2 (0 : Fin 1) r)
      = Ideal.exp2 (m (ix2 (0 : Fin 1) r) - m' (ix2 (0 : Fin 1) r)) * l (ix2 (0 : Fin 1) r)
        + ∑ i : Fin n, Ideal.exp2 (S (ix2 i r) - m' (ix2 (0 : Fin 1) r)) := by
  unfold newSum
  rw [addf_apply, mulf_apply, row_cast]
  refine congrArg₂ (· + ·) rfl ((Ideal.multiReduction_add_single _ _ ev.red (.inl rfl) rfl (ix1 r)).trans ?_)
  exact Finset.sum_congr rfl fun i _ => (congrArg _ (lift_eq ev r i)).trans (powers_apply ev m' S i r)

theorem newAcc_apply (m m' : FVec Ideal S1x512 .f32) (a : FVec Ideal S64x512 .f32) (S : FVec Ideal ⟨2, ![n, 512]⟩ .f32)
    (v : FVec Ideal ⟨3, ![1, 64, n]⟩ .bf16) (e : Fin 64) (r : Fin 512) :
    newAcc ev m m' a S v (ix2 e r)
      = Ideal.exp2 (m (ix2 (0 : Fin 1) r) - m' (ix2 (0 : Fin 1) r)) * a (ix2 e r)
        + ∑ i : Fin n, v (ix3 (0 : Fin 1) e i) * Ideal.exp2 (S (ix2 i r) - m' (ix2 (0 : Fin 1) r)) := by
  unfold newAcc
  rw [addf_apply, mulf_apply]
  refine congrArg₂ (· + ·) (congrArg (· * _) (row_down (n := 64) _ _ e r)) ?_
  · refine (Ideal.matmul_plain_apply none _ _ _ e r).trans ?_
    rw [show (constant (⟨2, ![64, 512]⟩ : Shape) .f32 0x00000000#32 : FVec Ideal _ .f32) (ix2 e r) = 0 from Ideal.ofBits_zero_f32,
      zero_add]
    refine Finset.sum_congr rfl fun i _ => ?_
    congr 1
    · exact shapeCast_apply v _ _ _ (by
        rw [Shape.rowMajor_val_two, Shape.rowMajor_val_three]
        show ((0 : ℕ) * 64 + e.val) * n + i.val = e.val * n + i.val
        ring)
    · exact powers_apply ev m' S i r

/-- ONE BLOCK of a head: the running state of column `r` and value row `e` takes the block's keys in. -/
theorem block_step (hn : 0 < n) (m l : FVec Ideal S1x512 .f32) (a : FVec Ideal S64x512 .f32)
    (S : FVec Ideal ⟨2, ![n, 512]⟩ .f32) (v : FVec Ideal ⟨3, ![1, 64, n]⟩ .bf16) (e : Fin 64) (r : Fin 512)
    (σ : Fin n → ℝ) (hσ : ∀ i, S (ix2 i r) = (σ i : EReal)) {Z : ℝ} {W : EReal}
    (h : Running (m (ix2 (0 : Fin 1) r)) (l (ix2 (0 : Fin 1) r)) (a (ix2 e r)) Z W) :
    Running (newMax ev m S (ix2 (0 : Fin 1) r)) (newSum ev m (newMax ev m S) l S (ix2 (0 : Fin 1) r))
      (newAcc ev m (newMax ev m S) a S v (ix2 e r)) (Z + ∑ i, (2 : ℝ) ^ σ i)
      (W + ∑ i, v (ix3 (0 : Fin 1) e i) * (((2 : ℝ) ^ σ i : ℝ) : EReal))
    ∧ newMax ev m S (ix2 (0 : Fin 1) r) ≠ ⊥ := by
  rw [newSum_apply, newAcc_apply]
  simp only [hσ]
  exact h.step hn σ (fun i => v (ix3 (0 : Fin 1) e i)) _ (by rw [newMax_apply]; simp only [hσ])

end Block

/-- The last division, at an entry. -/
theorem finish_apply (l : FVec Ideal S1x512 .f32) (a : FVec Ideal S64x512 .f32) (e : Fin 64) (r : Fin 512) :
    finish l a (ix2 e r) = a (ix2 e r) * Ideal.div 1 (l (ix2 (0 : Fin 1) r)) := by
  unfold finish
  rw [mulf_apply]
  refine congrArg (a (ix2 e r) * ·) ((row_down (n := 64) _ _ e r).trans ?_)
  rw [divf_apply]
  exact congrArg (Ideal.div · _) Ideal.ofBits_one_f32

/-- The state before the first block stands for two empty sums. -/
theorem start (e : Fin 64) (r : Fin 512) :
    Running ((max0 : FVec Ideal S1x512 .f32) (ix2 (0 : Fin 1) r)) ((sum0 : FVec Ideal S1x512 .f32) (ix2 (0 : Fin 1) r))
      ((acc0 : FVec Ideal S64x512 .f32) (ix2 e r)) 0 0 := by
  rw [show (max0 : FVec Ideal S1x512 .f32) (ix2 (0 : Fin 1) r) = ⊥ from ofBits_bot,
    show (sum0 : FVec Ideal S1x512 .f32) (ix2 (0 : Fin 1) r) = 0 from Ideal.ofBits_zero_f32,
    show (acc0 : FVec Ideal S64x512 .f32) (ix2 e r) = 0 from Ideal.ofBits_zero_f32]
  exact Running.start

/-- A sum over the 4352 keys, block by block. -/
theorem sum_blocks {M : Type*} [AddCommMonoid M] (f : Fin 4352 → M) :
    ∑ k, f k = 0 + ∑ i : Fin 1152, f ⟨0 + i.val, by omega⟩ + ∑ i : Fin 1152, f ⟨1152 + i.val, by omega⟩
      + ∑ i : Fin 1024, f ⟨2304 + i.val, by omega⟩ + ∑ i : Fin 1024, f ⟨3328 + i.val, by omega⟩ := by
  have h1 := Fin.sum_univ_add (a := 1152 + 1152 + 1024) (b := 1024) f
  have h2 := Fin.sum_univ_add (a := 1152 + 1152) (b := 1024) fun i => f (Fin.castAdd 1024 i)
  have h3 := Fin.sum_univ_add (a := 1152) (b := 1152) fun i => f (Fin.castAdd 1024 (Fin.castAdd 1024 i))
  rw [h1, h2, h3, zero_add]
  congr 4
  funext i
  exact congrArg f (Fin.ext (Nat.zero_add _).symm)

/-- A head of four blocks of real scores: the weighted sum over the sum. -/
theorem headOf_apply (S1 S2 : FVec Ideal S1152x512 .f32) (S3 S4 : FVec Ideal S1024x512 .f32) (v1 v2 : FVec Ideal S1x64x1152 .bf16)
    (v3 v4 : FVec Ideal S1x64x1024 .bf16) (e : Fin 64) (r : Fin 512) (σ : Fin 4352 → ℝ) (v : Fin 4352 → EReal)
    (h1 : ∀ i : Fin 1152, S1 (ix2 i r) = (σ ⟨0 + i.val, by omega⟩ : EReal))
    (h2 : ∀ i : Fin 1152, S2 (ix2 i r) = (σ ⟨1152 + i.val, by omega⟩ : EReal))
    (h3 : ∀ i : Fin 1024, S3 (ix2 i r) = (σ ⟨2304 + i.val, by omega⟩ : EReal))
    (h4 : ∀ i : Fin 1024, S4 (ix2 i r) = (σ ⟨3328 + i.val, by omega⟩ : EReal))
    (w1 : ∀ i : Fin 1152, v1 (ix3 (0 : Fin 1) e i) = v ⟨0 + i.val, by omega⟩)
    (w2 : ∀ i : Fin 1152, v2 (ix3 (0 : Fin 1) e i) = v ⟨1152 + i.val, by omega⟩)
    (w3 : ∀ i : Fin 1024, v3 (ix3 (0 : Fin 1) e i) = v ⟨2304 + i.val, by omega⟩)
    (w4 : ∀ i : Fin 1024, v4 (ix3 (0 : Fin 1) e i) = v ⟨3328 + i.val, by omega⟩) :
    headOf S1 S2 S3 S4 v1 v2 v3 v4 (ix2 e r)
      = (∑ k, v k * (((2 : ℝ) ^ σ k : ℝ) : EReal)) * ((1 / ∑ k, (2 : ℝ) ^ σ k : ℝ) : EReal) := by
  have r1 := (block_step facts1152 (by norm_num) _ _ _ S1 v1 e r _ h1 (start e r)).1
  have r2 := (block_step facts1152 (by norm_num) _ _ _ S2 v2 e r _ h2 r1).1
  have r3 := (block_step facts1024 (by norm_num) _ _ _ S3 v3 e r _ h3 r2).1
  have r4 := block_step facts1024 (by norm_num) _ _ _ S4 v4 e r _ h4 r3
  simp only [w1, w2, w3, w4] at r4
  rw [← sum_blocks (fun k => (2 : ℝ) ^ σ k), ← sum_blocks (fun k => v k * (((2 : ℝ) ^ σ k : ℝ) : EReal))] at r4
  have hZ : 0 < ∑ k, (2 : ℝ) ^ σ k :=
    Finset.sum_pos (fun k _ => Real.rpow_pos_of_pos (by norm_num) _) ⟨⟨0, by norm_num⟩, Finset.mem_univ _⟩
  unfold headOf
  rw [finish_apply]
  exact r4.1.result r4.2 hZ

theorem keys_apply (n s h : ℕ) (hs : s + n ≤ 4352) (hh : h < 4) (x1 : FVec Ideal S1x4352x512 .bf16) (i : Fin n) (d : Fin 128) :
    keys n s h hs hh x1 (ix3 (0 : Fin 1) i d)
      = x1 (ix3 (0 : Fin 1) (⟨s + i.val, by omega⟩ : Fin 4352) (⟨128 * h + d.val, by omega⟩ : Fin 512)) := by
  unfold keys View.ld
  refine congrArg x1 (funext fun a => Fin.ext ?_)
  match a with
  | ⟨0, _⟩ => rfl
  | ⟨1, _⟩ => show s + 1 * i.val = s + i.val; omega
  | ⟨2, _⟩ => show 128 * h + 1 * d.val = 128 * h + d.val; omega

theorem values_apply (n s h : ℕ) (hs : s + n ≤ 4352) (hh : h < 4) (x2 : FVec Ideal S1x256x4352 .bf16) (e : Fin 64) (i : Fin n) :
    values n s h hs hh x2 (ix3 (0 : Fin 1) e i)
      = x2 (ix3 (0 : Fin 1) (⟨64 * h + e.val, by omega⟩ : Fin 256) (⟨s + i.val, by omega⟩ : Fin 4352)) := by
  unfold values View.ld
  refine congrArg x2 (funext fun a => Fin.ext ?_)
  match a with
  | ⟨0, _⟩ => rfl
  | ⟨1, _⟩ => show 64 * h + 1 * e.val = 64 * h + e.val; omega
  | ⟨2, _⟩ => show s + 1 * i.val = s + i.val; omega

/-- HEAD `h` OF A GRID POINT at value row `e` and query `r`: the softmax average of the values, when the query's scores
    against the keys are the reals `σ`. -/
theorem head_apply (h : ℕ) (hh : h < 4) (q : FVec Ideal S512x512 .bf16) (x1 : FVec Ideal S1x4352x512 .bf16)
    (x2 : FVec Ideal S1x256x4352 .bf16) (e : Fin 64) (r : Fin 512) (σ : Fin 4352 → ℝ)
    (hσ : ∀ k, ∑ d : Fin 128, x1 (ix3 (0 : Fin 1) k (⟨128 * h + d.val, by omega⟩ : Fin 512))
      * q (ix2 r (⟨128 * h + d.val, by omega⟩ : Fin 512)) = (σ k : EReal)) :
    head h hh q x1 x2 (ix2 e r)
      = (∑ k, x2 (ix3 (0 : Fin 1) (⟨64 * h + e.val, by omega⟩ : Fin 256) k) * (((2 : ℝ) ^ σ k : ℝ) : EReal))
        * ((1 / ∑ k, (2 : ℝ) ^ σ k : ℝ) : EReal) := by
  have hb : 128 * h + 128 ≤ 512 := by omega
  have hs : ∀ {n : ℕ} (ev : BlockFacts n) (s : ℕ) (hs : s + n ≤ 4352) (i : Fin n),
      scores ev (128 * h) (slicesQ h hh) q (keys n s h hs hh x1) (ix2 i r) = (σ ⟨s + i.val, by omega⟩ : EReal) := by
    intro n ev s hs i
    rw [scores_apply ev _ _ hb, ← hσ]
    exact Finset.sum_congr rfl fun d _ => by rw [keys_apply]
  unfold head
  exact headOf_apply _ _ _ _ _ _ _ _ e r σ (fun k => x2 (ix3 (0 : Fin 1) (⟨64 * h + e.val, by omega⟩ : Fin 256) k))
    (hs _ _ _) (hs _ _ _) (hs _ _ _) (hs _ _ _)
    (fun i => values_apply _ _ _ _ _ x2 e i) (fun i => values_apply _ _ _ _ _ x2 e i)
    (fun i => values_apply _ _ _ _ _ x2 e i) (fun i => values_apply _ _ _ _ _ x2 e i)

/-- The four heads laid side by side: column `c` of query `r` is row `c % 64` of head `c / 64`. -/
theorem lay_apply (o : Fin 4 → FVec Ideal S64x512 .f32) (r : Fin 512) (c : Fin 256) :
    lay o (ix3 (0 : Fin 1) r c) = o ⟨c.val / 64, by omega⟩ (ix2 (⟨c.val % 64, by omega⟩ : Fin 64) r) := by
  unfold lay
  refine (shapeCast_apply _ _ _ (ix2 r c) (by
    rw [Shape.rowMajor_val_two, Shape.rowMajor_val_three]
    show r.val * 256 + c.val = ((0 : ℕ) * 512 + r.val) * 256 + c.val
    omega)).trans ?_
  rw [truncf_apply]
  refine (transpose_apply [1, 0] _ _ (ix2 r c) (ix2 c r) fun b => match b with
    | ⟨0, _⟩ => rfl
    | ⟨1, _⟩ => rfl).trans ?_
  exact concatenate_ofFn_apply (s₁ := S64x512) 0 o concatenates_S64x512_S64x512_S64x512_S64x512_S256x512_d0 rfl 64 rfl (ix2 c r)
    ⟨c.val / 64, by omega⟩ rfl (ix2 (⟨c.val % 64, by omega⟩ : Fin 64) r) rfl fun b hb => match b with
      | ⟨0, _⟩ => absurd rfl hb
      | ⟨1, _⟩ => rfl

end Cert.Attn

end
-- ==== Proof.AttnArray.lean ====
/- What the attention call's result array holds after the run, entry by entry: the softmax average, wherever the scores
   are real. -/
module

public import proofs.«01_k».proof.Proof.AttnValue
public import proofs.«01_k».proof.Proof.Gen.KernelIdeal.Value
public import Idealize.ShloMosaic.Lib.Pipeline.ValueKit

@[expose] public section

noncomputable section

namespace Cert.Attn

open Cert.KernelIdeal Cert.KernelIdeal.Gen Idealize.ShloMosaic.ValueIdx Idealize.ShloMosaic.TcCoe Idealize.SL.Sem
open Idealize.ShloMosaic hiding ix0 ix1 ix2 ix3 ix4 ix5 eq_ix3
open Idealize.ShloMosaic.Pipeline (Dat)
open scoped BigOperators

/-- The head that column `c` of the result belongs to. -/
def headAt (c : Fin 256) : Fin 4 := ⟨c.val / 64, by omega⟩

/-- The score of query `q` of batch `b` against key `k`, in head `h`, in powers of two. -/
def score (Q : FVec Ideal S4x4096x512 .bf16) (K : FVec Ideal S4x4352x512 .bf16) (b : Fin 4) (h : Fin 4) (q : Fin 4096) (k : Fin 4352) :
    EReal :=
  ∑ d : Fin 128, K (ix3 b k (⟨128 * h.val + d.val, by omega⟩ : Fin 512)) * Q (ix3 b q (⟨128 * h.val + d.val, by omega⟩ : Fin 512))

/-- The softmax average of a row of values under real scores. -/
def average (σ : Fin 4352 → ℝ) (v : Fin 4352 → EReal) : EReal :=
  (∑ k, v k * (((2 : ℝ) ^ σ k : ℝ) : EReal)) * ((1 / ∑ k, (2 : ℝ) ^ σ k : ℝ) : EReal)

theorem index_q : ∀ t : Fin cfg0.N, win0_0.index t = ![(grid0.coords t 0).val, (grid0.coords t 1).val, 0] :=
  (by decide +kernel : ∀ t : Fin grid0.N, _)
theorem index_k : ∀ t : Fin cfg0.N, win0_1.index t = ![(grid0.coords t 0).val, 0, 0] :=
  (by decide +kernel : ∀ t : Fin grid0.N, _)
theorem index_v : ∀ t : Fin cfg0.N, win0_2.index t = ![(grid0.coords t 0).val, 0, 0] :=
  (by decide +kernel : ∀ t : Fin grid0.N, _)
theorem index_o : ∀ t : Fin cfg0.N, win0_3.index t = ![(grid0.coords t 0).val, (grid0.coords t 1).val, 0] :=
  (by decide +kernel : ∀ t : Fin grid0.N, _)

/-- The block of queries, at row `r` and column `a`. -/
theorem queries_apply (x0 : Vec Ideal S1x512x512 .bf16) (r a : Fin 512) :
    k0_pay2 (View.ld x0 r0_0) (ix2 r a) = x0 (ix3 (0 : Fin 1) r a) := by
  unfold k0_pay2
  refine (shapeCast_apply _ _ _ (ix3 (0 : Fin 1) r a) (by
    rw [Shape.rowMajor_val_two, Shape.rowMajor_val_three]
    show ((0 : ℕ) * 512 + r.val) * 512 + a.val = r.val * 512 + a.val
    omega)).trans ?_
  unfold View.ld
  refine congrArg x0 (funext fun d => Fin.ext ?_)
  match d with
  | ⟨0, _⟩ => rfl
  | ⟨1, _⟩ => show 0 + 1 * r.val = r.val; omega
  | ⟨2, _⟩ => show 0 + 1 * a.val = a.val; omega

theorem offsets_zero : (![0, 0, 0] : Fin 3 → Nat) = fun _ => 0 := funext fun a => by fin_cases a <;> rfl

/-- WHAT A GRID POINT STORES, at query `r` and column `c`. -/
theorem out_apply (x0 : Vec Ideal S1x512x512 .bf16) (x1 : Vec Ideal S1x4352x512 .bf16) (x2 : Vec Ideal S1x256x4352 .bf16)
    (r : Fin 512) (c : Fin 256) (σ : Fin 4352 → ℝ)
    (hσ : ∀ k, ∑ d : Fin 128, x1 (ix3 (0 : Fin 1) k (⟨128 * (headAt c).val + d.val, by omega⟩ : Fin 512))
      * x0 (ix3 (0 : Fin 1) r (⟨128 * (headAt c).val + d.val, by omega⟩ : Fin 512)) = (σ k : EReal)) :
    out0_3 x0 x1 x2 (ix3 (0 : Fin 1) r c) = average σ fun k => x2 (ix3 (0 : Fin 1) c k) := by
  rw [out_eq]
  refine (congrFun (View.canon_unit_zero (Val := Elt Ideal) offsets_zero inb_S1x512x256_S1x512x256_0_0_0 _) _).trans ?_
  refine (lay_apply _ r c).trans ?_
  refine (head_apply (headAt c).val (headAt c).isLt _ x1 x2 (⟨c.val % 64, by omega⟩ : Fin 64) r σ fun k => ?_).trans ?_
  · rw [← hσ]
    exact Finset.sum_congr rfl fun d _ => by rw [queries_apply]
  · have hc : (⟨64 * (headAt c).val + c.val % 64, by have := (headAt c).isLt; omega⟩ : Fin 256) = c := Fin.ext (by
      show 64 * (c.val / 64) + c.val % 64 = c.val
      omega)
    simp only [hc]
    rfl

/-- A grid point's batch and its query tile. -/
def batchOf (t : Fin cfg0.N) : Fin 4 := grid0.coords t 0
def tileOf (t : Fin cfg0.N) : Fin 8 := grid0.coords t 1

/-- Row `r` of tile `i`, in the whole array. -/
def rowOf (i : Fin 8) (r : Fin 512) : Fin 4096 := ⟨i.val * 512 + r.val, by omega⟩

theorem place_q (t : Fin cfg0.N) (r a : Fin 512) :
    (win0_0.blk t).view.emb (ix3 (0 : Fin 1) r a) = (ix3 (batchOf t) (rowOf (tileOf t) r) a : S4x4096x512.Idx) :=
  funext fun d => Fin.ext (match d with
    | ⟨0, _⟩ => by blk_simp [index_q]; rfl
    | ⟨1, _⟩ => by blk_simp [index_q]; rfl
    | ⟨2, _⟩ => by blk_simp [index_q])

theorem place_k (t : Fin cfg0.N) (r : Fin 4352) (a : Fin 512) :
    (win0_1.blk t).view.emb (ix3 (0 : Fin 1) r a) = (ix3 (batchOf t) r a : S4x4352x512.Idx) :=
  funext fun d => Fin.ext (match d with
    | ⟨0, _⟩ => by blk_simp [index_k]; rfl
    | ⟨1, _⟩ => by blk_simp [index_k]
    | ⟨2, _⟩ => by blk_simp [index_k])

theorem place_v (t : Fin cfg0.N) (r : Fin 256) (a : Fin 4352) :
    (win0_2.blk t).view.emb (ix3 (0 : Fin 1) r a) = (ix3 (batchOf t) r a : S4x256x4352.Idx) :=
  funext fun d => Fin.ext (match d with
    | ⟨0, _⟩ => by blk_simp [index_v]; rfl
    | ⟨1, _⟩ => by blk_simp [index_v]
    | ⟨2, _⟩ => by blk_simp [index_v])

theorem place_o (t : Fin cfg0.N) (r : Fin 512) (a : Fin 256) :
    (win0_3.blk t).view.emb (ix3 (0 : Fin 1) r a) = (ix3 (batchOf t) (rowOf (tileOf t) r) a : S4x4096x256.Idx) :=
  funext fun d => Fin.ext (match d with
    | ⟨0, _⟩ => by blk_simp [index_o]; rfl
    | ⟨1, _⟩ => by blk_simp [index_o]; rfl
    | ⟨2, _⟩ => by blk_simp [index_o])

variable (m : (ℓ : Loc nD τ sig) → Buf (Elt Ideal) ℓ)

/-- THE RESULT ARRAY of the attention call. -/
theorem array_apply (c : Dev nD) (i : S4x4096x256.Idx) (σ : Fin 4352 → ℝ)
    (hσ : ∀ k, score (m ((c.tc : Thread nD τ).loc main_arg0)) (m ((c.tc : Thread nD τ).loc main_arg1)) (i 0) (headAt (i 2)) (i 1) k
      = (σ k : EReal)) :
    (dats m 0 c).arrAt 3 cfg0.N i = average σ fun k => m ((c.tc : Thread nD τ).loc main_arg2) (ix3 (i 0) (i 2) k) := by
  revert σ
  refine (dats m 0 c).arrAt_forall_of_covers 3 (fun i v => ∀ σ : Fin 4352 → ℝ, (∀ k, score (m ((c.tc : Thread nD τ).loc main_arg0))
    (m ((c.tc : Thread nD τ).loc main_arg1)) (i 0) (headAt (i 2)) (i 1) k = (σ k : EReal)) →
    v = average σ fun k => m ((c.tc : Thread nD τ).loc main_arg2) (ix3 (i 0) (i 2) k)) (by decide +kernel) (fun t hf y σ hσ => ?_) i
  blk_simp
  rw [after0_3]
  obtain ⟨r, c', rfl⟩ : ∃ (r : Fin 512) (c' : Fin 256), y = ix3 (0 : Fin 1) r c' :=
    ⟨y 1, y 2, (eq_ix3 y).trans (congrArg (fun z : Fin 1 => ix3 z (y 1) (y 2)) (Subsingleton.elim _ _))⟩
  have ho := place_o t r c'
  have e : ∀ x, ((cfg0.win 3).blk t).view.emb (ix3 (0 : Fin 1) r c') = x → _ := fun x h => h ▸ hσ
  have hσ' := e _ ho
  refine (out_apply _ _ _ r c' σ fun k => ?_).trans ?_
  · rw [← hσ' k]
    unfold score
    refine Finset.sum_congr rfl fun d _ => ?_
    blk_simp [iblk]
    rw [place_q, place_k]
    rfl
  · refine congrArg (average σ) (funext fun k => ?_)
    blk_simp [iblk]
    rw [place_v, ho]
    rfl

end Cert.Attn

end
-- ==== Proof.AttnRef.lean ====
/- The reference's latent attention, entry by entry: the same softmax average, wherever the scores are real. -/
module

public import proofs.«01_k».proof.Proof.AttnArray
public import proofs.«01_k».proof.Proof.Gen.ReferenceIdeal.Read

@[expose] public section

noncomputable section

namespace Cert.Attn

open Cert.ReferenceIdeal Cert.ReferenceIdeal.Gen Cert.ReferenceIdeal.Read
open Idealize.ShloMosaic.ValueIdx Idealize.ShloMosaic.TcCoe Idealize.SL.Sem
open Idealize.ShloMosaic hiding ix0 ix1 ix2 ix3 ix4 ix5 eq_ix3
open scoped BigOperators

variable (Q : FVec Ideal S4x4096x512 .bf16) (K : FVec Ideal S4x4352x512 .bf16) (V : FVec Ideal S4x256x4352 .bf16)

theorem ofBits_two : Ideal.ofBits .f32 0x40000000#32 = ((2 : ℝ) : EReal) := by
  simp [Ideal.ofBits, Ideal.ieee, -EReal.coe_mul]; norm_num

theorem query_at (i : S4x4x4096x4352.Idx) (k : Fin 128) :
    idx_main_v1 (lidx_main_v6 i k) = (ix3 (i 0 : Fin 4) (i 2 : Fin 4096) (⟨128 * (i 1 : Fin 4).val + k.val, by have : (i 1 : Fin 4).val < 4 := (i 1 : Fin 4).isLt; omega⟩ : Fin 512)) := by
  have h0 : (i 0).val < 4 := (i 0).isLt
  have h1 : (i 1).val < 4 := (i 1).isLt
  have h2 : (i 2).val < 4096 := (i 2).isLt
  funext a
  refine Fin.ext ?_
  match a with
  | ⟨0, _⟩ => show ((((i 0).val * 4096 + (i 2).val) * 4 + (i 1).val) * 128 + k.val) / 2097152 = (i 0).val; omega
  | ⟨1, _⟩ => show ((((i 0).val * 4096 + (i 2).val) * 4 + (i 1).val) * 128 + k.val) / 512 % 4096 = (i 2).val; omega
  | ⟨2, _⟩ => show ((((i 0).val * 4096 + (i 2).val) * 4 + (i 1).val) * 128 + k.val) % 512 = 128 * (i 1).val + k.val; omega

theorem key_at (i : S4x4x4096x4352.Idx) (k : Fin 128) :
    idx_main_v3 (ridx_main_v6 i k) = (ix3 (i 0 : Fin 4) (i 3 : Fin 4352) (⟨128 * (i 1 : Fin 4).val + k.val, by have : (i 1 : Fin 4).val < 4 := (i 1 : Fin 4).isLt; omega⟩ : Fin 512)) := by
  have h0 : (i 0).val < 4 := (i 0).isLt
  have h1 : (i 1).val < 4 := (i 1).isLt
  have h2 : (i 3).val < 4352 := (i 3).isLt
  funext a
  refine Fin.ext ?_
  match a with
  | ⟨0, _⟩ => show ((((i 0).val * 4352 + (i 3).val) * 4 + (i 1).val) * 128 + k.val) / 2228224 = (i 0).val; omega
  | ⟨1, _⟩ => show ((((i 0).val * 4352 + (i 3).val) * 4 + (i 1).val) * 128 + k.val) / 512 % 4352 = (i 3).val; omega
  | ⟨2, _⟩ => show ((((i 0).val * 4352 + (i 3).val) * 4 + (i 1).val) * 128 + k.val) % 512 = 128 * (i 1).val + k.val; omega

/-- THE LOGITS: `ln 2` times the scores. -/
theorem logits_apply (i : S4x4x4096x4352.Idx) :
    val_main_v9 (F := Ideal) Q K i = score Q K (i 0) (i 1) (i 2) (i 3) * ((Real.log 2 : ℝ) : EReal) := by
  rw [val_main_v9_apply, val_main_v8_apply, val_main_v7_apply, val_main_cst_apply, val_main_v6_apply, Ideal.mulf_def,
    Ideal.hostUnary_log_def]
  show _ * Ideal.log (Ideal.ofBits .f32 0x40000000#32) = _
  rw [ofBits_two, Ideal.log_coe, if_neg (by norm_num)]
  refine congrArg (· * _) ?_
  unfold score
  refine Finset.sum_congr rfl fun k _ => ?_
  rw [val_main_v1_apply, val_main_v3_apply, query_at, key_at, mul_comm]
  rfl

/-- The greatest logit of a row is real when the scores are. -/
theorem max_real (i : S4x4x4096.Idx) (σ : Fin 4352 → ℝ) (hσ : ∀ k, score Q K (i 0) (i 1) (i 2) k = (σ k : EReal)) :
    ∃ M : ℝ, val_main_v12 (F := Ideal) Q K i = (M : EReal) := by
  have hrow : ∀ k : Fin 4352, val_main_v9 (F := Ideal) Q K (idx_main_v17 i k) = ((σ k * Real.log 2 : ℝ) : EReal) := fun k => by
    rw [logits_apply, EReal.coe_mul, ← hσ k]
    rfl
  have hred : val_main_v10 (F := Ideal) Q K i
      = (Finset.univ : Finset (Fin 4352)).fold max (⊥ : EReal) fun k => ((σ k * Real.log 2 : ℝ) : EReal) := by
    unfold val_main_v10
    refine (Host.reduce_eq_fold_single (FloatOps.maximumf (F := Ideal) (φ := .f32)) _ _ _
      (by decide : S4x4x4096x4352.Reduces [3] S4x4x4096) _ i).trans ?_
    rw [val_main_cst_0_apply]
    refine (congrArg (fun b => Finset.fold _ b _ _) ofBits_bot).trans ?_
    refine congrArg (fun f => Finset.fold _ _ f _) (funext fun k => ?_)
    refine Eq.trans (congrArg (val_main_v9 (F := Ideal) Q K) (funext fun a => Fin.ext ?_)) (hrow k)
    match a with
    | ⟨0, _⟩ => rfl
    | ⟨1, _⟩ => rfl
    | ⟨2, _⟩ => rfl
    | ⟨3, _⟩ => rfl
  have hmax : val_main_v12 (F := Ideal) Q K i
      = (Finset.univ : Finset (Fin 4352)).fold max (⊥ : EReal) fun k => ((σ k * Real.log 2 : ℝ) : EReal) := by
    rw [val_main_v12_apply, val_main_v11_apply, val_main_cst_1_apply, hred]
    refine (congrArg (fun b => max b _) ofBits_bot).trans ?_
    exact bot_sup_eq _
  rw [hmax]
  exact ⟨_, (EReal.coe_toReal (fold_max_ne_top _ _) (fold_max_ne_bot _ ⟨0, Finset.mem_univ _⟩ _)).symm⟩

/-- THE REFERENCE'S RESULT: each entry the softmax average of its head's row of values. -/
theorem reference_apply (i : S4x4096x256.Idx) (σ : Fin 4352 → ℝ)
    (hσ : ∀ k, score Q K (i 0) (headAt (i 2)) (i 1) k = (σ k : EReal)) :
    val_main_v24 (F := Ideal) Q K V i = average σ fun k => V (ix3 (i 0 : Fin 4) (i 2 : Fin 256) k) := by
  rw [val_main_v24_apply, Ideal.truncf_def, val_main_v23_apply, val_main_v22_apply, val_main_v21_apply]
  have h0 : (i 0).val < 4 := (i 0).isLt
  have h1 : (i 1).val < 4096 := (i 1).isLt
  have h2 : (i 2).val < 256 := (i 2).isLt
  obtain ⟨j, hj⟩ : ∃ j, j = idx_main_v22 (idx_main_v23 i) := ⟨_, rfl⟩
  have j0 : (j 0).val = (i 0).val := by
    rw [hj]; show (((i 0).val * 4096 + (i 1).val) * 256 + (i 2).val) / 1048576 = _; omega
  have j1 : (j 1).val = (i 2).val / 64 := by
    rw [hj]; show (((i 0).val * 4096 + (i 1).val) * 256 + (i 2).val) / 64 % 4 = _; omega
  have j2 : (j 2).val = (i 2).val % 64 := by
    rw [hj]; show (((i 0).val * 4096 + (i 1).val) * 256 + (i 2).val) % 64 = _; omega
  have j3 : (j 3).val = (i 1).val := by
    rw [hj]; show (((i 0).val * 4096 + (i 1).val) * 256 + (i 2).val) / 256 % 4096 = _; omega
  rw [← hj]
  have hrow : ∀ k : Fin 4352, score Q K (j 0) (j 1) (j 3) k = (σ k : EReal) := fun k => by
    rw [← hσ k]
    exact congrFun (congr (congr (congrArg (score Q K) (Fin.ext j0)) (Fin.ext j1)) (Fin.ext j3)) k
  obtain ⟨r, hr⟩ : ∃ r : S4x4x4096.Idx, r = idx_main_v13 (idx_main_v14 (ridx_main_v21 j 0)) := ⟨_, rfl⟩
  obtain ⟨M, hM⟩ := max_real Q K r σ (by rw [hr]; exact hrow)
  have hexp : ∀ k : Fin 4352, val_main_v16 (F := Ideal) Q K (ridx_main_v21 j k)
      = Ideal.exp ((σ k : EReal) * ((Real.log 2 : ℝ) : EReal) - (M : EReal)) := fun k => by
    rw [val_main_v16_apply, val_main_v15_apply, logits_apply, val_main_v14_apply, val_main_v13_apply, Ideal.hostUnary_exp_def,
      Ideal.subf_def, ← hM, hr, ← hrow k]
    rfl
  have hsum : ∀ k : Fin 4352, val_main_v19 (F := Ideal) Q K (ridx_main_v21 j k)
      = ∑ k, Ideal.exp ((σ k : EReal) * ((Real.log 2 : ℝ) : EReal) - (M : EReal)) := fun k => by
    rw [val_main_v19_apply, val_main_v18_apply, val_main_v17_apply, val_main_cst_2_apply]
    refine (congrArg (· + _) (Ideal.ofBits_zero .f32)).trans ((zero_add _).trans (Finset.sum_congr rfl fun k _ => ?_))
    exact hexp k
  have hval : ∀ k : Fin 4352, val_main_v4 (F := Ideal) V (idx_main_v5 (lidx_main_v21 j k)) = V (ix3 (i 0 : Fin 4) (i 2 : Fin 256) k) :=
    fun k => by
      refine congrArg V (funext fun a => Fin.ext ?_)
      have hk := k.isLt
      match a with
      | ⟨0, _⟩ => show ((((j 0).val * 4 + (j 1).val) * 64 + (j 2).val) * 4352 + k.val) / 1114112 = (i 0).val; omega
      | ⟨1, _⟩ => show ((((j 0).val * 4 + (j 1).val) * 64 + (j 2).val) * 4352 + k.val) / 4352 % 256 = (i 2).val; omega
      | ⟨2, _⟩ => show ((((j 0).val * 4 + (j 1).val) * 64 + (j 2).val) * 4352 + k.val) % 4352 = k.val; omega
  have hn : 0 < 4352 := by norm_num
  refine Eq.trans (Finset.sum_congr rfl fun k _ => ?_) (softmax_row hn σ (fun k => V (ix3 (i 0 : Fin 4) (i 2 : Fin 256) k)) M)
  rw [val_main_v20_apply, hexp, hsum, val_main_v5_apply, hval, Ideal.hostDivf_def]

end Cert.Attn

end
-- ==== Proof.AttnClaims.lean ====
/- The attention's claims: its frames, and that the kernel's result is the reference's for real queries and keys. -/
module

public import proofs.«01_k».proof.Defs
public import proofs.«01_k».proof.Proof.AttnRef
public import proofs.«01_k».proof.Proof.Gen.Kernel.Frame
public import proofs.«01_k».proof.Proof.Gen.ReferenceIdeal.Run
public import Idealize.ShloMosaic.Lib.ReduceAll

@[expose] public section

noncomputable section

namespace Cert.Attn

open Idealize.ShloMosaic.ValueIdx Idealize.ShloMosaic.TcCoe Idealize.SL.Sem
open Idealize.ShloMosaic hiding ix0 ix1 ix2 ix3 ix4 ix5 eq_ix3
open scoped BigOperators

/-- The side conditions of the precondition's operations. -/
instance finiteFacts : Cert.Pre_finite_qk.Facts where
  bitsLt_bf16_f32 := by decide
  bcast_S_S4x4096x512 := by decide
  reducesTo_S4x4096x512_S_d0_1_2 := by decide
  h_S_ := by decide
  bcast_S_S4x4352x512 := by decide
  reducesTo_S4x4352x512_S_d0_1_2 := by decide

instance : Subsingleton Cert.Pre_finite_qk.S_.Idx := ⟨fun _ _ => funext fun a => a.elim0⟩

/-- A number whose absolute value is below infinity is real. -/
theorem real_of_lt (x : EReal)
    (h : BitVec.ofBool (decide (max x (-x) < Ideal.ofBits .f32 0x7F800000#32)) = 1#1) : ∃ r : ℝ, x = (r : EReal) := by
  have ht : Ideal.ofBits .f32 0x7F800000#32 = ⊤ := by simp [Ideal.ofBits, Ideal.ieee]
  rw [ht] at h
  induction x using EReal.rec with
  | bot => simp at h
  | coe r => exact ⟨r, rfl⟩
  | top => simp at h

/-- What the precondition says: every query and every key is real. -/
theorem real_of_finite (q : FVec Ideal Cert.Pre_finite_qk.S4x4096x512 .bf16) (k : FVec Ideal Cert.Pre_finite_qk.S4x4352x512 .bf16)
    (v : FVec Ideal Cert.Pre_finite_qk.S4x256x4352 .bf16) (h : Cert.Pre_finite_qk.fn (F := Ideal) q k v = fun _ => 1#1) :
    (∀ i, ∃ r : ℝ, q i = (r : EReal)) ∧ ∀ i, ∃ r : ℝ, k i = (r : EReal) := by
  have h0 := congrFun h (Shape.Idx.first (by decide))
  have h1 := IntOp.andi_eq_one.1 h0
  exact ⟨fun i => real_of_lt _ (Host.reduce_andi_all _ _ _ _ _ h1.1 i), fun i => real_of_lt _ (Host.reduce_andi_all _ _ _ _ _ h1.2 i)⟩

/-- Real queries and keys have real scores. -/
theorem score_real (Q : FVec Ideal Cert.KernelIdeal.S4x4096x512 .bf16) (K : FVec Ideal Cert.KernelIdeal.S4x4352x512 .bf16)
    (hQ : ∀ i, ∃ r : ℝ, Q i = (r : EReal)) (hK : ∀ i, ∃ r : ℝ, K i = (r : EReal)) (b h : Fin 4) (q : Fin 4096) :
    ∃ σ : Fin 4352 → ℝ, ∀ k, score Q K b h q k = (σ k : EReal) := by
  choose Qr hQr using hQ
  choose Kr hKr using hK
  refine ⟨fun k => ∑ d : Fin 128, Kr (ix3 b k (⟨128 * h.val + d.val, by omega⟩ : Fin 512))
    * Qr (ix3 b q (⟨128 * h.val + d.val, by omega⟩ : Fin 512)), fun k => ?_⟩
  unfold score
  rw [coe_sum]
  exact Finset.sum_congr rfl fun d _ => by rw [hQr, hKr, EReal.coe_mul]

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_finite_qk := fun m ρ _ => Cert.KernelIdeal.Gen.frame m ρ
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_ri_pre : Cert.quiescent_ReferenceIdeal_pre_finite_qk := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- THE ATTENTION: the kernel's result array is the reference's. -/
theorem algebraic : Cert.algebraic_KernelIdeal_ReferenceIdeal_pre_finite_qk := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  refine (Cert.ReferenceIdeal.Read.val_main_v24_eq _ _ _).trans (funext fun i => ?_)
  have hf := real_of_finite _ _ _ (hpre c)
  obtain ⟨σ, hσ⟩ := score_real _ _ hf.1 hf.2 (i 0) (headAt (i 2)) (i 1)
  exact (reference_apply _ _ _ i σ hσ).trans (array_apply m c i σ hσ).symm

end Cert.Attn

end
-- ==== Proof.Norm.lean ====
/- The root-mean-square normalization of a row of 1024 numbers, with its gain and its modulation: as a formula, and as the
   kernels compute it for a block of rows. -/
module

public import Idealize.ShloMosaic.Lib.Pipeline.ValueKit
public import Idealize.ShloMosaic.Lib.MatmulPlain

@[expose] public section

noncomputable section

namespace Cert.Norm

open Idealize.ShloMosaic.ValueIdx Idealize.ShloMosaic.TcCoe
open Idealize.ShloMosaic hiding ix0 ix1 ix2 ix3 ix4 ix5 eq_ix3
open scoped BigOperators

/-- What a row is multiplied with: one over the root of its mean square (and a small number). -/
def scaleOf (x : Fin 1024 → EReal) : EReal :=
  Ideal.rsqrt (Ideal.div (∑ k, x k * x k) (Ideal.ofBits .f32 0x44800000#32) + Ideal.ofBits .f32 0x358637BD#32)

/-- The normalized row, times the gain. -/
def rms (x g : Fin 1024 → EReal) (k : Fin 1024) : EReal := x k * scaleOf x * g k

/-- The normalized row, scaled and shifted. -/
def modulated (x g scale shift : Fin 1024 → EReal) (k : Fin 1024) : EReal :=
  rms x g k * (Ideal.ofBits .f32 0x3F800000#32 + scale k) + shift k

/-- The shape facts a block of `n` rows takes. -/
structure RowFacts (n : ℕ) : Prop where
  red : (⟨2, ![n, 1024]⟩ : Shape).Reduces [1] ⟨1, ![n]⟩
  cast : (⟨1, ![n]⟩ : Shape).ShapeCasts ⟨2, ![n, 1]⟩
  across : (⟨2, ![n, 1]⟩ : Shape).Broadcasts ⟨2, ![n, 1024]⟩
  down : (⟨2, ![1, 1024]⟩ : Shape).Broadcasts ⟨2, ![n, 1024]⟩
  load : (⟨3, ![1, n, 1024]⟩ : Shape).ShapeCasts ⟨2, ![n, 1024]⟩

/-- A sum over `n * w` indices is `n` sums over `w`. -/
theorem sum_chunks (n w : ℕ) (f : Fin (n * w) → EReal) :
    ∑ k, f k = ∑ c : Fin n, ∑ d : Fin w, f (⟨w * c.val + d.val, by
      have h : w * c.val + w ≤ w * n := by rw [← Nat.mul_succ]; exact Nat.mul_le_mul_left w c.isLt
      have := d.isLt
      rw [Nat.mul_comm n w]
      omega⟩ : Fin (n * w)) := by
  refine ((finProdFinEquiv (m := n) (n := w)).sum_comp f).symm.trans ((Fintype.sum_prod_type _).trans ?_)
  exact Finset.sum_congr rfl fun c _ => Finset.sum_congr rfl fun d _ => congrArg f (Fin.ext (Nat.add_comm _ _))

/-- A load through a rectangle of unit strides: the entry at the offset. -/
theorem ld_unit_apply {Val : EltTy → Type} {s : Shape} {e : EltTy} (x : s.Idx → Val e) (off size : Fin s.rank → ℕ)
    (h : ∀ a, off a + size a ≤ s.size a) (i : (⟨s.rank, size⟩ : Shape).Idx) (j : s.Idx)
    (hj : ∀ a, (j a).val = off a + (i a).val) : View.ld x (Rect.unit (s := s) off size h) i = x j := by
  unfold View.ld
  refine congrArg x (funext fun a => Fin.ext ?_)
  show off a + 1 * (i a).val = (j a).val
  rw [hj, Nat.one_mul]

section Block
variable {F : FTy → Type} [FloatOps F] {n : ℕ} (ev : RowFacts n)

/-- A block of rows from its squares. -/
def rmsOf (x s : FVec F ⟨2, ![n, 1024]⟩ .f32) (g : FVec F ⟨2, ![1, 1024]⟩ .f32) : FVec F ⟨2, ![n, 1024]⟩ .f32 :=
  mulf (mulf x (broadcastTo _ (rsqrt (addf (divf (shapeCast (⟨2, ![n, 1]⟩ : Shape)
    (multiReduction .add [1] (⟨1, ![n]⟩ : Shape) s 0x00000000#32 ev.red (.inl rfl) rfl) ev.cast)
    (broadcast (⟨2, ![n, 1]⟩ : Shape) (Scalar.ofBits .f32 0x44800000#32)))
    (broadcast (⟨2, ![n, 1]⟩ : Shape) (Scalar.ofBits .f32 0x358637BD#32)))) ev.across)) (broadcastTo _ g ev.down)

/-- A block of rows, normalized. -/
def rmsBlock (x : FVec F ⟨2, ![n, 1024]⟩ .f32) (g : FVec F ⟨2, ![1, 1024]⟩ .f32) : FVec F ⟨2, ![n, 1024]⟩ .f32 :=
  rmsOf ev x (mulf x x) g

/-- A block of rows, normalized, scaled and shifted. -/
def modBlock (x : FVec F ⟨3, ![1, n, 1024]⟩ .f32) (g : FVec F ⟨2, ![1, 1024]⟩ .f32) (scale shift : FVec F ⟨3, ![1, 1, 1024]⟩ .f32)
    (hrow : (⟨3, ![1, 1, 1024]⟩ : Shape).ShapeCasts ⟨2, ![1, 1024]⟩) : FVec F ⟨2, ![n, 1024]⟩ .f32 :=
  addf (mulf (rmsBlock ev (shapeCast _ x ev.load) g)
    (broadcastTo _ (addf (broadcast (⟨2, ![1, 1024]⟩ : Shape) (Scalar.ofBits .f32 0x3F800000#32)) (shapeCast (⟨2, ![1, 1024]⟩ : Shape) scale hrow)) ev.down))
    (broadcastTo _ (shapeCast (⟨2, ![1, 1024]⟩ : Shape) shift hrow) ev.down)

end Block

section Ideal
variable {n : ℕ} (ev : RowFacts n)

/-- A row of 1024 numbers repeated down the block. -/
theorem down_apply {n w : ℕ} (x : FVec Ideal ⟨2, ![1, w]⟩ .f32) (h : (⟨2, ![1, w]⟩ : Shape).Broadcasts ⟨2, ![n, w]⟩) (r : Fin n) (k : Fin w) :
    broadcastTo (⟨2, ![n, w]⟩ : Shape) x h (ix2 r k) = x (ix2 (0 : Fin 1) k) :=
  broadcastTo_apply x h _ _ fun a => match a with
    | ⟨0, _⟩ => rfl
    | ⟨1, _⟩ => by
      show k.val = if w = 1 then 0 else k.val
      have := k.isLt
      split <;> omega

/-- A column repeated across the block. -/
theorem across_apply (x : FVec Ideal ⟨2, ![n, 1]⟩ .f32) (h : (⟨2, ![n, 1]⟩ : Shape).Broadcasts ⟨2, ![n, 1024]⟩) (r : Fin n) (k : Fin 1024) :
    broadcastTo (⟨2, ![n, 1024]⟩ : Shape) x h (ix2 r k) = x (ix2 r (0 : Fin 1)) :=
  broadcastTo_apply x h _ _ fun a => match a with
    | ⟨0, _⟩ => by
      show r.val = if n = 1 then 0 else r.val
      have := r.isLt
      split <;> omega
    | ⟨1, _⟩ => rfl

/-- Dropping a leading unit axis, and putting one in front. -/
theorem unlead_apply {n w : ℕ} {φ : FTy} (x : FVec Ideal ⟨3, ![1, n, w]⟩ φ) (h : (⟨3, ![1, n, w]⟩ : Shape).ShapeCasts ⟨2, ![n, w]⟩) (r : Fin n) (k : Fin w) :
    shapeCast (⟨2, ![n, w]⟩ : Shape) x h (ix2 r k) = x (ix3 (0 : Fin 1) r k) :=
  shapeCast_apply x _ _ _ (by
    rw [Shape.rowMajor_val_two, Shape.rowMajor_val_three]
    show ((0 : ℕ) * n + r.val) * w + k.val = r.val * w + k.val
    ring)

theorem lead_apply {n w : ℕ} {φ : FTy} (x : FVec Ideal ⟨2, ![n, w]⟩ φ) (h : (⟨2, ![n, w]⟩ : Shape).ShapeCasts ⟨3, ![1, n, w]⟩) (r : Fin n) (k : Fin w) :
    shapeCast (⟨3, ![1, n, w]⟩ : Shape) x h (ix3 (0 : Fin 1) r k) = x (ix2 r k) :=
  shapeCast_apply x _ _ _ (by
    rw [Shape.rowMajor_val_two, Shape.rowMajor_val_three]
    show r.val * w + k.val = ((0 : ℕ) * n + r.val) * w + k.val
    ring)

theorem column_apply {n : ℕ} (x : FVec Ideal ⟨1, ![n]⟩ .f32) (h : (⟨1, ![n]⟩ : Shape).ShapeCasts ⟨2, ![n, 1]⟩) (r : Fin n) :
    shapeCast (⟨2, ![n, 1]⟩ : Shape) x h (ix2 r (0 : Fin 1)) = x (ix1 r) :=
  shapeCast_apply x _ _ _ (by
    rw [Shape.rowMajor_val_one, Shape.rowMajor_val_two]
    show r.val = r.val * 1 + 0
    ring)

theorem lift_eq (r : Fin n) (k : Fin 1024) : ev.red.lift (ix1 r) k = ix2 r k := by
  funext a
  refine Fin.ext ?_
  match a with
  | ⟨0, _⟩ => rfl
  | ⟨1, _⟩ => rfl

/-- The normalized block, entry by entry. -/
theorem rmsBlock_apply (x : FVec Ideal ⟨2, ![n, 1024]⟩ .f32) (g : FVec Ideal ⟨2, ![1, 1024]⟩ .f32) (r : Fin n) (k : Fin 1024) :
    rmsBlock ev x g (ix2 r k) = rms (fun k => x (ix2 r k)) (fun k => g (ix2 (0 : Fin 1) k)) k := by
  unfold rmsBlock rmsOf rms
  rw [mulf_apply, mulf_apply, across_apply, down_apply]
  refine congrArg (fun z : EReal => x (ix2 r k) * z * g (ix2 (0 : Fin 1) k)) ?_
  show Ideal.rsqrt (Ideal.div (shapeCast _ _ ev.cast (ix2 r (0 : Fin 1))) _ + _) = scaleOf _
  rw [column_apply]
  unfold scaleOf
  refine congrArg (fun z : EReal => Ideal.rsqrt (Ideal.div z _ + _)) ?_
  refine (Ideal.multiReduction_add_single _ _ ev.red (.inl rfl) rfl (ix1 r)).trans ?_
  exact Finset.sum_congr rfl fun k _ => congrArg (mulf x x) (lift_eq ev r k)

/-- The modulated block, entry by entry. -/
theorem modBlock_apply (x : FVec Ideal ⟨3, ![1, n, 1024]⟩ .f32) (g : FVec Ideal ⟨2, ![1, 1024]⟩ .f32) (scale shift : FVec Ideal ⟨3, ![1, 1, 1024]⟩ .f32)
    (hrow : (⟨3, ![1, 1, 1024]⟩ : Shape).ShapeCasts ⟨2, ![1, 1024]⟩) (r : Fin n) (k : Fin 1024) :
    modBlock ev x g scale shift hrow (ix2 r k) = modulated (fun k => x (ix3 (0 : Fin 1) r k)) (fun k => g (ix2 (0 : Fin 1) k))
      (fun k => scale (ix3 (0 : Fin 1) (0 : Fin 1) k)) (fun k => shift (ix3 (0 : Fin 1) (0 : Fin 1) k)) k := by
  unfold modBlock modulated
  rw [addf_apply, mulf_apply, rmsBlock_apply, down_apply, down_apply, addf_apply, unlead_apply, unlead_apply]
  simp only [unlead_apply]
  rfl

end Ideal

end Cert.Norm

end
-- ==== Proof.FfnRun.lean ====
/- The gated convolution block's run: what the row scratch, the ring of three slots, the accumulator and the stored block
   hold, in terms of one chunk's formula. -/
module

public import proofs.«01_k».proof.Defs
public import proofs.«01_k».proof.Proof.Norm
public import proofs.«01_k».proof.Proof.Gen.Kernel2Ideal.Value
public import Idealize.ShloMosaic.Lib.Pipeline.ValueKit
public import Idealize.ShloMosaic.Lib.WholeRead

@[expose] public section

set_option maxRecDepth 16384

noncomputable section

namespace Cert.Ffn

open Idealize.ShloMosaic.ValueIdx Idealize.ShloMosaic.TcCoe Idealize.SL.Sem
open Idealize.ShloMosaic hiding ix0 ix1 ix2 ix3 ix4 ix5 eq_ix3
open Cert.Kernel2Ideal Cert.Kernel2Ideal.Gen
open Idealize.ShloMosaic.View (canon)

variable {F : FTy → Type} [FloatOps F]

/-- The columns from `n` of the up projection, of the convolution's weights, of its bias; and chunk `n` of the down projection. -/
def cols (w : Vec F S1024x5632 .bf16) (n : ℕ) : Vec F S1024x256 .bf16 :=
  fun j => w (ix2 (j 0) (⟨(n + (j 1).val) % 5632, Nat.mod_lt _ (by decide)⟩ : Fin 5632))

def taps (w : Vec F S3x5632 .f32) (n : ℕ) : Vec F S3x256 .f32 :=
  fun j => w (ix2 (j 0) (⟨(n + (j 1).val) % 5632, Nat.mod_lt _ (by decide)⟩ : Fin 5632))

def biases (w : Vec F S1x5632 .f32) (n : ℕ) : Vec F S1x256 .f32 :=
  fun j => w (ix2 (j 0) (⟨(n + (j 1).val) % 5632, Nat.mod_lt _ (by decide)⟩ : Fin 5632))

def downs (w : Vec F S11x256x1024 .bf16) (n : ℕ) : Vec F S1x256x1024 .bf16 :=
  fun j => w (ix3 (⟨n % 11, Nat.mod_lt _ (by decide)⟩ : Fin 11) (j 1) (j 2))

theorem read_cols (m : Memref sig .tc .vmem S1024x5632 .bf16) (hm : m.IsWhole) (x : Vec F S1024x5632 .bf16) (n : ℕ)
    (inb : ∀ a, (![0, n] : Fin 2 → ℕ) a + S1024x256.size a ≤ S1024x5632.size a) :
    View.readAt (Elt F) m.view (Rect.unit (s := S1024x5632) ![0, n] S1024x256.size inb).toLoadRect (hm.unread x) = cols x n := by
  funext j
  refine (hm.readAt_unread x _ j).trans (congrArg x (funext fun a => Fin.ext ?_))
  have hb : n + 256 ≤ 5632 := inb 1
  have hj : (j 1).val < 256 := (j 1).isLt
  match a with
  | ⟨0, _⟩ => show 0 + 1 * (j 0).val = (j 0).val; omega
  | ⟨1, _⟩ => show n + 1 * (j 1).val = (n + (j 1).val) % 5632; rw [Nat.mod_eq_of_lt (by omega), Nat.one_mul]

theorem read_taps (m : Memref sig .tc .vmem S3x5632 .f32) (hm : m.IsWhole) (x : Vec F S3x5632 .f32) (n : ℕ)
    (inb : ∀ a, (![0, n] : Fin 2 → ℕ) a + S3x256.size a ≤ S3x5632.size a) :
    View.readAt (Elt F) m.view (Rect.unit (s := S3x5632) ![0, n] S3x256.size inb).toLoadRect (hm.unread x) = taps x n := by
  funext j
  refine (hm.readAt_unread x _ j).trans (congrArg x (funext fun a => Fin.ext ?_))
  have hb : n + 256 ≤ 5632 := inb 1
  have hj : (j 1).val < 256 := (j 1).isLt
  match a with
  | ⟨0, _⟩ => show 0 + 1 * (j 0).val = (j 0).val; omega
  | ⟨1, _⟩ => show n + 1 * (j 1).val = (n + (j 1).val) % 5632; rw [Nat.mod_eq_of_lt (by omega), Nat.one_mul]

theorem read_biases (m : Memref sig .tc .vmem S1x5632 .f32) (hm : m.IsWhole) (x : Vec F S1x5632 .f32) (n : ℕ)
    (inb : ∀ a, (![0, n] : Fin 2 → ℕ) a + S1x256.size a ≤ S1x5632.size a) :
    View.readAt (Elt F) m.view (Rect.unit (s := S1x5632) ![0, n] S1x256.size inb).toLoadRect (hm.unread x) = biases x n := by
  funext j
  refine (hm.readAt_unread x _ j).trans (congrArg x (funext fun a => Fin.ext ?_))
  have hb : n + 256 ≤ 5632 := inb 1
  have hj : (j 1).val < 256 := (j 1).isLt
  match a with
  | ⟨0, _⟩ => show 0 + 1 * (j 0).val = (j 0).val; omega
  | ⟨1, _⟩ => show n + 1 * (j 1).val = (n + (j 1).val) % 5632; rw [Nat.mod_eq_of_lt (by omega), Nat.one_mul]

theorem read_downs (m : Memref sig .tc .vmem S11x256x1024 .bf16) (hm : m.IsWhole) (x : Vec F S11x256x1024 .bf16) (n : ℕ)
    (inb : ∀ a, (![n, 0, 0] : Fin 3 → ℕ) a + S1x256x1024.size a ≤ S11x256x1024.size a) :
    View.readAt (Elt F) m.view (Rect.unit (s := S11x256x1024) ![n, 0, 0] S1x256x1024.size inb).toLoadRect (hm.unread x) = downs x n := by
  funext j
  refine (hm.readAt_unread x _ j).trans (congrArg x (funext fun a => Fin.ext ?_))
  have hb : n + 1 ≤ 11 := inb 0
  have hj : (j 0).val < 1 := (j 0).isLt
  match a with
  | ⟨0, _⟩ => show n + 1 * (j 0).val = n % 11; rw [Nat.mod_eq_of_lt (by omega)]; omega
  | ⟨1, _⟩ => show 0 + 1 * (j 1).val = (j 1).val; omega
  | ⟨2, _⟩ => show 0 + 1 * (j 2).val = (j 2).val; omega

theorem read_whole {s : Shape} {e : EltTy} (m : Memref sig .tc .vmem s e) (hm : m.IsWhole) (x : Vec F s e) (r : Rect s) :
    View.readAt (Elt F) m.view r.toLoadRect (hm.unread x) = View.ld x r :=
  funext fun j => hm.readAt_unread x _ j

/-- The lanes' row numbers. -/
def lanes : IVec S8x512 32 := iota Kind.tc S8x512 32 [0] iota_S8x512_d0_w32

/-- The rows a chunk stores in the middle of its slot, and the slot as a whole: a rotated group of eight, the rows, another
    rotated group. -/
def middle (u : Vec F S272x512 .f32) : Vec F S256x512 .f32 :=
  shapeCast S256x512 (extractStridedSlice S256x512 ![0, 0] u slices_S272x512_o0_0_S256x512) shapeCasts_S256x512_S256x512

def slab (u : Vec F S272x512 .f32) (r : Fin 272) (q : Fin 512) : Elt F .f32 :=
  if h : r.val < 8 then k0_pay11 lanes u (ix2 (⟨r.val, h⟩ : Fin 8) q)
  else if h' : r.val < 264 then middle u (ix2 (⟨r.val - 8, by omega⟩ : Fin 256) q)
  else k0_pay12 lanes u (ix2 (⟨r.val - 264, by have := r.isLt; omega⟩ : Fin 8) q)

/-- The ring with one slot replaced. -/
def over (n : ℕ) (u : Vec F S272x512 .f32) (rest : S3x272x512.Idx → Elt F .f32) : S3x272x512.Idx → Elt F .f32 :=
  fun j => if (j 0).val = n then slab u (j 1) (j 2) else rest j

/-- One piece stored in a slot of the ring: `m` rows from row `o` of slot `n`. -/
theorem canon_piece (n o m : ℕ)
    (i0 : ∀ a, (![n, 0, 0] : Fin 3 → ℕ) a + S1x272x512.size a ≤ S3x272x512.size a)
    (i1 : ∀ a, (![o, 0] : Fin 2 → ℕ) a + (⟨2, ![m, 512]⟩ : Shape).size a ≤ S272x512.size a)
    (h0 : (![1, 272, 512] : Fin 3 → ℕ) 0 = 1) (hs : ∀ i, (![1, 272, 512] : Fin 3 → ℕ) (Fin.succ i) = (![272, 512] : Fin 2 → ℕ) i)
    (hw : ∀ a, (Rect.unit (s := S3x272x512) ![n, 0, 0] S1x272x512.size i0).stride a = 1)
    (hR : ((Rect.unit (s := S272x512) ![o, 0] (⟨2, ![m, 512]⟩ : Shape).size i1).consLift ![1, 272, 512] h0 hs).shape.numel
      = (Rect.unit (s := S272x512) ![o, 0] (⟨2, ![m, 512]⟩ : Shape).size i1).shape.numel)
    (w : Vec F (⟨2, ![m, 512]⟩ : Shape) .f32) (L : List (View.Piece (Elt F) S3x272x512 .f32)) (j : S3x272x512.Idx) :
    canon (Val := Elt F) (e := .f32) ((⟨(Rect.unit (s := S3x272x512) ![n, 0, 0] S1x272x512.size i0).within
        ((Rect.unit (s := S272x512) ![o, 0] (⟨2, ![m, 512]⟩ : Shape).size i1).consLift ![1, 272, 512] h0 hs) hw,
        Rect.payAlong hR w⟩ : View.Piece (Elt F) S3x272x512 .f32) :: L) j
      = if h : (j 0).val = n ∧ o ≤ (j 1).val ∧ (j 1).val < o + m then
          w (ix2 (⟨(j 1).val - o, by omega⟩ : Fin m) (j 2)) else canon L j := by
  by_cases h : (j 0).val = n ∧ o ≤ (j 1).val ∧ (j 1).val < o + m
  · rw [dif_pos h]
    let z : ((Rect.unit (s := S272x512) ![o, 0] (⟨2, ![m, 512]⟩ : Shape).size i1).consLift ![1, 272, 512] h0 hs).shape.Idx :=
      Fin.cons (⟨0, Nat.one_pos⟩ : Fin 1) (ix2 (⟨(j 1).val - o, by omega⟩ : Fin m) (j 2))
    have he : (Rect.unit (s := S3x272x512) ![n, 0, 0] S1x272x512.size i0).emb
        (((Rect.unit (s := S272x512) ![o, 0] (⟨2, ![m, 512]⟩ : Shape).size i1).consLift ![1, 272, 512] h0 hs).emb z) = j := by
      funext a
      refine Fin.ext ?_
      match a with
      | ⟨0, _⟩ => show n + 1 * (0 + 1 * 0) = (j 0).val; omega
      | ⟨1, _⟩ => show 0 + 1 * (o + 1 * ((j 1).val - o)) = (j 1).val; omega
      | ⟨2, _⟩ => show 0 + 1 * (0 + 1 * (j 2).val) = (j 2).val; omega
    refine (congrArg (canon _) he.symm).trans ((View.canon_cons_within_emb _ _ hw _ L z).trans ?_)
    exact Rect.payAlong_consLift _ _ h0 hs w hR z _ fun i => rfl
  · rw [dif_neg h]
    refine View.canon_cons_of_not_mem _ L fun hm => h ?_
    obtain ⟨a0, ha0, e0⟩ := (LoadRect.mem_set _).mp hm (0 : Fin 3)
    obtain ⟨a1, ha1, e1⟩ := (LoadRect.mem_set _).mp hm (1 : Fin 3)
    have ha0' : a0 < 1 := ha0
    have ha1' : a1 < m := ha1
    have e0' : (j 0).val = n + 0 + 1 * a0 := e0
    have e1' : (j 1).val = 0 + o + 1 * a1 := e1
    omega

/-- The three pieces a chunk stores replace a slot. -/
theorem canon_group (n : ℕ)
    (i0 : ∀ a, (![n, 0, 0] : Fin 3 → ℕ) a + S1x272x512.size a ≤ S3x272x512.size a)
    (it : ∀ a, (![264, 0] : Fin 2 → ℕ) a + S8x512.size a ≤ S272x512.size a)
    (ih : ∀ a, (![0, 0] : Fin 2 → ℕ) a + S8x512.size a ≤ S272x512.size a)
    (im : ∀ a, (![8, 0] : Fin 2 → ℕ) a + S256x512.size a ≤ S272x512.size a)
    (h0 : (![1, 272, 512] : Fin 3 → ℕ) 0 = 1) (hs : ∀ i, (![1, 272, 512] : Fin 3 → ℕ) (Fin.succ i) = (![272, 512] : Fin 2 → ℕ) i)
    (hw : ∀ a, (Rect.unit (s := S3x272x512) ![n, 0, 0] S1x272x512.size i0).stride a = 1)
    (ht : ((Rect.unit (s := S272x512) ![264, 0] S8x512.size it).consLift ![1, 272, 512] h0 hs).shape.numel
      = (Rect.unit (s := S272x512) ![264, 0] S8x512.size it).shape.numel)
    (hh : ((Rect.unit (s := S272x512) ![0, 0] S8x512.size ih).consLift ![1, 272, 512] h0 hs).shape.numel
      = (Rect.unit (s := S272x512) ![0, 0] S8x512.size ih).shape.numel)
    (hm : ((Rect.unit (s := S272x512) ![8, 0] S256x512.size im).consLift ![1, 272, 512] h0 hs).shape.numel
      = (Rect.unit (s := S272x512) ![8, 0] S256x512.size im).shape.numel)
    (u : Vec F S272x512 .f32) (L : List (View.Piece (Elt F) S3x272x512 .f32)) :
    canon (Val := Elt F) (e := .f32)
      ((⟨(Rect.unit (s := S3x272x512) ![n, 0, 0] S1x272x512.size i0).within
        ((Rect.unit (s := S272x512) ![264, 0] S8x512.size it).consLift ![1, 272, 512] h0 hs) hw,
        Rect.payAlong ht (k0_pay12 lanes u)⟩ : View.Piece (Elt F) S3x272x512 .f32)
      :: (⟨(Rect.unit (s := S3x272x512) ![n, 0, 0] S1x272x512.size i0).within
        ((Rect.unit (s := S272x512) ![0, 0] S8x512.size ih).consLift ![1, 272, 512] h0 hs) hw,
        Rect.payAlong hh (k0_pay11 lanes u)⟩ : View.Piece (Elt F) S3x272x512 .f32)
      :: (⟨(Rect.unit (s := S3x272x512) ![n, 0, 0] S1x272x512.size i0).within
        ((Rect.unit (s := S272x512) ![8, 0] S256x512.size im).consLift ![1, 272, 512] h0 hs) hw,
        Rect.payAlong hm (middle u)⟩ : View.Piece (Elt F) S3x272x512 .f32) :: L)
      = over n u (canon L) := by
  funext j
  have hj : (j 1).val < 272 := (j 1).isLt
  refine (canon_piece n 264 8 i0 it h0 hs hw ht _ _ j).trans ?_
  unfold over slab
  by_cases e : (j 0).val = n
  · rw [if_pos e]
    by_cases h1 : 264 ≤ (j 1).val
    · rw [dif_pos ⟨e, h1, by omega⟩, dif_neg (by omega), dif_neg (by omega)]
    · rw [dif_neg (by omega)]
      refine (canon_piece n 0 8 i0 ih h0 hs hw hh _ _ j).trans ?_
      by_cases h2 : (j 1).val < 8
      · rw [dif_pos ⟨e, by omega, by omega⟩, dif_pos h2]
        rfl
      · rw [dif_neg (by omega)]
        refine (canon_piece n 8 256 i0 im h0 hs hw hm _ _ j).trans ?_
        rw [dif_pos ⟨e, by omega, by omega⟩, dif_neg h2, dif_pos (by omega)]
  · rw [if_neg e, dif_neg (fun h => e h.1)]
    refine (canon_piece n 0 8 i0 ih h0 hs hw hh _ _ j).trans ?_
    rw [dif_neg (fun h => e h.1)]
    refine (canon_piece n 8 256 i0 im h0 hs hw hm _ _ j).trans ?_
    rw [dif_neg (fun h => e h.1)]

/-- The rows from `o` of slot `n`, and of a slot's contents. -/
def slotRows (X : S3x272x512.Idx → Elt F .f32) (n o : ℕ) : Vec F S256x512 .f32 :=
  fun x => X (ix3 (⟨n % 3, Nat.mod_lt _ (by decide)⟩ : Fin 3) (⟨(o + (x 0).val) % 272, Nat.mod_lt _ (by decide)⟩ : Fin 272) (x 1))

def shifted (u : Vec F S272x512 .f32) (o : ℕ) : Vec F S256x512 .f32 :=
  fun x => slab u (⟨(o + (x 0).val) % 272, Nat.mod_lt _ (by decide)⟩ : Fin 272) (x 1)

theorem slotRows_hit (n o : ℕ) (hn : n % 3 = n) (u : Vec F S272x512 .f32) (X : S3x272x512.Idx → Elt F .f32) :
    slotRows (over n u X) n o = shifted u o := by
  funext x
  unfold slotRows over shifted
  exact if_pos hn

theorem slotRows_skip (n n' o : ℕ) (hn : n % 3 ≠ n') (u : Vec F S272x512 .f32) (X : S3x272x512.Idx → Elt F .f32) :
    slotRows (over n' u X) n o = slotRows X n o := by
  funext x
  unfold slotRows over
  exact if_neg hn

/-- The box of a load, 256 rows from row `o` of slot `n`, and the value loaded through it. -/
def boxOf (n o : ℕ) (i0 : ∀ a, (![n, 0, 0] : Fin 3 → ℕ) a + S1x272x512.size a ≤ S3x272x512.size a)
    (i1 : ∀ a, (![o, 0] : Fin 2 → ℕ) a + S256x512.size a ≤ S272x512.size a) : LoadRect S3x272x512 :=
  (Rect.unit (s := S3x272x512) ![n, 0, 0] S1x272x512.size i0).withinL
    ((Rect.unit (s := S272x512) ![o, 0] S256x512.size i1).toLoadRect.consLift ![1, 272, 512] rfl fun _ => rfl) fun _ => rfl

def loadOf (n o : ℕ) (i0 : ∀ a, (![n, 0, 0] : Fin 3 → ℕ) a + S1x272x512.size a ≤ S3x272x512.size a)
    (i1 : ∀ a, (![o, 0] : Fin 2 → ℕ) a + S256x512.size a ≤ S272x512.size a)
    (v : (boxOf n o i0 i1).shape.Idx → Elt F .f32) : Vec F S256x512 .f32 :=
  fun x => v (Shape.reshapeEquiv ((Rect.unit (s := S272x512) ![o, 0] S256x512.size i1).toLoadRect.numel_consLift ![1, 272, 512] rfl fun _ => rfl) x)

/-- A load of 256 rows from row `o` of slot `n`. -/
theorem load_rows {sp : Space} (v : View sig .tc sp S3x272x512 .f32) (L : List (View.Piece (Elt F) S3x272x512 .f32)) (n o : ℕ)
    (i0 : ∀ a, (![n, 0, 0] : Fin 3 → ℕ) a + S1x272x512.size a ≤ S3x272x512.size a)
    (i1 : ∀ a, (![o, 0] : Fin 2 → ℕ) a + S256x512.size a ≤ S272x512.size a) :
    loadOf n o i0 i1 (v.readCov (Val := Elt F) L (boxOf n o i0 i1)) = slotRows (canon L) n o := by
  funext x
  have hx : Shape.reshapeEquiv ((Rect.unit (s := S272x512) ![o, 0] S256x512.size i1).toLoadRect.numel_consLift ![1, 272, 512] rfl fun _ => rfl) x
      = Fin.cons ⟨0, Nat.one_pos⟩ x :=
    Shape.reshapeEquiv_cons_one (d := S256x512.size) _ _
  have hb0 : n + 1 ≤ 3 := i0 0
  have hb1 : o + 256 ≤ 272 := i1 0
  have hx0 : (x 0).val < 256 := (x 0).isLt
  refine (congrFun (View.readCov_eq_canon' v L _) _).trans ?_
  unfold slotRows
  refine congrArg (canon L) ?_
  refine (congrArg (boxOf n o i0 i1).idx hx).trans ?_
  funext a
  refine Fin.ext ?_
  match a with
  | ⟨0, _⟩ => show n + 0 + 1 * 0 = n % 3; rw [Nat.mod_eq_of_lt (by omega)]; omega
  | ⟨1, _⟩ => show 0 + o + 1 * (x 0).val = (o + (x 0).val) % 272; rw [Nat.mod_eq_of_lt (by omega)]; omega
  | ⟨2, _⟩ => show 0 + 0 + 1 * (x 1).val = (x 1).val; omega

/-- A chunk's columns of the up projection, its gated product, and its share of the down projection. -/
def upOf (h : Vec F S272x1024 .bf16) (w : Vec F S1024x5632 .bf16) (n : ℕ) : Vec F S272x512 .f32 :=
  k0_pay9 h (cols w (256 * n)) (cols w (2816 + 256 * n))

def gatedOf (cg cv : Vec F S3x256 .f32) (bg bv : Vec F S1x256 .f32) (u0 u1 u2 : Vec F S256x512 .f32) : Vec F S256x256 .f32 :=
  mulf (k0_pay25 cg cv bg bv u0 u1 u2 : FVec F S256x256 .f32) (k0_pay26 cg cv bg bv u0 u1 u2)

def shareOf (g : Vec F S256x256 .f32) (w : Vec F S1x256x1024 .bf16) : FVec F S256x1024 .f32 :=
  matmul dot_S256x256_S256x1024_S256x1024_1_0_0_1_n_n none (truncf .bf16 (g : FVec F S256x256 .f32) bitsLt_bf16_f32 : FVec F S256x256 .bf16)
    (shapeCast S256x1024 w shapeCasts_S1x256x1024_S256x1024 : FVec F S256x1024 .bf16) (constant S256x1024 .f32 0x00000000#32)

def firstOf (g : Vec F S256x256 .f32) (w : Vec F S1x256x1024 .bf16) : Vec F S256x1024 .f32 :=
  shapeCast S256x1024 (shareOf g w) shapeCasts_S256x1024_S256x1024

def stepOf (a : Vec F S256x1024 .f32) (g : Vec F S256x256 .f32) (w : Vec F S1x256x1024 .bf16) : Vec F S256x1024 .f32 :=
  shapeCast S256x1024 (addf (a : FVec F S256x1024 .f32) (shareOf g w)) shapeCasts_S256x1024_S256x1024

/-- Chunk `n`'s gated product. -/
def gatedAt (h : Vec F S272x1024 .bf16) (w : Vec F S1024x5632 .bf16) (cw : Vec F S3x5632 .f32) (cb : Vec F S1x5632 .f32) (n : ℕ) : Vec F S256x256 .f32 :=
  gatedOf (taps cw (256 * n)) (taps cw (2816 + 256 * n)) (biases cb (256 * n)) (biases cb (2816 + 256 * n))
    (shifted (upOf h w n) 0) (shifted (upOf h w n) 8) (shifted (upOf h w n) 16)

/-- The accumulator after chunk `n`. -/
def accAt (h : Vec F S272x1024 .bf16) (w : Vec F S1024x5632 .bf16) (cw : Vec F S3x5632 .f32) (cb : Vec F S1x5632 .f32)
    (wd : Vec F S11x256x1024 .bf16) : ℕ → Vec F S256x1024 .f32
  | 0 => firstOf (gatedAt h w cw cb 0) (downs wd 0)
  | n + 1 => stepOf (accAt h w cw cb wd n) (gatedAt h w cw cb (n + 1)) (downs wd (n + 1))

section Run
variable (c : Dev nD) (i : grid0.Coords) (arg2 : Memref sig .tc .vmem S1x8x1024 .f32) (harg2 : arg2.IsWhole) (arg3 : Memref sig .tc .vmem S1x256x1024 .f32) (harg3 : arg3.IsWhole) (arg4 : Memref sig .tc .vmem S1x8x1024 .f32) (harg4 : arg4.IsWhole) (arg5 : Memref sig .tc .vmem S1x6x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S1x5632 .f32) (harg10 : arg10.IsWhole) (arg11 : Memref sig .tc .vmem S11x256x1024 .bf16) (harg11 : arg11.IsWhole) (arg12 : Memref sig .tc .vmem S256x256 .bf16) (harg12 : arg12.IsWhole) (arg13 : Memref sig .tc .vmem S256x256 .bf16) (harg13 : arg13.IsWhole) (arg14 : Memref sig .tc .vmem S1x256x1024 .f32) (harg14 : arg14.IsWhole) (arg15 : Memref sig .tc .vmem S272x1024 .bf16) (harg15 : arg15.IsWhole) (arg16 : Memref sig .tc .vmem S3x272x512 .f32) (harg16 : arg16.IsWhole) (arg17 : Memref sig .tc .vmem S256x1024 .f32) (harg17 : arg17.IsWhole)
    (x0 : Vec F S1x8x1024 .f32) (x1 : Vec F S1x256x1024 .f32) (x2 : Vec F S1x8x1024 .f32) (x3 : Vec F S1x6x1024 .f32) (x4 : Vec F S1x1024 .f32) (x5 : Vec F S1x1024 .f32) (x6 : Vec F S1024x5632 .bf16) (x7 : Vec F S3x5632 .f32) (x8 : Vec F S1x5632 .f32) (x9 : Vec F S11x256x1024 .bf16) (x10 : Vec F S256x256 .bf16) (x11 : Vec F S256x256 .bf16)

/-- The rows the chunks multiply. -/
def rowsOf : Vec F S272x1024 .bf16 := (kernelRun0_A.sl.v104 (F := F) c i arg2 harg2 arg3 harg3 arg4 harg4 arg5 harg5 arg6 harg6 arg12 harg12 arg15 x0 x1 x2 x3 x4 x10)

theorem up_0 : k0_pay9 (kernelRun0_A.sl.v104 (F := F) c i arg2 harg2 arg3 harg3 arg4 harg4 arg5 harg5 arg6 harg6 arg12 harg12 arg15 x0 x1 x2 x3 x4 x10) (View.readAt (Elt F) arg8.view (Rect.unit (s := S1024x5632) ![0, 0] S1024x256.size inb_S1024x5632_S1024x256_0_0).toLoadRect (harg8.unread x6)) (View.readAt (Elt F) arg8.view (Rect.unit (s := S1024x5632) ![0, 2816] S1024x256.size inb_S1024x5632_S1024x256_0_2816).toLoadRect (harg8.unread x6)) = upOf (rowsOf (F := F) c i arg2 harg2 arg3 harg3 arg4 harg4 arg5 harg5 arg6 harg6 arg12 harg12 arg15 x0 x1 x2 x3 x4 x10) x6 0 := by
  unfold upOf rowsOf
  rw [read_cols, read_cols]

theorem up_1 : k0_pay9 (kernelRun0_A.sl.v104 (F := F) c i arg2 harg2 arg3 harg3 arg4 harg4 arg5 harg5 arg6 harg6 arg12 harg12 arg15 x0 x1 x2 x3 x4 x10) (View.readAt (Elt F) arg8.view (Rect.unit (s := S1024x5632) ![0, 256] S1024x256.size inb_S1024x5632_S1024x256_0_256).toLoadRect (harg8.unread x6)) (View.readAt (Elt F) arg8.view (Rect.unit (s := S1024x5632) ![0, 3072] S1024x256.size inb_S1024x5632_S1024x256_0_3072).toLoadRect (harg8.unread x6)) = upOf (rowsOf (F := F) c i arg2 harg2 arg3 harg3 arg4 harg4 arg5 harg5 arg6 harg6 arg12 harg12 arg15 x0 x1 x2 x3 x4 x10) x6 1 := by
  unfold upOf rowsOf
  rw [read_cols, read_cols]

theorem up_2 : k0_pay9 (kernelRun0_A.sl.v104 (F := F) c i arg2 harg2 arg3 harg3 arg4 harg4 arg5 harg5 arg6 harg6 arg12 harg12 arg15 x0 x1 x2 x3 x4 x10) (View.readAt (Elt F) arg8.view (Rect.unit (s := S1024x5632) ![0, 512] S1024x256.size inb_S1024x5632_S1024x256_0_512).toLoadRect (harg8.unread x6)) (View.readAt (Elt F) arg8.view (Rect.unit (s := S1024x5632) ![0, 3328] S1024x256.size inb_S1024x5632_S1024x256_0_3328).toLoadRect (harg8.unread x6)) = upOf (rowsOf (F := F) c i arg2 harg2 arg3 harg3 arg4 harg4 arg5 harg5 arg6 harg6 arg12 harg12 arg15 x0 x1 x2 x3 x4 x10) x6 2 := by
  unfold upOf rowsOf
  rw [read_cols, read_cols]

theorem up_3 : k0_pay9 (kernelRun0_A.sl.v104 (F := F) c i arg2 harg2 arg3 harg3 arg4 harg4 arg5 harg5 arg6 harg6 arg12 harg12 arg15 x0 x1 x2 x3 x4 x10) (View.readAt (Elt F) arg8.view (Rect.unit (s := S1024x5632) ![0, 768] S1024x256.size inb_S1024x5632_S1024x256_0_768).toLoadRect (harg8.unread x6)) (View.readAt (Elt F) arg8.view (Rect.unit (s := S1024x5632) ![0, 3584] S1024x256.size inb_S1024x5632_S1024x256_0_3584).toLoadRect (harg8.unread x6)) = upOf (rowsOf (F := F) c i arg2 harg2 arg3 harg3 arg4 harg4 arg5 harg5 arg6 harg6 arg12 harg12 arg15 x0 x1 x2 x3 x4 x10) x6 3 := by
  unfold upOf rowsOf
  rw [read_cols, read_cols]

theorem up_4 : k0_pay9 (kernelRun0_A.sl.v104 (F := F) c i arg2 harg2 arg3 harg3 arg4 harg4 arg5 harg5 arg6 harg6 arg12 harg12 arg15 x0 x1 x2 x3 x4 x10) (View.readAt (Elt F) arg8.view (Rect.unit (s := S1024x5632) ![0, 1024] S1024x256.size inb_S1024x5632_S1024x256_0_1024).toLoadRect (harg8.unread x6)) (View.readAt (Elt F) arg8.view (Rect.unit (s := S1024x5632) ![0, 3840] S1024x256.size inb_S1024x5632_S1024x256_0_3840).toLoadRect (harg8.unread x6)) = upOf (rowsOf (F := F) c i arg2 harg2 arg3 harg3 arg4 harg4 arg5 harg5 arg6 harg6 arg12 harg12 arg15 x0 x1 x2 x3 x4 x10) x6 4 := by
  unfold upOf rowsOf
  rw [read_cols, read_cols]

theorem up_5 : k0_pay9 (kernelRun0_A.sl.v104 (F := F) c i arg2 harg2 arg3 harg3 arg4 harg4 arg5 harg5 arg6 harg6 arg12 harg12 arg15 x0 x1 x2 x3 x4 x10) (View.readAt (Elt F) arg8.view (Rect.unit (s := S1024x5632) ![0, 1280] S1024x256.size inb_S1024x5632_S1024x256_0_1280).toLoadRect (harg8.unread x6)) (View.readAt (Elt F) arg8.view (Rect.unit (s := S1024x5632) ![0, 4096] S1024x256.size inb_S1024x5632_S1024x256_0_4096).toLoadRect (harg8.unread x6)) = upOf (rowsOf (F := F) c i arg2 harg2 arg3 harg3 arg4 harg4 arg5 harg5 arg6 harg6 arg12 harg12 arg15 x0 x1 x2 x3 x4 x10) x6 5 := by
  unfold upOf rowsOf
  rw [read_cols, read_cols]

theorem up_6 : k0_pay9 (kernelRun0_A.sl.v104 (F := F) c i arg2 harg2 arg3 harg3 arg4 harg4 arg5 harg5 arg6 harg6 arg12 harg12 arg15 x0 x1 x2 x3 x4 x10) (View.readAt (Elt F) arg8.view (Rect.unit (s := S1024x5632) ![0, 1536] S1024x256.size inb_S1024x5632_S1024x256_0_1536).toLoadRect (harg8.unread x6)) (View.readAt (Elt F) arg8.view (Rect.unit (s := S1024x5632) ![0, 4352] S1024x256.size inb_S1024x5632_S1024x256_0_4352).toLoadRect (harg8.unread x6)) = upOf (rowsOf (F := F) c i arg2 harg2 arg3 harg3 arg4 harg4 arg5 harg5 arg6 harg6 arg12 harg12 arg15 x0 x1 x2 x3 x4 x10) x6 6 := by
  unfold upOf rowsOf
  rw [read_cols, read_cols]

theorem up_7 : k0_pay9 (kernelRun0_A.sl.v104 (F := F) c i arg2 harg2 arg3 harg3 arg4 harg4 arg5 harg5 arg6 harg6 arg12 harg12 arg15 x0 x1 x2 x3 x4 x10) (View.readAt (Elt F) arg8.view (Rect.unit (s := S1024x5632) ![0, 1792] S1024x256.size inb_S1024x5632_S1024x256_0_1792).toLoadRect (harg8.unread x6)) (View.readAt (Elt F) arg8.view (Rect.unit (s := S1024x5632) ![0, 4608] S1024x256.size inb_S1024x5632_S1024x256_0_4608).toLoadRect (harg8.unread x6)) = upOf (rowsOf (F := F) c i arg2 harg2 arg3 harg3 arg4 harg4 arg5 harg5 arg6 harg6 arg12 harg12 arg15 x0 x1 x2 x3 x4 x10) x6 7 := by
  unfold upOf rowsOf
  rw [read_cols, read_cols]

theorem up_8 : k0_pay9 (kernelRun0_A.sl.v104 (F := F) c i arg2 harg2 arg3 harg3 arg4 harg4 arg5 harg5 arg6 harg6 arg12 harg12 arg15 x0 x1 x2 x3 x4 x10) (View.readAt (Elt F) arg8.view (Rect.unit (s := S1024x5632) ![0, 2048] S1024x256.size inb_S1024x5632_S1024x256_0_2048).toLoadRect (harg8.unread x6)) (View.readAt (Elt F) arg8.view (Rect.unit (s := S1024x5632) ![0, 4864] S1024x256.size inb_S1024x5632_S1024x256_0_4864).toLoadRect (harg8.unread x6)) = upOf (rowsOf (F := F) c i arg2 harg2 arg3 harg3 arg4 harg4 arg5 harg5 arg6 harg6 arg12 harg12 arg15 x0 x1 x2 x3 x4 x10) x6 8 := by
  unfold upOf rowsOf
  rw [read_cols, read_cols]

theorem up_9 : k0_pay9 (kernelRun0_A.sl.v104 (F := F) c i arg2 harg2 arg3 harg3 arg4 harg4 arg5 harg5 arg6 harg6 arg12 harg12 arg15 x0 x1 x2 x3 x4 x10) (View.readAt (Elt F) arg8.view (Rect.unit (s := S1024x5632) ![0, 2304] S1024x256.size inb_S1024x5632_S1024x256_0_2304).toLoadRect (harg8.unread x6)) (View.readAt (Elt F) arg8.view (Rect.unit (s := S1024x5632) ![0, 5120] S1024x256.size inb_S1024x5632_S1024x256_0_5120).toLoadRect (harg8.unread x6)) = upOf (rowsOf (F := F) c i arg2 harg2 arg3 harg3 arg4 harg4 arg5 harg5 arg6 harg6 arg12 harg12 arg15 x0 x1 x2 x3 x4 x10) x6 9 := by
  unfold upOf rowsOf
  rw [read_cols, read_cols]

theorem up_10 : k0_pay9 (kernelRun0_A.sl.v104 (F := F) c i arg2 harg2 arg3 harg3 arg4 harg4 arg5 harg5 arg6 harg6 arg12 harg12 arg15 x0 x1 x2 x3 x4 x10) (View.readAt (Elt F) arg8.view (Rect.unit (s := S1024x5632) ![0, 2560] S1024x256.size inb_S1024x5632_S1024x256_0_2560).toLoadRect (harg8.unread x6)) (View.readAt (Elt F) arg8.view (Rect.unit (s := S1024x5632) ![0, 5376] S1024x256.size inb_S1024x5632_S1024x256_0_5376).toLoadRect (harg8.unread x6)) = upOf (rowsOf (F := F) c i arg2 harg2 arg3 harg3 arg4 harg4 arg5 harg5 arg6 harg6 arg12 harg12 arg15 x0 x1 x2 x3 x4 x10) x6 10 := by
  unfold upOf rowsOf
  rw [read_cols, read_cols]

theorem ring_9 : canon (kernelRun0_A.sl.HS1_9 (F := F) c i arg2 harg2 arg3 harg3 arg4 harg4 arg5 harg5 arg6 harg6 arg8 harg8 arg12 harg12 arg15 x0 x1 x2 x3 x4 x6 x10) = over 2 (upOf (rowsOf (F := F) c i arg2 harg2 arg3 harg3 arg4 harg4 arg5 harg5 arg6 harg6 arg12 harg12 arg15 x0 x1 x2 x3 x4 x10) x6 2) (over 1 (upOf (rowsOf (F := F) c i arg2 harg2 arg3 harg3 arg4 harg4 arg5 harg5 arg6 harg6 arg12 harg12 arg15 x0 x1 x2 x3 x4 x10) x6 1) (over 0 (upOf (rowsOf (F := F) c i arg2 harg2 arg3 harg3 arg4 harg4 arg5 harg5 arg6 harg6 arg12 harg12 arg15 x0 x1 x2 x3 x4 x10) x6 0) (canon []))) := by
  rw [← up_0 c i arg2 harg2 arg3 harg3 arg4 harg4 arg5 harg5 arg6 harg6 arg8 harg8 arg12 harg12 arg15 x0 x1 x2 x3 x4 x6 x10, ← up_1 c i arg2 harg2 arg3 harg3 arg4 harg4 arg5 harg5 arg6 harg6 arg8 harg8 arg12 harg12 arg15 x0 x1 x2 x3 x4 x6 x10, ← up_2 c i arg2 harg2 arg3 harg3 arg4 harg4 arg5 harg5 arg6 harg6 arg8 harg8 arg12 harg12 arg15 x0 x1 x2 x3 x4 x6 x10]
  refine (canon_group (F := F) 2 inb_S3x272x512_S1x272x512_2_0_0 inb_S272x512_S8x512_264_0 inb_S272x512_S8x512_0_0 inb_S272x512_S256x512_8_0 _ _ _ _ _ _ (k0_pay9 (kernelRun0_A.sl.v104 (F := F) c i arg2 harg2 arg3 harg3 arg4 harg4 arg5 harg5 arg6 harg6 arg12 harg12 arg15 x0 x1 x2 x3 x4 x10) (View.readAt (Elt F) arg8.view (Rect.unit (s := S1024x5632) ![0, 512] S1024x256.size inb_S1024x5632_S1024x256_0_512).toLoadRect (harg8.unread x6)) (View.readAt (Elt F) arg8.view (Rect.unit (s := S1024x5632) ![0, 3328] S1024x256.size inb_S1024x5632_S1024x256_0_3328).toLoadRect (harg8.unread x6))) _).trans (congrArg (over 2 _) ?_)
  refine (canon_group (F := F) 1 inb_S3x272x512_S1x272x512_1_0_0 inb_S272x512_S8x512_264_0 inb_S272x512_S8x512_0_0 inb_S272x512_S256x512_8_0 _ _ _ _ _ _ (k0_pay9 (kernelRun0_A.sl.v104 (F := F) c i arg2 harg2 arg3 harg3 arg4 harg4 arg5 harg5 arg6 harg6 arg12 harg12 arg15 x0 x1 x2 x3 x4 x10) (View.readAt (Elt F) arg8.view (Rect.unit (s := S1024x5632) ![0, 256] S1024x256.size inb_S1024x5632_S1024x256_0_256).toLoadRect (harg8.unread x6)) (View.readAt (Elt F) arg8.view (Rect.unit (s := S1024x5632) ![0, 3072] S1024x256.size inb_S1024x5632_S1024x256_0_3072).toLoadRect (harg8.unread x6))) _).trans (congrArg (over 1 _) ?_)
  exact canon_group (F := F) 0 inb_S3x272x512_S1x272x512_0_0_0 inb_S272x512_S8x512_264_0 inb_S272x512_S8x512_0_0 inb_S272x512_S256x512_8_0 _ _ _ _ _ _ (k0_pay9 (kernelRun0_A.sl.v104 (F := F) c i arg2 harg2 arg3 harg3 arg4 harg4 arg5 harg5 arg6 harg6 arg12 harg12 arg15 x0 x1 x2 x3 x4 x10) (View.readAt (Elt F) arg8.view (Rect.unit (s := S1024x5632) ![0, 0] S1024x256.size inb_S1024x5632_S1024x256_0_0).toLoadRect (harg8.unread x6)) (View.readAt (Elt F) arg8.view (Rect.unit (s := S1024x5632) ![0, 2816] S1024x256.size inb_S1024x5632_S1024x256_0_2816).toLoadRect (harg8.unread x6))) []

theorem ring_12 : canon (kernelRun0_A.sl.HS1_12 (F := F) c i arg2 harg2 arg3 harg3 arg4 harg4 arg5 harg5 arg6 harg6 arg8 harg8 arg12 harg12 arg15 x0 x1 x2 x3 x4 x6 x10) = over 0 (upOf (rowsOf (F := F) c i arg2 harg2 arg3 harg3 arg4 harg4 arg5 harg5 arg6 harg6 arg12 harg12 arg15 x0 x1 x2 x3 x4 x10) x6 3) (canon (kernelRun0_A.sl.HS1_9 (F := F) c i arg2 harg2 arg3 harg3 arg4 harg4 arg5 harg5 arg6 harg6 arg8 harg8 arg12 harg12 arg15 x0 x1 x2 x3 x4 x6 x10)) := by
  rw [← up_3 c i arg2 harg2 arg3 harg3 arg4 harg4 arg5 harg5 arg6 harg6 arg8 harg8 arg12 harg12 arg15 x0 x1 x2 x3 x4 x6 x10]
  exact canon_group (F := F) 0 inb_S3x272x512_S1x272x512_0_0_0 inb_S272x512_S8x512_264_0 inb_S272x512_S8x512_0_0 inb_S272x512_S256x512_8_0 _ _ _ _ _ _ (k0_pay9 (kernelRun0_A.sl.v104 (F := F) c i arg2 harg2 arg3 harg3 arg4 harg4 arg5 harg5 arg6 harg6 arg12 harg12 arg15 x0 x1 x2 x3 x4 x10) (View.readAt (Elt F) arg8.view (Rect.unit (s := S1024x5632) ![0, 768] S1024x256.size inb_S1024x5632_S1024x256_0_768).toLoadRect (harg8.unread x6)) (View.readAt (Elt F) arg8.view (Rect.unit (s := S1024x5632) ![0, 3584] S1024x256.size inb_S1024x5632_S1024x256_0_3584).toLoadRect (harg8.unread x6))) (kernelRun0_A.sl.HS1_9 (F := F) c i arg2 harg2 arg3 harg3 arg4 harg4 arg5 harg5 arg6 harg6 arg8 harg8 arg12 harg12 arg15 x0 x1 x2 x3 x4 x6 x10)

theorem ring_15 : canon (kernelRun0_A.sl.HS1_15 (F := F) c i arg2 harg2 arg3 harg3 arg4 harg4 arg5 harg5 arg6 harg6 arg8 harg8 arg12 harg12 arg15 x0 x1 x2 x3 x4 x6 x10) = over 1 (upOf (rowsOf (F := F) c i arg2 harg2 arg3 harg3 arg4 harg4 arg5 harg5 arg6 harg6 arg12 harg12 arg15 x0 x1 x2 x3 x4 x10) x6 4) (canon (kernelRun0_A.sl.HS1_12 (F := F) c i arg2 harg2 arg3 harg3 arg4 harg4 arg5 harg5 arg6 harg6 arg8 harg8 arg12 harg12 arg15 x0 x1 x2 x3 x4 x6 x10)) := by
  rw [← up_4 c i arg2 harg2 arg3 harg3 arg4 harg4 arg5 harg5 arg6 harg6 arg8 harg8 arg12 harg12 arg15 x0 x1 x2 x3 x4 x6 x10]
  exact canon_group (F := F) 1 inb_S3x272x512_S1x272x512_1_0_0 inb_S272x512_S8x512_264_0 inb_S272x512_S8x512_0_0 inb_S272x512_S256x512_8_0 _ _ _ _ _ _ (k0_pay9 (kernelRun0_A.sl.v104 (F := F) c i arg2 harg2 arg3 harg3 arg4 harg4 arg5 harg5 arg6 harg6 arg12 harg12 arg15 x0 x1 x2 x3 x4 x10) (View.readAt (Elt F) arg8.view (Rect.unit (s := S1024x5632) ![0, 1024] S1024x256.size inb_S1024x5632_S1024x256_0_1024).toLoadRect (harg8.unread x6)) (View.readAt (Elt F) arg8.view (Rect.unit (s := S1024x5632) ![0, 3840] S1024x256.size inb_S1024x5632_S1024x256_0_3840).toLoadRect (harg8.unread x6))) (kernelRun0_A.sl.HS1_12 (F := F) c i arg2 harg2 arg3 harg3 arg4 harg4 arg5 harg5 arg6 harg6 arg8 harg8 arg12 harg12 arg15 x0 x1 x2 x3 x4 x6 x10)

theorem ring_18 : canon (kernelRun0_A.sl.HS1_18 (F := F) c i arg2 harg2 arg3 harg3 arg4 harg4 arg5 harg5 arg6 harg6 arg8 harg8 arg12 harg12 arg15 x0 x1 x2 x3 x4 x6 x10) = over 2 (upOf (rowsOf (F := F) c i arg2 harg2 arg3 harg3 arg4 harg4 arg5 harg5 arg6 harg6 arg12 harg12 arg15 x0 x1 x2 x3 x4 x10) x6 5) (canon (kernelRun0_A.sl.HS1_15 (F := F) c i arg2 harg2 arg3 harg3 arg4 harg4 arg5 harg5 arg6 harg6 arg8 harg8 arg12 harg12 arg15 x0 x1 x2 x3 x4 x6 x10)) := by
  rw [← up_5 c i arg2 harg2 arg3 harg3 arg4 harg4 arg5 harg5 arg6 harg6 arg8 harg8 arg12 harg12 arg15 x0 x1 x2 x3 x4 x6 x10]
  exact canon_group (F := F) 2 inb_S3x272x512_S1x272x512_2_0_0 inb_S272x512_S8x512_264_0 inb_S272x512_S8x512_0_0 inb_S272x512_S256x512_8_0 _ _ _ _ _ _ (k0_pay9 (kernelRun0_A.sl.v104 (F := F) c i arg2 harg2 arg3 harg3 arg4 harg4 arg5 harg5 arg6 harg6 arg12 harg12 arg15 x0 x1 x2 x3 x4 x10) (View.readAt (Elt F) arg8.view (Rect.unit (s := S1024x5632) ![0, 1280] S1024x256.size inb_S1024x5632_S1024x256_0_1280).toLoadRect (harg8.unread x6)) (View.readAt (Elt F) arg8.view (Rect.unit (s := S1024x5632) ![0, 4096] S1024x256.size inb_S1024x5632_S1024x256_0_4096).toLoadRect (harg8.unread x6))) (kernelRun0_A.sl.HS1_15 (F := F) c i arg2 harg2 arg3 harg3 arg4 harg4 arg5 harg5 arg6 harg6 arg8 harg8 arg12 harg12 arg15 x0 x1 x2 x3 x4 x6 x10)

theorem ring_21 : canon (kernelRun0_A.sl.HS1_21 (F := F) c i arg2 harg2 arg3 harg3 arg4 harg4 arg5 harg5 arg6 harg6 arg8 harg8 arg12 harg12 arg15 x0 x1 x2 x3 x4 x6 x10) = over 0 (upOf (rowsOf (F := F) c i arg2 harg2 arg3 harg3 arg4 harg4 arg5 harg5 arg6 harg6 arg12 harg12 arg15 x0 x1 x2 x3 x4 x10) x6 6) (canon (kernelRun0_A.sl.HS1_18 (F := F) c i arg2 harg2 arg3 harg3 arg4 harg4 arg5 harg5 arg6 harg6 arg8 harg8 arg12 harg12 arg15 x0 x1 x2 x3 x4 x6 x10)) := by
  rw [← up_6 c i arg2 harg2 arg3 harg3 arg4 harg4 arg5 harg5 arg6 harg6 arg8 harg8 arg12 harg12 arg15 x0 x1 x2 x3 x4 x6 x10]
  exact canon_group (F := F) 0 inb_S3x272x512_S1x272x512_0_0_0 inb_S272x512_S8x512_264_0 inb_S272x512_S8x512_0_0 inb_S272x512_S256x512_8_0 _ _ _ _ _ _ (k0_pay9 (kernelRun0_A.sl.v104 (F := F) c i arg2 harg2 arg3 harg3 arg4 harg4 arg5 harg5 arg6 harg6 arg12 harg12 arg15 x0 x1 x2 x3 x4 x10) (View.readAt (Elt F) arg8.view (Rect.unit (s := S1024x5632) ![0, 1536] S1024x256.size inb_S1024x5632_S1024x256_0_1536).toLoadRect (harg8.unread x6)) (View.readAt (Elt F) arg8.view (Rect.unit (s := S1024x5632) ![0, 4352] S1024x256.size inb_S1024x5632_S1024x256_0_4352).toLoadRect (harg8.unread x6))) (kernelRun0_A.sl.HS1_18 (F := F) c i arg2 harg2 arg3 harg3 arg4 harg4 arg5 harg5 arg6 harg6 arg8 harg8 arg12 harg12 arg15 x0 x1 x2 x3 x4 x6 x10)

theorem ring_24 : canon (kernelRun0_A.sl.HS1_24 (F := F) c i arg2 harg2 arg3 harg3 arg4 harg4 arg5 harg5 arg6 harg6 arg8 harg8 arg12 harg12 arg15 x0 x1 x2 x3 x4 x6 x10) = over 1 (upOf (rowsOf (F := F) c i arg2 harg2 arg3 harg3 arg4 harg4 arg5 harg5 arg6 harg6 arg12 harg12 arg15 x0 x1 x2 x3 x4 x10) x6 7) (canon (kernelRun0_A.sl.HS1_21 (F := F) c i arg2 harg2 arg3 harg3 arg4 harg4 arg5 harg5 arg6 harg6 arg8 harg8 arg12 harg12 arg15 x0 x1 x2 x3 x4 x6 x10)) := by
  rw [← up_7 c i arg2 harg2 arg3 harg3 arg4 harg4 arg5 harg5 arg6 harg6 arg8 harg8 arg12 harg12 arg15 x0 x1 x2 x3 x4 x6 x10]
  exact canon_group (F := F) 1 inb_S3x272x512_S1x272x512_1_0_0 inb_S272x512_S8x512_264_0 inb_S272x512_S8x512_0_0 inb_S272x512_S256x512_8_0 _ _ _ _ _ _ (k0_pay9 (kernelRun0_A.sl.v104 (F := F) c i arg2 harg2 arg3 harg3 arg4 harg4 arg5 harg5 arg6 harg6 arg12 harg12 arg15 x0 x1 x2 x3 x4 x10) (View.readAt (Elt F) arg8.view (Rect.unit (s := S1024x5632) ![0, 1792] S1024x256.size inb_S1024x5632_S1024x256_0_1792).toLoadRect (harg8.unread x6)) (View.readAt (Elt F) arg8.view (Rect.unit (s := S1024x5632) ![0, 4608] S1024x256.size inb_S1024x5632_S1024x256_0_4608).toLoadRect (harg8.unread x6))) (kernelRun0_A.sl.HS1_21 (F := F) c i arg2 harg2 arg3 harg3 arg4 harg4 arg5 harg5 arg6 harg6 arg8 harg8 arg12 harg12 arg15 x0 x1 x2 x3 x4 x6 x10)

theorem ring_27 : canon (kernelRun0_A.sl.HS1_27 (F := F) c i arg2 harg2 arg3 harg3 arg4 harg4 arg5 harg5 arg6 harg6 arg8 harg8 arg12 harg12 arg15 x0 x1 x2 x3 x4 x6 x10) = over 2 (upOf (rowsOf (F := F) c i arg2 harg2 arg3 harg3 arg4 harg4 arg5 harg5 arg6 harg6 arg12 harg12 arg15 x0 x1 x2 x3 x4 x10) x6 8) (canon (kernelRun0_A.sl.HS1_24 (F := F) c i arg2 harg2 arg3 harg3 arg4 harg4 arg5 harg5 arg6 harg6 arg8 harg8 arg12 harg12 arg15 x0 x1 x2 x3 x4 x6 x10)) := by
  rw [← up_8 c i arg2 harg2 arg3 harg3 arg4 harg4 arg5 harg5 arg6 harg6 arg8 harg8 arg12 harg12 arg15 x0 x1 x2 x3 x4 x6 x10]
  exact canon_group (F := F) 2 inb_S3x272x512_S1x272x512_2_0_0 inb_S272x512_S8x512_264_0 inb_S272x512_S8x512_0_0 inb_S272x512_S256x512_8_0 _ _ _ _ _ _ (k0_pay9 (kernelRun0_A.sl.v104 (F := F) c i arg2 harg2 arg3 harg3 arg4 harg4 arg5 harg5 arg6 harg6 arg12 harg12 arg15 x0 x1 x2 x3 x4 x10) (View.readAt (Elt F) arg8.view (Rect.unit (s := S1024x5632) ![0, 2048] S1024x256.size inb_S1024x5632_S1024x256_0_2048).toLoadRect (harg8.unread x6)) (View.readAt (Elt F) arg8.view (Rect.unit (s := S1024x5632) ![0, 4864] S1024x256.size inb_S1024x5632_S1024x256_0_4864).toLoadRect (harg8.unread x6))) (kernelRun0_A.sl.HS1_24 (F := F) c i arg2 harg2 arg3 harg3 arg4 harg4 arg5 harg5 arg6 harg6 arg8 harg8 arg12 harg12 arg15 x0 x1 x2 x3 x4 x6 x10)

theorem ring_30 : canon (kernelRun0_A.sl.HS1_30 (F := F) c i arg2 harg2 arg3 harg3 arg4 harg4 arg5 harg5 arg6 harg6 arg8 harg8 arg12 harg12 arg15 x0 x1 x2 x3 x4 x6 x10) = over 0 (upOf (rowsOf (F := F) c i arg2 harg2 arg3 harg3 arg4 harg4 arg5 harg5 arg6 harg6 arg12 harg12 arg15 x0 x1 x2 x3 x4 x10) x6 9) (canon (kernelRun0_A.sl.HS1_27 (F := F) c i arg2 harg2 arg3 harg3 arg4 harg4 arg5 harg5 arg6 harg6 arg8 harg8 arg12 harg12 arg15 x0 x1 x2 x3 x4 x6 x10)) := by
  rw [← up_9 c i arg2 harg2 arg3 harg3 arg4 harg4 arg5 harg5 arg6 harg6 arg8 harg8 arg12 harg12 arg15 x0 x1 x2 x3 x4 x6 x10]
  exact canon_group (F := F) 0 inb_S3x272x512_S1x272x512_0_0_0 inb_S272x512_S8x512_264_0 inb_S272x512_S8x512_0_0 inb_S272x512_S256x512_8_0 _ _ _ _ _ _ (k0_pay9 (kernelRun0_A.sl.v104 (F := F) c i arg2 harg2 arg3 harg3 arg4 harg4 arg5 harg5 arg6 harg6 arg12 harg12 arg15 x0 x1 x2 x3 x4 x10) (View.readAt (Elt F) arg8.view (Rect.unit (s := S1024x5632) ![0, 2304] S1024x256.size inb_S1024x5632_S1024x256_0_2304).toLoadRect (harg8.unread x6)) (View.readAt (Elt F) arg8.view (Rect.unit (s := S1024x5632) ![0, 5120] S1024x256.size inb_S1024x5632_S1024x256_0_5120).toLoadRect (harg8.unread x6))) (kernelRun0_A.sl.HS1_27 (F := F) c i arg2 harg2 arg3 harg3 arg4 harg4 arg5 harg5 arg6 harg6 arg8 harg8 arg12 harg12 arg15 x0 x1 x2 x3 x4 x6 x10)

theorem ring_33 : canon (kernelRun0_A.sl.HS1_33 (F := F) c i arg2 harg2 arg3 harg3 arg4 harg4 arg5 harg5 arg6 harg6 arg8 harg8 arg12 harg12 arg15 x0 x1 x2 x3 x4 x6 x10) = over 1 (upOf (rowsOf (F := F) c i arg2 harg2 arg3 harg3 arg4 harg4 arg5 harg5 arg6 harg6 arg12 harg12 arg15 x0 x1 x2 x3 x4 x10) x6 10) (canon (kernelRun0_A.sl.HS1_30 (F := F) c i arg2 harg2 arg3 harg3 arg4 harg4 arg5 harg5 arg6 harg6 arg8 harg8 arg12 harg12 arg15 x0 x1 x2 x3 x4 x6 x10)) := by
  rw [← up_10 c i arg2 harg2 arg3 harg3 arg4 harg4 arg5 harg5 arg6 harg6 arg8 harg8 arg12 harg12 arg15 x0 x1 x2 x3 x4 x6 x10]
  exact canon_group (F := F) 1 inb_S3x272x512_S1x272x512_1_0_0 inb_S272x512_S8x512_264_0 inb_S272x512_S8x512_0_0 inb_S272x512_S256x512_8_0 _ _ _ _ _ _ (k0_pay9 (kernelRun0_A.sl.v104 (F := F) c i arg2 harg2 arg3 harg3 arg4 harg4 arg5 harg5 arg6 harg6 arg12 harg12 arg15 x0 x1 x2 x3 x4 x10) (View.readAt (Elt F) arg8.view (Rect.unit (s := S1024x5632) ![0, 2560] S1024x256.size inb_S1024x5632_S1024x256_0_2560).toLoadRect (harg8.unread x6)) (View.readAt (Elt F) arg8.view (Rect.unit (s := S1024x5632) ![0, 5376] S1024x256.size inb_S1024x5632_S1024x256_0_5376).toLoadRect (harg8.unread x6))) (kernelRun0_A.sl.HS1_30 (F := F) c i arg2 harg2 arg3 harg3 arg4 harg4 arg5 harg5 arg6 harg6 arg8 harg8 arg12 harg12 arg15 x0 x1 x2 x3 x4 x6 x10)

theorem load_0_0 : (loadOf (F := F) 0 0 inb_S3x272x512_S1x272x512_0_0_0 inb_S272x512_S256x512_0_0 (kernelRun0_A.sl.v234 (F := F) c i arg2 harg2 arg3 harg3 arg4 harg4 arg5 harg5 arg6 harg6 arg8 harg8 arg12 harg12 arg15 arg16 x0 x1 x2 x3 x4 x6 x10)) = shifted (upOf (rowsOf (F := F) c i arg2 harg2 arg3 harg3 arg4 harg4 arg5 harg5 arg6 harg6 arg12 harg12 arg15 x0 x1 x2 x3 x4 x10) x6 0) 0 := by
  refine (load_rows arg16.view (kernelRun0_A.sl.HS1_9 (F := F) c i arg2 harg2 arg3 harg3 arg4 harg4 arg5 harg5 arg6 harg6 arg8 harg8 arg12 harg12 arg15 x0 x1 x2 x3 x4 x6 x10) 0 0 inb_S3x272x512_S1x272x512_0_0_0 inb_S272x512_S256x512_0_0).trans ?_
  rw [ring_9]
  rw [slotRows_skip 0 2 0 (by decide)]
  rw [slotRows_skip 0 1 0 (by decide)]
  exact slotRows_hit 0 0 rfl _ _

theorem load_0_1 : (loadOf (F := F) 0 8 inb_S3x272x512_S1x272x512_0_0_0 inb_S272x512_S256x512_8_0 (kernelRun0_A.sl.v240 (F := F) c i arg2 harg2 arg3 harg3 arg4 harg4 arg5 harg5 arg6 harg6 arg8 harg8 arg12 harg12 arg15 arg16 x0 x1 x2 x3 x4 x6 x10)) = shifted (upOf (rowsOf (F := F) c i arg2 harg2 arg3 harg3 arg4 harg4 arg5 harg5 arg6 harg6 arg12 harg12 arg15 x0 x1 x2 x3 x4 x10) x6 0) 8 := by
  refine (load_rows arg16.view (kernelRun0_A.sl.HS1_9 (F := F) c i arg2 harg2 arg3 harg3 arg4 harg4 arg5 harg5 arg6 harg6 arg8 harg8 arg12 harg12 arg15 x0 x1 x2 x3 x4 x6 x10) 0 8 inb_S3x272x512_S1x272x512_0_0_0 inb_S272x512_S256x512_8_0).trans ?_
  rw [ring_9]
  rw [slotRows_skip 0 2 8 (by decide)]
  rw [slotRows_skip 0 1 8 (by decide)]
  exact slotRows_hit 0 8 rfl _ _

theorem load_0_2 : (loadOf (F := F) 0 16 inb_S3x272x512_S1x272x512_0_0_0 inb_S272x512_S256x512_16_0 (kernelRun0_A.sl.v247 (F := F) c i arg2 harg2 arg3 harg3 arg4 harg4 arg5 harg5 arg6 harg6 arg8 harg8 arg12 harg12 arg15 arg16 x0 x1 x2 x3 x4 x6 x10)) = shifted (upOf (rowsOf (F := F) c i arg2 harg2 arg3 harg3 arg4 harg4 arg5 harg5 arg6 harg6 arg12 harg12 arg15 x0 x1 x2 x3 x4 x10) x6 0) 16 := by
  refine (load_rows arg16.view (kernelRun0_A.sl.HS1_9 (F := F) c i arg2 harg2 arg3 harg3 arg4 harg4 arg5 harg5 arg6 harg6 arg8 harg8 arg12 harg12 arg15 x0 x1 x2 x3 x4 x6 x10) 0 16 inb_S3x272x512_S1x272x512_0_0_0 inb_S272x512_S256x512_16_0).trans ?_
  rw [ring_9]
  rw [slotRows_skip 0 2 16 (by decide)]
  rw [slotRows_skip 0 1 16 (by decide)]
  exact slotRows_hit 0 16 rfl _ _

theorem load_1_0 : (loadOf (F := F) 1 0 inb_S3x272x512_S1x272x512_1_0_0 inb_S272x512_S256x512_0_0 (kernelRun0_A.sl.v316 (F := F) c i arg2 harg2 arg3 harg3 arg4 harg4 arg5 harg5 arg6 harg6 arg8 harg8 arg12 harg12 arg15 arg16 x0 x1 x2 x3 x4 x6 x10)) = shifted (upOf (rowsOf (F := F) c i arg2 harg2 arg3 harg3 arg4 harg4 arg5 harg5 arg6 harg6 arg12 harg12 arg15 x0 x1 x2 x3 x4 x10) x6 1) 0 := by
  refine (load_rows arg16.view (kernelRun0_A.sl.HS1_12 (F := F) c i arg2 harg2 arg3 harg3 arg4 harg4 arg5 harg5 arg6 harg6 arg8 harg8 arg12 harg12 arg15 x0 x1 x2 x3 x4 x6 x10) 1 0 inb_S3x272x512_S1x272x512_1_0_0 inb_S272x512_S256x512_0_0).trans ?_
  rw [ring_12]
  rw [slotRows_skip 1 0 0 (by decide)]
  rw [ring_9]
  rw [slotRows_skip 1 2 0 (by decide)]
  exact slotRows_hit 1 0 rfl _ _

theorem load_1_1 : (loadOf (F := F) 1 8 inb_S3x272x512_S1x272x512_1_0_0 inb_S272x512_S256x512_8_0 (kernelRun0_A.sl.v322 (F := F) c i arg2 harg2 arg3 harg3 arg4 harg4 arg5 harg5 arg6 harg6 arg8 harg8 arg12 harg12 arg15 arg16 x0 x1 x2 x3 x4 x6 x10)) = shifted (upOf (rowsOf (F := F) c i arg2 harg2 arg3 harg3 arg4 harg4 arg5 harg5 arg6 harg6 arg12 harg12 arg15 x0 x1 x2 x3 x4 x10) x6 1) 8 := by
  refine (load_rows arg16.view (kernelRun0_A.sl.HS1_12 (F := F) c i arg2 harg2 arg3 harg3 arg4 harg4 arg5 harg5 arg6 harg6 arg8 harg8 arg12 harg12 arg15 x0 x1 x2 x3 x4 x6 x10) 1 8 inb_S3x272x512_S1x272x512_1_0_0 inb_S272x512_S256x512_8_0).trans ?_
  rw [ring_12]
  rw [slotRows_skip 1 0 8 (by decide)]
  rw [ring_9]
  rw [slotRows_skip 1 2 8 (by decide)]
  exact slotRows_hit 1 8 rfl _ _

theorem load_1_2 : (loadOf (F := F) 1 16 inb_S3x272x512_S1x272x512_1_0_0 inb_S272x512_S256x512_16_0 (kernelRun0_A.sl.v329 (F := F) c i arg2 harg2 arg3 harg3 arg4 harg4 arg5 harg5 arg6 harg6 arg8 harg8 arg12 harg12 arg15 arg16 x0 x1 x2 x3 x4 x6 x10)) = shifted (upOf (rowsOf (F := F) c i arg2 harg2 arg3 harg3 arg4 harg4 arg5 harg5 arg6 harg6 arg12 harg12 arg15 x0 x1 x2 x3 x4 x10) x6 1) 16 := by
  refine (load_rows arg16.view (kernelRun0_A.sl.HS1_12 (F := F) c i arg2 harg2 arg3 harg3 arg4 harg4 arg5 harg5 arg6 harg6 arg8 harg8 arg12 harg12 arg15 x0 x1 x2 x3 x4 x6 x10) 1 16 inb_S3x272x512_S1x272x512_1_0_0 inb_S272x512_S256x512_16_0).trans ?_
  rw [ring_12]
  rw [slotRows_skip 1 0 16 (by decide)]
  rw [ring_9]
  rw [slotRows_skip 1 2 16 (by decide)]
  exact slotRows_hit 1 16 rfl _ _

theorem load_2_0 : (loadOf (F := F) 2 0 inb_S3x272x512_S1x272x512_2_0_0 inb_S272x512_S256x512_0_0 (kernelRun0_A.sl.v400 (F := F) c i arg2 harg2 arg3 harg3 arg4 harg4 arg5 harg5 arg6 harg6 arg8 harg8 arg12 harg12 arg15 arg16 x0 x1 x2 x3 x4 x6 x10)) = shifted (upOf (rowsOf (F := F) c i arg2 harg2 arg3 harg3 arg4 harg4 arg5 harg5 arg6 harg6 arg12 harg12 arg15 x0 x1 x2 x3 x4 x10) x6 2) 0 := by
  refine (load_rows arg16.view (kernelRun0_A.sl.HS1_15 (F := F) c i arg2 harg2 arg3 harg3 arg4 harg4 arg5 harg5 arg6 harg6 arg8 harg8 arg12 harg12 arg15 x0 x1 x2 x3 x4 x6 x10) 2 0 inb_S3x272x512_S1x272x512_2_0_0 inb_S272x512_S256x512_0_0).trans ?_
  rw [ring_15]
  rw [slotRows_skip 2 1 0 (by decide)]
  rw [ring_12]
  rw [slotRows_skip 2 0 0 (by decide)]
  rw [ring_9]
  exact slotRows_hit 2 0 rfl _ _

theorem load_2_1 : (loadOf (F := F) 2 8 inb_S3x272x512_S1x272x512_2_0_0 inb_S272x512_S256x512_8_0 (kernelRun0_A.sl.v406 (F := F) c i arg2 harg2 arg3 harg3 arg4 harg4 arg5 harg5 arg6 harg6 arg8 harg8 arg12 harg12 arg15 arg16 x0 x1 x2 x3 x4 x6 x10)) = shifted (upOf (rowsOf (F := F) c i arg2 harg2 arg3 harg3 arg4 harg4 arg5 harg5 arg6 harg6 arg12 harg12 arg15 x0 x1 x2 x3 x4 x10) x6 2) 8 := by
  refine (load_rows arg16.view (kernelRun0_A.sl.HS1_15 (F := F) c i arg2 harg2 arg3 harg3 arg4 harg4 arg5 harg5 arg6 harg6 arg8 harg8 arg12 harg12 arg15 x0 x1 x2 x3 x4 x6 x10) 2 8 inb_S3x272x512_S1x272x512_2_0_0 inb_S272x512_S256x512_8_0).trans ?_
  rw [ring_15]
  rw [slotRows_skip 2 1 8 (by decide)]
  rw [ring_12]
  rw [slotRows_skip 2 0 8 (by decide)]
  rw [ring_9]
  exact slotRows_hit 2 8 rfl _ _

theorem load_2_2 : (loadOf (F := F) 2 16 inb_S3x272x512_S1x272x512_2_0_0 inb_S272x512_S256x512_16_0 (kernelRun0_A.sl.v413 (F := F) c i arg2 harg2 arg3 harg3 arg4 harg4 arg5 harg5 arg6 harg6 arg8 harg8 arg12 harg12 arg15 arg16 x0 x1 x2 x3 x4 x6 x10)) = shifted (upOf (rowsOf (F := F) c i arg2 harg2 arg3 harg3 arg4 harg4 arg5 harg5 arg6 harg6 arg12 harg12 arg15 x0 x1 x2 x3 x4 x10) x6 2) 16 := by
  refine (load_rows arg16.view (kernelRun0_A.sl.HS1_15 (F := F) c i arg2 harg2 arg3 harg3 arg4 harg4 arg5 harg5 arg6 harg6 arg8 harg8 arg12 harg12 arg15 x0 x1 x2 x3 x4 x6 x10) 2 16 inb_S3x272x512_S1x272x512_2_0_0 inb_S272x512_S256x512_16_0).trans ?_
  rw [ring_15]
  rw [slotRows_skip 2 1 16 (by decide)]
  rw [ring_12]
  rw [slotRows_skip 2 0 16 (by decide)]
  rw [ring_9]
  exact slotRows_hit 2 16 rfl _ _

theorem load_3_0 : (loadOf (F := F) 0 0 inb_S3x272x512_S1x272x512_0_0_0 inb_S272x512_S256x512_0_0 (kernelRun0_A.sl.v484 (F := F) c i arg2 harg2 arg3 harg3 arg4 harg4 arg5 harg5 arg6 harg6 arg8 harg8 arg12 harg12 arg15 arg16 x0 x1 x2 x3 x4 x6 x10)) = shifted (upOf (rowsOf (F := F) c i arg2 harg2 arg3 harg3 arg4 harg4 arg5 harg5 arg6 harg6 arg12 harg12 arg15 x0 x1 x2 x3 x4 x10) x6 3) 0 := by
  refine (load_rows arg16.view (kernelRun0_A.sl.HS1_18 (F := F) c i arg2 harg2 arg3 harg3 arg4 harg4 arg5 harg5 arg6 harg6 arg8 harg8 arg12 harg12 arg15 x0 x1 x2 x3 x4 x6 x10) 0 0 inb_S3x272x512_S1x272x512_0_0_0 inb_S272x512_S256x512_0_0).trans ?_
  rw [ring_18]
  rw [slotRows_skip 0 2 0 (by decide)]
  rw [ring_15]
  rw [slotRows_skip 0 1 0 (by decide)]
  rw [ring_12]
  exact slotRows_hit 0 0 rfl _ _

theorem load_3_1 : (loadOf (F := F) 0 8 inb_S3x272x512_S1x272x512_0_0_0 inb_S272x512_S256x512_8_0 (kernelRun0_A.sl.v490 (F := F) c i arg2 harg2 arg3 harg3 arg4 harg4 arg5 harg5 arg6 harg6 arg8 harg8 arg12 harg12 arg15 arg16 x0 x1 x2 x3 x4 x6 x10)) = shifted (upOf (rowsOf (F := F) c i arg2 harg2 arg3 harg3 arg4 harg4 arg5 harg5 arg6 harg6 arg12 harg12 arg15 x0 x1 x2 x3 x4 x10) x6 3) 8 := by
  refine (load_rows arg16.view (kernelRun0_A.sl.HS1_18 (F := F) c i arg2 harg2 arg3 harg3 arg4 harg4 arg5 harg5 arg6 harg6 arg8 harg8 arg12 harg12 arg15 x0 x1 x2 x3 x4 x6 x10) 0 8 inb_S3x272x512_S1x272x512_0_0_0 inb_S272x512_S256x512_8_0).trans ?_
  rw [ring_18]
  rw [slotRows_skip 0 2 8 (by decide)]
  rw [ring_15]
  rw [slotRows_skip 0 1 8 (by decide)]
  rw [ring_12]
  exact slotRows_hit 0 8 rfl _ _

theorem load_3_2 : (loadOf (F := F) 0 16 inb_S3x272x512_S1x272x512_0_0_0 inb_S272x512_S256x512_16_0 (kernelRun0_A.sl.v497 (F := F) c i arg2 harg2 arg3 harg3 arg4 harg4 arg5 harg5 arg6 harg6 arg8 harg8 arg12 harg12 arg15 arg16 x0 x1 x2 x3 x4 x6 x10)) = shifted (upOf (rowsOf (F := F) c i arg2 harg2 arg3 harg3 arg4 harg4 arg5 harg5 arg6 harg6 arg12 harg12 arg15 x0 x1 x2 x3 x4 x10) x6 3) 16 := by
  refine (load_rows arg16.view (kernelRun0_A.sl.HS1_18 (F := F) c i arg2 harg2 arg3 harg3 arg4 harg4 arg5 harg5 arg6 harg6 arg8 harg8 arg12 harg12 arg15 x0 x1 x2 x3 x4 x6 x10) 0 16 inb_S3x272x512_S1x272x512_0_0_0 inb_S272x512_S256x512_16_0).trans ?_
  rw [ring_18]
  rw [slotRows_skip 0 2 16 (by decide)]
  rw [ring_15]
  rw [slotRows_skip 0 1 16 (by decide)]
  rw [ring_12]
  exact slotRows_hit 0 16 rfl _ _

theorem load_4_0 : (loadOf (F := F) 1 0 inb_S3x272x512_S1x272x512_1_0_0 inb_S272x512_S256x512_0_0 (kernelRun0_A.sl.v568 (F := F) c i arg2 harg2 arg3 harg3 arg4 harg4 arg5 harg5 arg6 harg6 arg8 harg8 arg12 harg12 arg15 arg16 x0 x1 x2 x3 x4 x6 x10)) = shifted (upOf (rowsOf (F := F) c i arg2 harg2 arg3 harg3 arg4 harg4 arg5 harg5 arg6 harg6 arg12 harg12 arg15 x0 x1 x2 x3 x4 x10) x6 4) 0 := by
  refine (load_rows arg16.view (kernelRun0_A.sl.HS1_21 (F := F) c i arg2 harg2 arg3 harg3 arg4 harg4 arg5 harg5 arg6 harg6 arg8 harg8 arg12 harg12 arg15 x0 x1 x2 x3 x4 x6 x10) 1 0 inb_S3x272x512_S1x272x512_1_0_0 inb_S272x512_S256x512_0_0).trans ?_
  rw [ring_21]
  rw [slotRows_skip 1 0 0 (by decide)]
  rw [ring_18]
  rw [slotRows_skip 1 2 0 (by decide)]
  rw [ring_15]
  exact slotRows_hit 1 0 rfl _ _

theorem load_4_1 : (loadOf (F := F) 1 8 inb_S3x272x512_S1x272x512_1_0_0 inb_S272x512_S256x512_8_0 (kernelRun0_A.sl.v574 (F := F) c i arg2 harg2 arg3 harg3 arg4 harg4 arg5 harg5 arg6 harg6 arg8 harg8 arg12 harg12 arg15 arg16 x0 x1 x2 x3 x4 x6 x10)) = shifted (upOf (rowsOf (F := F) c i arg2 harg2 arg3 harg3 arg4 harg4 arg5 harg5 arg6 harg6 arg12 harg12 arg15 x0 x1 x2 x3 x4 x10) x6 4) 8 := by
  refine (load_rows arg16.view (kernelRun0_A.sl.HS1_21 (F := F) c i arg2 harg2 arg3 harg3 arg4 harg4 arg5 harg5 arg6 harg6 arg8 harg8 arg12 harg12 arg15 x0 x1 x2 x3 x4 x6 x10) 1 8 inb_S3x272x512_S1x272x512_1_0_0 inb_S272x512_S256x512_8_0).trans ?_
  rw [ring_21]
  rw [slotRows_skip 1 0 8 (by decide)]
  rw [ring_18]
  rw [slotRows_skip 1 2 8 (by decide)]
  rw [ring_15]
  exact slotRows_hit 1 8 rfl _ _

theorem load_4_2 : (loadOf (F := F) 1 16 inb_S3x272x512_S1x272x512_1_0_0 inb_S272x512_S256x512_16_0 (kernelRun0_A.sl.v581 (F := F) c i arg2 harg2 arg3 harg3 arg4 harg4 arg5 harg5 arg6 harg6 arg8 harg8 arg12 harg12 arg15 arg16 x0 x1 x2 x3 x4 x6 x10)) = shifted (upOf (rowsOf (F := F) c i arg2 harg2 arg3 harg3 arg4 harg4 arg5 harg5 arg6 harg6 arg12 harg12 arg15 x0 x1 x2 x3 x4 x10) x6 4) 16 := by
  refine (load_rows arg16.view (kernelRun0_A.sl.HS1_21 (F := F) c i arg2 harg2 arg3 harg3 arg4 harg4 arg5 harg5 arg6 harg6 arg8 harg8 arg12 harg12 arg15 x0 x1 x2 x3 x4 x6 x10) 1 16 inb_S3x272x512_S1x272x512_1_0_0 inb_S272x512_S256x512_16_0).trans ?_
  rw [ring_21]
  rw [slotRows_skip 1 0 16 (by decide)]
  rw [ring_18]
  rw [slotRows_skip 1 2 16 (by decide)]
  rw [ring_15]
  exact slotRows_hit 1 16 rfl _ _

theorem load_5_0 : (loadOf (F := F) 2 0 inb_S3x272x512_S1x272x512_2_0_0 inb_S272x512_S256x512_0_0 (kernelRun0_A.sl.v652 (F := F) c i arg2 harg2 arg3 harg3 arg4 harg4 arg5 harg5 arg6 harg6 arg8 harg8 arg12 harg12 arg15 arg16 x0 x1 x2 x3 x4 x6 x10)) = shifted (upOf (rowsOf (F := F) c i arg2 harg2 arg3 harg3 arg4 harg4 arg5 harg5 arg6 harg6 arg12 harg12 arg15 x0 x1 x2 x3 x4 x10) x6 5) 0 := by
  refine (load_rows arg16.view (kernelRun0_A.sl.HS1_24 (F := F) c i arg2 harg2 arg3 harg3 arg4 harg4 arg5 harg5 arg6 harg6 arg8 harg8 arg12 harg12 arg15 x0 x1 x2 x3 x4 x6 x10) 2 0 inb_S3x272x512_S1x272x512_2_0_0 inb_S272x512_S256x512_0_0).trans ?_
  rw [ring_24]
  rw [slotRows_skip 2 1 0 (by decide)]
  rw [ring_21]
  rw [slotRows_skip 2 0 0 (by decide)]
  rw [ring_18]
  exact slotRows_hit 2 0 rfl _ _

theorem load_5_1 : (loadOf (F := F) 2 8 inb_S3x272x512_S1x272x512_2_0_0 inb_S272x512_S256x512_8_0 (kernelRun0_A.sl.v658 (F := F) c i arg2 harg2 arg3 harg3 arg4 harg4 arg5 harg5 arg6 harg6 arg8 harg8 arg12 harg12 arg15 arg16 x0 x1 x2 x3 x4 x6 x10)) = shifted (upOf (rowsOf (F := F) c i arg2 harg2 arg3 harg3 arg4 harg4 arg5 harg5 arg6 harg6 arg12 harg12 arg15 x0 x1 x2 x3 x4 x10) x6 5) 8 := by
  refine (load_rows arg16.view (kernelRun0_A.sl.HS1_24 (F := F) c i arg2 harg2 arg3 harg3 arg4 harg4 arg5 harg5 arg6 harg6 arg8 harg8 arg12 harg12 arg15 x0 x1 x2 x3 x4 x6 x10) 2 8 inb_S3x272x512_S1x272x512_2_0_0 inb_S272x512_S256x512_8_0).trans ?_
  rw [ring_24]
  rw [slotRows_skip 2 1 8 (by decide)]
  rw [ring_21]
  rw [slotRows_skip 2 0 8 (by decide)]
  rw [ring_18]
  exact slotRows_hit 2 8 rfl _ _

theorem load_5_2 : (loadOf (F := F) 2 16 inb_S3x272x512_S1x272x512_2_0_0 inb_S272x512_S256x512_16_0 (kernelRun0_A.sl.v665 (F := F) c i arg2 harg2 arg3 harg3 arg4 harg4 arg5 harg5 arg6 harg6 arg8 harg8 arg12 harg12 arg15 arg16 x0 x1 x2 x3 x4 x6 x10)) = shifted (upOf (rowsOf (F := F) c i arg2 harg2 arg3 harg3 arg4 harg4 arg5 harg5 arg6 harg6 arg12 harg12 arg15 x0 x1 x2 x3 x4 x10) x6 5) 16 := by
  refine (load_rows arg16.view (kernelRun0_A.sl.HS1_24 (F := F) c i arg2 harg2 arg3 harg3 arg4 harg4 arg5 harg5 arg6 harg6 arg8 harg8 arg12 harg12 arg15 x0 x1 x2 x3 x4 x6 x10) 2 16 inb_S3x272x512_S1x272x512_2_0_0 inb_S272x512_S256x512_16_0).trans ?_
  rw [ring_24]
  rw [slotRows_skip 2 1 16 (by decide)]
  rw [ring_21]
  rw [slotRows_skip 2 0 16 (by decide)]
  rw [ring_18]
  exact slotRows_hit 2 16 rfl _ _

theorem load_6_0 : (loadOf (F := F) 0 0 inb_S3x272x512_S1x272x512_0_0_0 inb_S272x512_S256x512_0_0 (kernelRun0_A.sl.v736 (F := F) c i arg2 harg2 arg3 harg3 arg4 harg4 arg5 harg5 arg6 harg6 arg8 harg8 arg12 harg12 arg15 arg16 x0 x1 x2 x3 x4 x6 x10)) = shifted (upOf (rowsOf (F := F) c i arg2 harg2 arg3 harg3 arg4 harg4 arg5 harg5 arg6 harg6 arg12 harg12 arg15 x0 x1 x2 x3 x4 x10) x6 6) 0 := by
  refine (load_rows arg16.view (kernelRun0_A.sl.HS1_27 (F := F) c i arg2 harg2 arg3 harg3 arg4 harg4 arg5 harg5 arg6 harg6 arg8 harg8 arg12 harg12 arg15 x0 x1 x2 x3 x4 x6 x10) 0 0 inb_S3x272x512_S1x272x512_0_0_0 inb_S272x512_S256x512_0_0).trans ?_
  rw [ring_27]
  rw [slotRows_skip 0 2 0 (by decide)]
  rw [ring_24]
  rw [slotRows_skip 0 1 0 (by decide)]
  rw [ring_21]
  exact slotRows_hit 0 0 rfl _ _

theorem load_6_1 : (loadOf (F := F) 0 8 inb_S3x272x512_S1x272x512_0_0_0 inb_S272x512_S256x512_8_0 (kernelRun0_A.sl.v742 (F := F) c i arg2 harg2 arg3 harg3 arg4 harg4 arg5 harg5 arg6 harg6 arg8 harg8 arg12 harg12 arg15 arg16 x0 x1 x2 x3 x4 x6 x10)) = shifted (upOf (rowsOf (F := F) c i arg2 harg2 arg3 harg3 arg4 harg4 arg5 harg5 arg6 harg6 arg12 harg12 arg15 x0 x1 x2 x3 x4 x10) x6 6) 8 := by
  refine (load_rows arg16.view (kernelRun0_A.sl.HS1_27 (F := F) c i arg2 harg2 arg3 harg3 arg4 harg4 arg5 harg5 arg6 harg6 arg8 harg8 arg12 harg12 arg15 x0 x1 x2 x3 x4 x6 x10) 0 8 inb_S3x272x512_S1x272x512_0_0_0 inb_S272x512_S256x512_8_0).trans ?_
  rw [ring_27]
  rw [slotRows_skip 0 2 8 (by decide)]
  rw [ring_24]
  rw [slotRows_skip 0 1 8 (by decide)]
  rw [ring_21]
  exact slotRows_hit 0 8 rfl _ _

theorem load_6_2 : (loadOf (F := F) 0 16 inb_S3x272x512_S1x272x512_0_0_0 inb_S272x512_S256x512_16_0 (kernelRun0_A.sl.v749 (F := F) c i arg2 harg2 arg3 harg3 arg4 harg4 arg5 harg5 arg6 harg6 arg8 harg8 arg12 harg12 arg15 arg16 x0 x1 x2 x3 x4 x6 x10)) = shifted (upOf (rowsOf (F := F) c i arg2 harg2 arg3 harg3 arg4 harg4 arg5 harg5 arg6 harg6 arg12 harg12 arg15 x0 x1 x2 x3 x4 x10) x6 6) 16 := by
  refine (load_rows arg16.view (kernelRun0_A.sl.HS1_27 (F := F) c i arg2 harg2 arg3 harg3 arg4 harg4 arg5 harg5 arg6 harg6 arg8 harg8 arg12 harg12 arg15 x0 x1 x2 x3 x4 x6 x10) 0 16 inb_S3x272x512_S1x272x512_0_0_0 inb_S272x512_S256x512_16_0).trans ?_
  rw [ring_27]
  rw [slotRows_skip 0 2 16 (by decide)]
  rw [ring_24]
  rw [slotRows_skip 0 1 16 (by decide)]
  rw [ring_21]
  exact slotRows_hit 0 16 rfl _ _

theorem load_7_0 : (loadOf (F := F) 1 0 inb_S3x272x512_S1x272x512_1_0_0 inb_S272x512_S256x512_0_0 (kernelRun0_A.sl.v820 (F := F) c i arg2 harg2 arg3 harg3 arg4 harg4 arg5 harg5 arg6 harg6 arg8 harg8 arg12 harg12 arg15 arg16 x0 x1 x2 x3 x4 x6 x10)) = shifted (upOf (rowsOf (F := F) c i arg2 harg2 arg3 harg3 arg4 harg4 arg5 harg5 arg6 harg6 arg12 harg12 arg15 x0 x1 x2 x3 x4 x10) x6 7) 0 := by
  refine (load_rows arg16.view (kernelRun0_A.sl.HS1_30 (F := F) c i arg2 harg2 arg3 harg3 arg4 harg4 arg5 harg5 arg6 harg6 arg8 harg8 arg12 harg12 arg15 x0 x1 x2 x3 x4 x6 x10) 1 0 inb_S3x272x512_S1x272x512_1_0_0 inb_S272x512_S256x512_0_0).trans ?_
  rw [ring_30]
  rw [slotRows_skip 1 0 0 (by decide)]
  rw [ring_27]
  rw [slotRows_skip 1 2 0 (by decide)]
  rw [ring_24]
  exact slotRows_hit 1 0 rfl _ _

theorem load_7_1 : (loadOf (F := F) 1 8 inb_S3x272x512_S1x272x512_1_0_0 inb_S272x512_S256x512_8_0 (kernelRun0_A.sl.v826 (F := F) c i arg2 harg2 arg3 harg3 arg4 harg4 arg5 harg5 arg6 harg6 arg8 harg8 arg12 harg12 arg15 arg16 x0 x1 x2 x3 x4 x6 x10)) = shifted (upOf (rowsOf (F := F) c i arg2 harg2 arg3 harg3 arg4 harg4 arg5 harg5 arg6 harg6 arg12 harg12 arg15 x0 x1 x2 x3 x4 x10) x6 7) 8 := by
  refine (load_rows arg16.view (kernelRun0_A.sl.HS1_30 (F := F) c i arg2 harg2 arg3 harg3 arg4 harg4 arg5 harg5 arg6 harg6 arg8 harg8 arg12 harg12 arg15 x0 x1 x2 x3 x4 x6 x10) 1 8 inb_S3x272x512_S1x272x512_1_0_0 inb_S272x512_S256x512_8_0).trans ?_
  rw [ring_30]
  rw [slotRows_skip 1 0 8 (by decide)]
  rw [ring_27]
  rw [slotRows_skip 1 2 8 (by decide)]
  rw [ring_24]
  exact slotRows_hit 1 8 rfl _ _

theorem load_7_2 : (loadOf (F := F) 1 16 inb_S3x272x512_S1x272x512_1_0_0 inb_S272x512_S256x512_16_0 (kernelRun0_A.sl.v833 (F := F) c i arg2 harg2 arg3 harg3 arg4 harg4 arg5 harg5 arg6 harg6 arg8 harg8 arg12 harg12 arg15 arg16 x0 x1 x2 x3 x4 x6 x10)) = shifted (upOf (rowsOf (F := F) c i arg2 harg2 arg3 harg3 arg4 harg4 arg5 harg5 arg6 harg6 arg12 harg12 arg15 x0 x1 x2 x3 x4 x10) x6 7) 16 := by
  refine (load_rows arg16.view (kernelRun0_A.sl.HS1_30 (F := F) c i arg2 harg2 arg3 harg3 arg4 harg4 arg5 harg5 arg6 harg6 arg8 harg8 arg12 harg12 arg15 x0 x1 x2 x3 x4 x6 x10) 1 16 inb_S3x272x512_S1x272x512_1_0_0 inb_S272x512_S256x512_16_0).trans ?_
  rw [ring_30]
  rw [slotRows_skip 1 0 16 (by decide)]
  rw [ring_27]
  rw [slotRows_skip 1 2 16 (by decide)]
  rw [ring_24]
  exact slotRows_hit 1 16 rfl _ _

theorem load_8_0 : (loadOf (F := F) 2 0 inb_S3x272x512_S1x272x512_2_0_0 inb_S272x512_S256x512_0_0 (kernelRun0_A.sl.v904 (F := F) c i arg2 harg2 arg3 harg3 arg4 harg4 arg5 harg5 arg6 harg6 arg8 harg8 arg12 harg12 arg15 arg16 x0 x1 x2 x3 x4 x6 x10)) = shifted (upOf (rowsOf (F := F) c i arg2 harg2 arg3 harg3 arg4 harg4 arg5 harg5 arg6 harg6 arg12 harg12 arg15 x0 x1 x2 x3 x4 x10) x6 8) 0 := by
  refine (load_rows arg16.view (kernelRun0_A.sl.HS1_33 (F := F) c i arg2 harg2 arg3 harg3 arg4 harg4 arg5 harg5 arg6 harg6 arg8 harg8 arg12 harg12 arg15 x0 x1 x2 x3 x4 x6 x10) 2 0 inb_S3x272x512_S1x272x512_2_0_0 inb_S272x512_S256x512_0_0).trans ?_
  rw [ring_33]
  rw [slotRows_skip 2 1 0 (by decide)]
  rw [ring_30]
  rw [slotRows_skip 2 0 0 (by decide)]
  rw [ring_27]
  exact slotRows_hit 2 0 rfl _ _

theorem load_8_1 : (loadOf (F := F) 2 8 inb_S3x272x512_S1x272x512_2_0_0 inb_S272x512_S256x512_8_0 (kernelRun0_A.sl.v910 (F := F) c i arg2 harg2 arg3 harg3 arg4 harg4 arg5 harg5 arg6 harg6 arg8 harg8 arg12 harg12 arg15 arg16 x0 x1 x2 x3 x4 x6 x10)) = shifted (upOf (rowsOf (F := F) c i arg2 harg2 arg3 harg3 arg4 harg4 arg5 harg5 arg6 harg6 arg12 harg12 arg15 x0 x1 x2 x3 x4 x10) x6 8) 8 := by
  refine (load_rows arg16.view (kernelRun0_A.sl.HS1_33 (F := F) c i arg2 harg2 arg3 harg3 arg4 harg4 arg5 harg5 arg6 harg6 arg8 harg8 arg12 harg12 arg15 x0 x1 x2 x3 x4 x6 x10) 2 8 inb_S3x272x512_S1x272x512_2_0_0 inb_S272x512_S256x512_8_0).trans ?_
  rw [ring_33]
  rw [slotRows_skip 2 1 8 (by decide)]
  rw [ring_30]
  rw [slotRows_skip 2 0 8 (by decide)]
  rw [ring_27]
  exact slotRows_hit 2 8 rfl _ _

theorem load_8_2 : (loadOf (F := F) 2 16 inb_S3x272x512_S1x272x512_2_0_0 inb_S272x512_S256x512_16_0 (kernelRun0_A.sl.v917 (F := F) c i arg2 harg2 arg3 harg3 arg4 harg4 arg5 harg5 arg6 harg6 arg8 harg8 arg12 harg12 arg15 arg16 x0 x1 x2 x3 x4 x6 x10)) = shifted (upOf (rowsOf (F := F) c i arg2 harg2 arg3 harg3 arg4 harg4 arg5 harg5 arg6 harg6 arg12 harg12 arg15 x0 x1 x2 x3 x4 x10) x6 8) 16 := by
  refine (load_rows arg16.view (kernelRun0_A.sl.HS1_33 (F := F) c i arg2 harg2 arg3 harg3 arg4 harg4 arg5 harg5 arg6 harg6 arg8 harg8 arg12 harg12 arg15 x0 x1 x2 x3 x4 x6 x10) 2 16 inb_S3x272x512_S1x272x512_2_0_0 inb_S272x512_S256x512_16_0).trans ?_
  rw [ring_33]
  rw [slotRows_skip 2 1 16 (by decide)]
  rw [ring_30]
  rw [slotRows_skip 2 0 16 (by decide)]
  rw [ring_27]
  exact slotRows_hit 2 16 rfl _ _

theorem load_9_0 : (loadOf (F := F) 0 0 inb_S3x272x512_S1x272x512_0_0_0 inb_S272x512_S256x512_0_0 (kernelRun0_A.sl.v948 (F := F) c i arg2 harg2 arg3 harg3 arg4 harg4 arg5 harg5 arg6 harg6 arg8 harg8 arg12 harg12 arg15 arg16 x0 x1 x2 x3 x4 x6 x10)) = shifted (upOf (rowsOf (F := F) c i arg2 harg2 arg3 harg3 arg4 harg4 arg5 harg5 arg6 harg6 arg12 harg12 arg15 x0 x1 x2 x3 x4 x10) x6 9) 0 := by
  refine (load_rows arg16.view (kernelRun0_A.sl.HS1_33 (F := F) c i arg2 harg2 arg3 harg3 arg4 harg4 arg5 harg5 arg6 harg6 arg8 harg8 arg12 harg12 arg15 x0 x1 x2 x3 x4 x6 x10) 0 0 inb_S3x272x512_S1x272x512_0_0_0 inb_S272x512_S256x512_0_0).trans ?_
  rw [ring_33]
  rw [slotRows_skip 0 1 0 (by decide)]
  rw [ring_30]
  exact slotRows_hit 0 0 rfl _ _

theorem load_9_1 : (loadOf (F := F) 0 8 inb_S3x272x512_S1x272x512_0_0_0 inb_S272x512_S256x512_8_0 (kernelRun0_A.sl.v954 (F := F) c i arg2 harg2 arg3 harg3 arg4 harg4 arg5 harg5 arg6 harg6 arg8 harg8 arg12 harg12 arg15 arg16 x0 x1 x2 x3 x4 x6 x10)) = shifted (upOf (rowsOf (F := F) c i arg2 harg2 arg3 harg3 arg4 harg4 arg5 harg5 arg6 harg6 arg12 harg12 arg15 x0 x1 x2 x3 x4 x10) x6 9) 8 := by
  refine (load_rows arg16.view (kernelRun0_A.sl.HS1_33 (F := F) c i arg2 harg2 arg3 harg3 arg4 harg4 arg5 harg5 arg6 harg6 arg8 harg8 arg12 harg12 arg15 x0 x1 x2 x3 x4 x6 x10) 0 8 inb_S3x272x512_S1x272x512_0_0_0 inb_S272x512_S256x512_8_0).trans ?_
  rw [ring_33]
  rw [slotRows_skip 0 1 8 (by decide)]
  rw [ring_30]
  exact slotRows_hit 0 8 rfl _ _

theorem load_9_2 : (loadOf (F := F) 0 16 inb_S3x272x512_S1x272x512_0_0_0 inb_S272x512_S256x512_16_0 (kernelRun0_A.sl.v961 (F := F) c i arg2 harg2 arg3 harg3 arg4 harg4 arg5 harg5 arg6 harg6 arg8 harg8 arg12 harg12 arg15 arg16 x0 x1 x2 x3 x4 x6 x10)) = shifted (upOf (rowsOf (F := F) c i arg2 harg2 arg3 harg3 arg4 harg4 arg5 harg5 arg6 harg6 arg12 harg12 arg15 x0 x1 x2 x3 x4 x10) x6 9) 16 := by
  refine (load_rows arg16.view (kernelRun0_A.sl.HS1_33 (F := F) c i arg2 harg2 arg3 harg3 arg4 harg4 arg5 harg5 arg6 harg6 arg8 harg8 arg12 harg12 arg15 x0 x1 x2 x3 x4 x6 x10) 0 16 inb_S3x272x512_S1x272x512_0_0_0 inb_S272x512_S256x512_16_0).trans ?_
  rw [ring_33]
  rw [slotRows_skip 0 1 16 (by decide)]
  rw [ring_30]
  exact slotRows_hit 0 16 rfl _ _

theorem load_10_0 : (loadOf (F := F) 1 0 inb_S3x272x512_S1x272x512_1_0_0 inb_S272x512_S256x512_0_0 (kernelRun0_A.sl.v992 (F := F) c i arg2 harg2 arg3 harg3 arg4 harg4 arg5 harg5 arg6 harg6 arg8 harg8 arg12 harg12 arg15 arg16 x0 x1 x2 x3 x4 x6 x10)) = shifted (upOf (rowsOf (F := F) c i arg2 harg2 arg3 harg3 arg4 harg4 arg5 harg5 arg6 harg6 arg12 harg12 arg15 x0 x1 x2 x3 x4 x10) x6 10) 0 := by
  refine (load_rows arg16.view (kernelRun0_A.sl.HS1_33 (F := F) c i arg2 harg2 arg3 harg3 arg4 harg4 arg5 harg5 arg6 harg6 arg8 harg8 arg12 harg12 arg15 x0 x1 x2 x3 x4 x6 x10) 1 0 inb_S3x272x512_S1x272x512_1_0_0 inb_S272x512_S256x512_0_0).trans ?_
  rw [ring_33]
  exact slotRows_hit 1 0 rfl _ _

theorem load_10_1 : (loadOf (F := F) 1 8 inb_S3x272x512_S1x272x512_1_0_0 inb_S272x512_S256x512_8_0 (kernelRun0_A.sl.v998 (F := F) c i arg2 harg2 arg3 harg3 arg4 harg4 arg5 harg5 arg6 harg6 arg8 harg8 arg12 harg12 arg15 arg16 x0 x1 x2 x3 x4 x6 x10)) = shifted (upOf (rowsOf (F := F) c i arg2 harg2 arg3 harg3 arg4 harg4 arg5 harg5 arg6 harg6 arg12 harg12 arg15 x0 x1 x2 x3 x4 x10) x6 10) 8 := by
  refine (load_rows arg16.view (kernelRun0_A.sl.HS1_33 (F := F) c i arg2 harg2 arg3 harg3 arg4 harg4 arg5 harg5 arg6 harg6 arg8 harg8 arg12 harg12 arg15 x0 x1 x2 x3 x4 x6 x10) 1 8 inb_S3x272x512_S1x272x512_1_0_0 inb_S272x512_S256x512_8_0).trans ?_
  rw [ring_33]
  exact slotRows_hit 1 8 rfl _ _

theorem load_10_2 : (loadOf (F := F) 1 16 inb_S3x272x512_S1x272x512_1_0_0 inb_S272x512_S256x512_16_0 (kernelRun0_A.sl.v1005 (F := F) c i arg2 harg2 arg3 harg3 arg4 harg4 arg5 harg5 arg6 harg6 arg8 harg8 arg12 harg12 arg15 arg16 x0 x1 x2 x3 x4 x6 x10)) = shifted (upOf (rowsOf (F := F) c i arg2 harg2 arg3 harg3 arg4 harg4 arg5 harg5 arg6 harg6 arg12 harg12 arg15 x0 x1 x2 x3 x4 x10) x6 10) 16 := by
  refine (load_rows arg16.view (kernelRun0_A.sl.HS1_33 (F := F) c i arg2 harg2 arg3 harg3 arg4 harg4 arg5 harg5 arg6 harg6 arg8 harg8 arg12 harg12 arg15 x0 x1 x2 x3 x4 x6 x10) 1 16 inb_S3x272x512_S1x272x512_1_0_0 inb_S272x512_S256x512_16_0).trans ?_
  rw [ring_33]
  exact slotRows_hit 1 16 rfl _ _

theorem gated_0 : gatedOf (View.readAt (Elt F) arg9.view (Rect.unit (s := S3x5632) ![0, 0] S3x256.size inb_S3x5632_S3x256_0_0).toLoadRect (harg9.unread x7)) (View.readAt (Elt F) arg9.view (Rect.unit (s := S3x5632) ![0, 2816] S3x256.size inb_S3x5632_S3x256_0_2816).toLoadRect (harg9.unread x7)) (View.readAt (Elt F) arg10.view (Rect.unit (s := S1x5632) ![0, 0] S1x256.size inb_S1x5632_S1x256_0_0).toLoadRect (harg10.unread x8)) (View.readAt (Elt F) arg10.view (Rect.unit (s := S1x5632) ![0, 2816] S1x256.size inb_S1x5632_S1x256_0_2816).toLoadRect (harg10.unread x8))
    (loadOf (F := F) 0 0 inb_S3x272x512_S1x272x512_0_0_0 inb_S272x512_S256x512_0_0 (kernelRun0_A.sl.v234 (F := F) c i arg2 harg2 arg3 harg3 arg4 harg4 arg5 harg5 arg6 harg6 arg8 harg8 arg12 harg12 arg15 arg16 x0 x1 x2 x3 x4 x6 x10)) (loadOf (F := F) 0 8 inb_S3x272x512_S1x272x512_0_0_0 inb_S272x512_S256x512_8_0 (kernelRun0_A.sl.v240 (F := F) c i arg2 harg2 arg3 harg3 arg4 harg4 arg5 harg5 arg6 harg6 arg8 harg8 arg12 harg12 arg15 arg16 x0 x1 x2 x3 x4 x6 x10)) (loadOf (F := F) 0 16 inb_S3x272x512_S1x272x512_0_0_0 inb_S272x512_S256x512_16_0 (kernelRun0_A.sl.v247 (F := F) c i arg2 harg2 arg3 harg3 arg4 harg4 arg5 harg5 arg6 harg6 arg8 harg8 arg12 harg12 arg15 arg16 x0 x1 x2 x3 x4 x6 x10))
    = gatedAt (rowsOf (F := F) c i arg2 harg2 arg3 harg3 arg4 harg4 arg5 harg5 arg6 harg6 arg12 harg12 arg15 x0 x1 x2 x3 x4 x10) x6 x7 x8 0 := by
  unfold gatedAt
  rw [read_taps, read_taps, read_biases, read_biases, load_0_0, load_0_1, load_0_2]

theorem gated_1 : gatedOf (View.readAt (Elt F) arg9.view (Rect.unit (s := S3x5632) ![0, 256] S3x256.size inb_S3x5632_S3x256_0_256).toLoadRect (harg9.unread x7)) (View.readAt (Elt F) arg9.view (Rect.unit (s := S3x5632) ![0, 3072] S3x256.size inb_S3x5632_S3x256_0_3072).toLoadRect (harg9.unread x7)) (View.readAt (Elt F) arg10.view (Rect.unit (s := S1x5632) ![0, 256] S1x256.size inb_S1x5632_S1x256_0_256).toLoadRect (harg10.unread x8)) (View.readAt (Elt F) arg10.view (Rect.unit (s := S1x5632) ![0, 3072] S1x256.size inb_S1x5632_S1x256_0_3072).toLoadRect (harg10.unread x8))
    (loadOf (F := F) 1 0 inb_S3x272x512_S1x272x512_1_0_0 inb_S272x512_S256x512_0_0 (kernelRun0_A.sl.v316 (F := F) c i arg2 harg2 arg3 harg3 arg4 harg4 arg5 harg5 arg6 harg6 arg8 harg8 arg12 harg12 arg15 arg16 x0 x1 x2 x3 x4 x6 x10)) (loadOf (F := F) 1 8 inb_S3x272x512_S1x272x512_1_0_0 inb_S272x512_S256x512_8_0 (kernelRun0_A.sl.v322 (F := F) c i arg2 harg2 arg3 harg3 arg4 harg4 arg5 harg5 arg6 harg6 arg8 harg8 arg12 harg12 arg15 arg16 x0 x1 x2 x3 x4 x6 x10)) (loadOf (F := F) 1 16 inb_S3x272x512_S1x272x512_1_0_0 inb_S272x512_S256x512_16_0 (kernelRun0_A.sl.v329 (F := F) c i arg2 harg2 arg3 harg3 arg4 harg4 arg5 harg5 arg6 harg6 arg8 harg8 arg12 harg12 arg15 arg16 x0 x1 x2 x3 x4 x6 x10))
    = gatedAt (rowsOf (F := F) c i arg2 harg2 arg3 harg3 arg4 harg4 arg5 harg5 arg6 harg6 arg12 harg12 arg15 x0 x1 x2 x3 x4 x10) x6 x7 x8 1 := by
  unfold gatedAt
  rw [read_taps, read_taps, read_biases, read_biases, load_1_0, load_1_1, load_1_2]

theorem gated_2 : gatedOf (View.readAt (Elt F) arg9.view (Rect.unit (s := S3x5632) ![0, 512] S3x256.size inb_S3x5632_S3x256_0_512).toLoadRect (harg9.unread x7)) (View.readAt (Elt F) arg9.view (Rect.unit (s := S3x5632) ![0, 3328] S3x256.size inb_S3x5632_S3x256_0_3328).toLoadRect (harg9.unread x7)) (View.readAt (Elt F) arg10.view (Rect.unit (s := S1x5632) ![0, 512] S1x256.size inb_S1x5632_S1x256_0_512).toLoadRect (harg10.unread x8)) (View.readAt (Elt F) arg10.view (Rect.unit (s := S1x5632) ![0, 3328] S1x256.size inb_S1x5632_S1x256_0_3328).toLoadRect (harg10.unread x8))
    (loadOf (F := F) 2 0 inb_S3x272x512_S1x272x512_2_0_0 inb_S272x512_S256x512_0_0 (kernelRun0_A.sl.v400 (F := F) c i arg2 harg2 arg3 harg3 arg4 harg4 arg5 harg5 arg6 harg6 arg8 harg8 arg12 harg12 arg15 arg16 x0 x1 x2 x3 x4 x6 x10)) (loadOf (F := F) 2 8 inb_S3x272x512_S1x272x512_2_0_0 inb_S272x512_S256x512_8_0 (kernelRun0_A.sl.v406 (F := F) c i arg2 harg2 arg3 harg3 arg4 harg4 arg5 harg5 arg6 harg6 arg8 harg8 arg12 harg12 arg15 arg16 x0 x1 x2 x3 x4 x6 x10)) (loadOf (F := F) 2 16 inb_S3x272x512_S1x272x512_2_0_0 inb_S272x512_S256x512_16_0 (kernelRun0_A.sl.v413 (F := F) c i arg2 harg2 arg3 harg3 arg4 harg4 arg5 harg5 arg6 harg6 arg8 harg8 arg12 harg12 arg15 arg16 x0 x1 x2 x3 x4 x6 x10))
    = gatedAt (rowsOf (F := F) c i arg2 harg2 arg3 harg3 arg4 harg4 arg5 harg5 arg6 harg6 arg12 harg12 arg15 x0 x1 x2 x3 x4 x10) x6 x7 x8 2 := by
  unfold gatedAt
  rw [read_taps, read_taps, read_biases, read_biases, load_2_0, load_2_1, load_2_2]

theorem gated_3 : gatedOf (View.readAt (Elt F) arg9.view (Rect.unit (s := S3x5632) ![0, 768] S3x256.size inb_S3x5632_S3x256_0_768).toLoadRect (harg9.unread x7)) (View.readAt (Elt F) arg9.view (Rect.unit (s := S3x5632) ![0, 3584] S3x256.size inb_S3x5632_S3x256_0_3584).toLoadRect (harg9.unread x7)) (View.readAt (Elt F) arg10.view (Rect.unit (s := S1x5632) ![0, 768] S1x256.size inb_S1x5632_S1x256_0_768).toLoadRect (harg10.unread x8)) (View.readAt (Elt F) arg10.view (Rect.unit (s := S1x5632) ![0, 3584] S1x256.size inb_S1x5632_S1x256_0_3584).toLoadRect (harg10.unread x8))
    (loadOf (F := F) 0 0 inb_S3x272x512_S1x272x512_0_0_0 inb_S272x512_S256x512_0_0 (kernelRun0_A.sl.v484 (F := F) c i arg2 harg2 arg3 harg3 arg4 harg4 arg5 harg5 arg6 harg6 arg8 harg8 arg12 harg12 arg15 arg16 x0 x1 x2 x3 x4 x6 x10)) (loadOf (F := F) 0 8 inb_S3x272x512_S1x272x512_0_0_0 inb_S272x512_S256x512_8_0 (kernelRun0_A.sl.v490 (F := F) c i arg2 harg2 arg3 harg3 arg4 harg4 arg5 harg5 arg6 harg6 arg8 harg8 arg12 harg12 arg15 arg16 x0 x1 x2 x3 x4 x6 x10)) (loadOf (F := F) 0 16 inb_S3x272x512_S1x272x512_0_0_0 inb_S272x512_S256x512_16_0 (kernelRun0_A.sl.v497 (F := F) c i arg2 harg2 arg3 harg3 arg4 harg4 arg5 harg5 arg6 harg6 arg8 harg8 arg12 harg12 arg15 arg16 x0 x1 x2 x3 x4 x6 x10))
    = gatedAt (rowsOf (F := F) c i arg2 harg2 arg3 harg3 arg4 harg4 arg5 harg5 arg6 harg6 arg12 harg12 arg15 x0 x1 x2 x3 x4 x10) x6 x7 x8 3 := by
  unfold gatedAt
  rw [read_taps, read_taps, read_biases, read_biases, load_3_0, load_3_1, load_3_2]

theorem gated_4 : gatedOf (View.readAt (Elt F) arg9.view (Rect.unit (s := S3x5632) ![0, 1024] S3x256.size inb_S3x5632_S3x256_0_1024).toLoadRect (harg9.unread x7)) (View.readAt (Elt F) arg9.view (Rect.unit (s := S3x5632) ![0, 3840] S3x256.size inb_S3x5632_S3x256_0_3840).toLoadRect (harg9.unread x7)) (View.readAt (Elt F) arg10.view (Rect.unit (s := S1x5632) ![0, 1024] S1x256.size inb_S1x5632_S1x256_0_1024).toLoadRect (harg10.unread x8)) (View.readAt (Elt F) arg10.view (Rect.unit (s := S1x5632) ![0, 3840] S1x256.size inb_S1x5632_S1x256_0_3840).toLoadRect (harg10.unread x8))
    (loadOf (F := F) 1 0 inb_S3x272x512_S1x272x512_1_0_0 inb_S272x512_S256x512_0_0 (kernelRun0_A.sl.v568 (F := F) c i arg2 harg2 arg3 harg3 arg4 harg4 arg5 harg5 arg6 harg6 arg8 harg8 arg12 harg12 arg15 arg16 x0 x1 x2 x3 x4 x6 x10)) (loadOf (F := F) 1 8 inb_S3x272x512_S1x272x512_1_0_0 inb_S272x512_S256x512_8_0 (kernelRun0_A.sl.v574 (F := F) c i arg2 harg2 arg3 harg3 arg4 harg4 arg5 harg5 arg6 harg6 arg8 harg8 arg12 harg12 arg15 arg16 x0 x1 x2 x3 x4 x6 x10)) (loadOf (F := F) 1 16 inb_S3x272x512_S1x272x512_1_0_0 inb_S272x512_S256x512_16_0 (kernelRun0_A.sl.v581 (F := F) c i arg2 harg2 arg3 harg3 arg4 harg4 arg5 harg5 arg6 harg6 arg8 harg8 arg12 harg12 arg15 arg16 x0 x1 x2 x3 x4 x6 x10))
    = gatedAt (rowsOf (F := F) c i arg2 harg2 arg3 harg3 arg4 harg4 arg5 harg5 arg6 harg6 arg12 harg12 arg15 x0 x1 x2 x3 x4 x10) x6 x7 x8 4 := by
  unfold gatedAt
  rw [read_taps, read_taps, read_biases, read_biases, load_4_0, load_4_1, load_4_2]

theorem gated_5 : gatedOf (View.readAt (Elt F) arg9.view (Rect.unit (s := S3x5632) ![0, 1280] S3x256.size inb_S3x5632_S3x256_0_1280).toLoadRect (harg9.unread x7)) (View.readAt (Elt F) arg9.view (Rect.unit (s := S3x5632) ![0, 4096] S3x256.size inb_S3x5632_S3x256_0_4096).toLoadRect (harg9.unread x7)) (View.readAt (Elt F) arg10.view (Rect.unit (s := S1x5632) ![0, 1280] S1x256.size inb_S1x5632_S1x256_0_1280).toLoadRect (harg10.unread x8)) (View.readAt (Elt F) arg10.view (Rect.unit (s := S1x5632) ![0, 4096] S1x256.size inb_S1x5632_S1x256_0_4096).toLoadRect (harg10.unread x8))
    (loadOf (F := F) 2 0 inb_S3x272x512_S1x272x512_2_0_0 inb_S272x512_S256x512_0_0 (kernelRun0_A.sl.v652 (F := F) c i arg2 harg2 arg3 harg3 arg4 harg4 arg5 harg5 arg6 harg6 arg8 harg8 arg12 harg12 arg15 arg16 x0 x1 x2 x3 x4 x6 x10)) (loadOf (F := F) 2 8 inb_S3x272x512_S1x272x512_2_0_0 inb_S272x512_S256x512_8_0 (kernelRun0_A.sl.v658 (F := F) c i arg2 harg2 arg3 harg3 arg4 harg4 arg5 harg5 arg6 harg6 arg8 harg8 arg12 harg12 arg15 arg16 x0 x1 x2 x3 x4 x6 x10)) (loadOf (F := F) 2 16 inb_S3x272x512_S1x272x512_2_0_0 inb_S272x512_S256x512_16_0 (kernelRun0_A.sl.v665 (F := F) c i arg2 harg2 arg3 harg3 arg4 harg4 arg5 harg5 arg6 harg6 arg8 harg8 arg12 harg12 arg15 arg16 x0 x1 x2 x3 x4 x6 x10))
    = gatedAt (rowsOf (F := F) c i arg2 harg2 arg3 harg3 arg4 harg4 arg5 harg5 arg6 harg6 arg12 harg12 arg15 x0 x1 x2 x3 x4 x10) x6 x7 x8 5 := by
  unfold gatedAt
  rw [read_taps, read_taps, read_biases, read_biases, load_5_0, load_5_1, load_5_2]

theorem gated_6 : gatedOf (View.readAt (Elt F) arg9.view (Rect.unit (s := S3x5632) ![0, 1536] S3x256.size inb_S3x5632_S3x256_0_1536).toLoadRect (harg9.unread x7)) (View.readAt (Elt F) arg9.view (Rect.unit (s := S3x5632) ![0, 4352] S3x256.size inb_S3x5632_S3x256_0_4352).toLoadRect (harg9.unread x7)) (View.readAt (Elt F) arg10.view (Rect.unit (s := S1x5632) ![0, 1536] S1x256.size inb_S1x5632_S1x256_0_1536).toLoadRect (harg10.unread x8)) (View.readAt (Elt F) arg10.view (Rect.unit (s := S1x5632) ![0, 4352] S1x256.size inb_S1x5632_S1x256_0_4352).toLoadRect (harg10.unread x8))
    (loadOf (F := F) 0 0 inb_S3x272x512_S1x272x512_0_0_0 inb_S272x512_S256x512_0_0 (kernelRun0_A.sl.v736 (F := F) c i arg2 harg2 arg3 harg3 arg4 harg4 arg5 harg5 arg6 harg6 arg8 harg8 arg12 harg12 arg15 arg16 x0 x1 x2 x3 x4 x6 x10)) (loadOf (F := F) 0 8 inb_S3x272x512_S1x272x512_0_0_0 inb_S272x512_S256x512_8_0 (kernelRun0_A.sl.v742 (F := F) c i arg2 harg2 arg3 harg3 arg4 harg4 arg5 harg5 arg6 harg6 arg8 harg8 arg12 harg12 arg15 arg16 x0 x1 x2 x3 x4 x6 x10)) (loadOf (F := F) 0 16 inb_S3x272x512_S1x272x512_0_0_0 inb_S272x512_S256x512_16_0 (kernelRun0_A.sl.v749 (F := F) c i arg2 harg2 arg3 harg3 arg4 harg4 arg5 harg5 arg6 harg6 arg8 harg8 arg12 harg12 arg15 arg16 x0 x1 x2 x3 x4 x6 x10))
    = gatedAt (rowsOf (F := F) c i arg2 harg2 arg3 harg3 arg4 harg4 arg5 harg5 arg6 harg6 arg12 harg12 arg15 x0 x1 x2 x3 x4 x10) x6 x7 x8 6 := by
  unfold gatedAt
  rw [read_taps, read_taps, read_biases, read_biases, load_6_0, load_6_1, load_6_2]

theorem gated_7 : gatedOf (View.readAt (Elt F) arg9.view (Rect.unit (s := S3x5632) ![0, 1792] S3x256.size inb_S3x5632_S3x256_0_1792).toLoadRect (harg9.unread x7)) (View.readAt (Elt F) arg9.view (Rect.unit (s := S3x5632) ![0, 4608] S3x256.size inb_S3x5632_S3x256_0_4608).toLoadRect (harg9.unread x7)) (View.readAt (Elt F) arg10.view (Rect.unit (s := S1x5632) ![0, 1792] S1x256.size inb_S1x5632_S1x256_0_1792).toLoadRect (harg10.unread x8)) (View.readAt (Elt F) arg10.view (Rect.unit (s := S1x5632) ![0, 4608] S1x256.size inb_S1x5632_S1x256_0_4608).toLoadRect (harg10.unread x8))
    (loadOf (F := F) 1 0 inb_S3x272x512_S1x272x512_1_0_0 inb_S272x512_S256x512_0_0 (kernelRun0_A.sl.v820 (F := F) c i arg2 harg2 arg3 harg3 arg4 harg4 arg5 harg5 arg6 harg6 arg8 harg8 arg12 harg12 arg15 arg16 x0 x1 x2 x3 x4 x6 x10)) (loadOf (F := F) 1 8 inb_S3x272x512_S1x272x512_1_0_0 inb_S272x512_S256x512_8_0 (kernelRun0_A.sl.v826 (F := F) c i arg2 harg2 arg3 harg3 arg4 harg4 arg5 harg5 arg6 harg6 arg8 harg8 arg12 harg12 arg15 arg16 x0 x1 x2 x3 x4 x6 x10)) (loadOf (F := F) 1 16 inb_S3x272x512_S1x272x512_1_0_0 inb_S272x512_S256x512_16_0 (kernelRun0_A.sl.v833 (F := F) c i arg2 harg2 arg3 harg3 arg4 harg4 arg5 harg5 arg6 harg6 arg8 harg8 arg12 harg12 arg15 arg16 x0 x1 x2 x3 x4 x6 x10))
    = gatedAt (rowsOf (F := F) c i arg2 harg2 arg3 harg3 arg4 harg4 arg5 harg5 arg6 harg6 arg12 harg12 arg15 x0 x1 x2 x3 x4 x10) x6 x7 x8 7 := by
  unfold gatedAt
  rw [read_taps, read_taps, read_biases, read_biases, load_7_0, load_7_1, load_7_2]

theorem gated_8 : gatedOf (View.readAt (Elt F) arg9.view (Rect.unit (s := S3x5632) ![0, 2048] S3x256.size inb_S3x5632_S3x256_0_2048).toLoadRect (harg9.unread x7)) (View.readAt (Elt F) arg9.view (Rect.unit (s := S3x5632) ![0, 4864] S3x256.size inb_S3x5632_S3x256_0_4864).toLoadRect (harg9.unread x7)) (View.readAt (Elt F) arg10.view (Rect.unit (s := S1x5632) ![0, 2048] S1x256.size inb_S1x5632_S1x256_0_2048).toLoadRect (harg10.unread x8)) (View.readAt (Elt F) arg10.view (Rect.unit (s := S1x5632) ![0, 4864] S1x256.size inb_S1x5632_S1x256_0_4864).toLoadRect (harg10.unread x8))
    (loadOf (F := F) 2 0 inb_S3x272x512_S1x272x512_2_0_0 inb_S272x512_S256x512_0_0 (kernelRun0_A.sl.v904 (F := F) c i arg2 harg2 arg3 harg3 arg4 harg4 arg5 harg5 arg6 harg6 arg8 harg8 arg12 harg12 arg15 arg16 x0 x1 x2 x3 x4 x6 x10)) (loadOf (F := F) 2 8 inb_S3x272x512_S1x272x512_2_0_0 inb_S272x512_S256x512_8_0 (kernelRun0_A.sl.v910 (F := F) c i arg2 harg2 arg3 harg3 arg4 harg4 arg5 harg5 arg6 harg6 arg8 harg8 arg12 harg12 arg15 arg16 x0 x1 x2 x3 x4 x6 x10)) (loadOf (F := F) 2 16 inb_S3x272x512_S1x272x512_2_0_0 inb_S272x512_S256x512_16_0 (kernelRun0_A.sl.v917 (F := F) c i arg2 harg2 arg3 harg3 arg4 harg4 arg5 harg5 arg6 harg6 arg8 harg8 arg12 harg12 arg15 arg16 x0 x1 x2 x3 x4 x6 x10))
    = gatedAt (rowsOf (F := F) c i arg2 harg2 arg3 harg3 arg4 harg4 arg5 harg5 arg6 harg6 arg12 harg12 arg15 x0 x1 x2 x3 x4 x10) x6 x7 x8 8 := by
  unfold gatedAt
  rw [read_taps, read_taps, read_biases, read_biases, load_8_0, load_8_1, load_8_2]

theorem gated_9 : gatedOf (View.readAt (Elt F) arg9.view (Rect.unit (s := S3x5632) ![0, 2304] S3x256.size inb_S3x5632_S3x256_0_2304).toLoadRect (harg9.unread x7)) (View.readAt (Elt F) arg9.view (Rect.unit (s := S3x5632) ![0, 5120] S3x256.size inb_S3x5632_S3x256_0_5120).toLoadRect (harg9.unread x7)) (View.readAt (Elt F) arg10.view (Rect.unit (s := S1x5632) ![0, 2304] S1x256.size inb_S1x5632_S1x256_0_2304).toLoadRect (harg10.unread x8)) (View.readAt (Elt F) arg10.view (Rect.unit (s := S1x5632) ![0, 5120] S1x256.size inb_S1x5632_S1x256_0_5120).toLoadRect (harg10.unread x8))
    (loadOf (F := F) 0 0 inb_S3x272x512_S1x272x512_0_0_0 inb_S272x512_S256x512_0_0 (kernelRun0_A.sl.v948 (F := F) c i arg2 harg2 arg3 harg3 arg4 harg4 arg5 harg5 arg6 harg6 arg8 harg8 arg12 harg12 arg15 arg16 x0 x1 x2 x3 x4 x6 x10)) (loadOf (F := F) 0 8 inb_S3x272x512_S1x272x512_0_0_0 inb_S272x512_S256x512_8_0 (kernelRun0_A.sl.v954 (F := F) c i arg2 harg2 arg3 harg3 arg4 harg4 arg5 harg5 arg6 harg6 arg8 harg8 arg12 harg12 arg15 arg16 x0 x1 x2 x3 x4 x6 x10)) (loadOf (F := F) 0 16 inb_S3x272x512_S1x272x512_0_0_0 inb_S272x512_S256x512_16_0 (kernelRun0_A.sl.v961 (F := F) c i arg2 harg2 arg3 harg3 arg4 harg4 arg5 harg5 arg6 harg6 arg8 harg8 arg12 harg12 arg15 arg16 x0 x1 x2 x3 x4 x6 x10))
    = gatedAt (rowsOf (F := F) c i arg2 harg2 arg3 harg3 arg4 harg4 arg5 harg5 arg6 harg6 arg12 harg12 arg15 x0 x1 x2 x3 x4 x10) x6 x7 x8 9 := by
  unfold gatedAt
  rw [read_taps, read_taps, read_biases, read_biases, load_9_0, load_9_1, load_9_2]

theorem gated_10 : gatedOf (View.readAt (Elt F) arg9.view (Rect.unit (s := S3x5632) ![0, 2560] S3x256.size inb_S3x5632_S3x256_0_2560).toLoadRect (harg9.unread x7)) (View.readAt (Elt F) arg9.view (Rect.unit (s := S3x5632) ![0, 5376] S3x256.size inb_S3x5632_S3x256_0_5376).toLoadRect (harg9.unread x7)) (View.readAt (Elt F) arg10.view (Rect.unit (s := S1x5632) ![0, 2560] S1x256.size inb_S1x5632_S1x256_0_2560).toLoadRect (harg10.unread x8)) (View.readAt (Elt F) arg10.view (Rect.unit (s := S1x5632) ![0, 5376] S1x256.size inb_S1x5632_S1x256_0_5376).toLoadRect (harg10.unread x8))
    (loadOf (F := F) 1 0 inb_S3x272x512_S1x272x512_1_0_0 inb_S272x512_S256x512_0_0 (kernelRun0_A.sl.v992 (F := F) c i arg2 harg2 arg3 harg3 arg4 harg4 arg5 harg5 arg6 harg6 arg8 harg8 arg12 harg12 arg15 arg16 x0 x1 x2 x3 x4 x6 x10)) (loadOf (F := F) 1 8 inb_S3x272x512_S1x272x512_1_0_0 inb_S272x512_S256x512_8_0 (kernelRun0_A.sl.v998 (F := F) c i arg2 harg2 arg3 harg3 arg4 harg4 arg5 harg5 arg6 harg6 arg8 harg8 arg12 harg12 arg15 arg16 x0 x1 x2 x3 x4 x6 x10)) (loadOf (F := F) 1 16 inb_S3x272x512_S1x272x512_1_0_0 inb_S272x512_S256x512_16_0 (kernelRun0_A.sl.v1005 (F := F) c i arg2 harg2 arg3 harg3 arg4 harg4 arg5 harg5 arg6 harg6 arg8 harg8 arg12 harg12 arg15 arg16 x0 x1 x2 x3 x4 x6 x10))
    = gatedAt (rowsOf (F := F) c i arg2 harg2 arg3 harg3 arg4 harg4 arg5 harg5 arg6 harg6 arg12 harg12 arg15 x0 x1 x2 x3 x4 x10) x6 x7 x8 10 := by
  unfold gatedAt
  rw [read_taps, read_taps, read_biases, read_biases, load_10_0, load_10_1, load_10_2]

theorem acc_0 : (kernelRun0_A.sl.v342 (F := F) c i arg2 harg2 arg3 harg3 arg4 harg4 arg5 harg5 arg6 harg6 arg8 harg8 arg9 harg9 arg10 harg10 arg11 harg11 arg12 harg12 arg15 arg16 arg17 x0 x1 x2 x3 x4 x6 x7 x8 x9 x10) = accAt (rowsOf (F := F) c i arg2 harg2 arg3 harg3 arg4 harg4 arg5 harg5 arg6 harg6 arg12 harg12 arg15 x0 x1 x2 x3 x4 x10) x6 x7 x8 x9 0 := by
  refine (View.readCov_cons_toLoadRect (Val := Elt F) arg17.view _ _ _ : (kernelRun0_A.sl.v342 (F := F) c i arg2 harg2 arg3 harg3 arg4 harg4 arg5 harg5 arg6 harg6 arg8 harg8 arg9 harg9 arg10 harg10 arg11 harg11 arg12 harg12 arg15 arg16 arg17 x0 x1 x2 x3 x4 x6 x7 x8 x9 x10) = _).trans ?_
  refine (rfl : _ = firstOf (gatedOf (View.readAt (Elt F) arg9.view (Rect.unit (s := S3x5632) ![0, 0] S3x256.size inb_S3x5632_S3x256_0_0).toLoadRect (harg9.unread x7)) (View.readAt (Elt F) arg9.view (Rect.unit (s := S3x5632) ![0, 2816] S3x256.size inb_S3x5632_S3x256_0_2816).toLoadRect (harg9.unread x7)) (View.readAt (Elt F) arg10.view (Rect.unit (s := S1x5632) ![0, 0] S1x256.size inb_S1x5632_S1x256_0_0).toLoadRect (harg10.unread x8)) (View.readAt (Elt F) arg10.view (Rect.unit (s := S1x5632) ![0, 2816] S1x256.size inb_S1x5632_S1x256_0_2816).toLoadRect (harg10.unread x8)) (loadOf (F := F) 0 0 inb_S3x272x512_S1x272x512_0_0_0 inb_S272x512_S256x512_0_0 (kernelRun0_A.sl.v234 (F := F) c i arg2 harg2 arg3 harg3 arg4 harg4 arg5 harg5 arg6 harg6 arg8 harg8 arg12 harg12 arg15 arg16 x0 x1 x2 x3 x4 x6 x10)) (loadOf (F := F) 0 8 inb_S3x272x512_S1x272x512_0_0_0 inb_S272x512_S256x512_8_0 (kernelRun0_A.sl.v240 (F := F) c i arg2 harg2 arg3 harg3 arg4 harg4 arg5 harg5 arg6 harg6 arg8 harg8 arg12 harg12 arg15 arg16 x0 x1 x2 x3 x4 x6 x10)) (loadOf (F := F) 0 16 inb_S3x272x512_S1x272x512_0_0_0 inb_S272x512_S256x512_16_0 (kernelRun0_A.sl.v247 (F := F) c i arg2 harg2 arg3 harg3 arg4 harg4 arg5 harg5 arg6 harg6 arg8 harg8 arg12 harg12 arg15 arg16 x0 x1 x2 x3 x4 x6 x10))) (View.readAt (Elt F) arg11.view (Rect.unit (s := S11x256x1024) ![0, 0, 0] S1x256x1024.size inb_S11x256x1024_S1x256x1024_0_0_0).toLoadRect (harg11.unread x9))).trans ?_
  rw [gated_0, read_downs]
  rfl

theorem acc_1 : (kernelRun0_A.sl.v426 (F := F) c i arg2 harg2 arg3 harg3 arg4 harg4 arg5 harg5 arg6 harg6 arg8 harg8 arg9 harg9 arg10 harg10 arg11 harg11 arg12 harg12 arg15 arg16 arg17 x0 x1 x2 x3 x4 x6 x7 x8 x9 x10) = accAt (rowsOf (F := F) c i arg2 harg2 arg3 harg3 arg4 harg4 arg5 harg5 arg6 harg6 arg12 harg12 arg15 x0 x1 x2 x3 x4 x10) x6 x7 x8 x9 1 := by
  refine (View.readCov_cons_toLoadRect (Val := Elt F) arg17.view _ _ _ : (kernelRun0_A.sl.v426 (F := F) c i arg2 harg2 arg3 harg3 arg4 harg4 arg5 harg5 arg6 harg6 arg8 harg8 arg9 harg9 arg10 harg10 arg11 harg11 arg12 harg12 arg15 arg16 arg17 x0 x1 x2 x3 x4 x6 x7 x8 x9 x10) = _).trans ?_
  refine (rfl : _ = stepOf (kernelRun0_A.sl.v342 (F := F) c i arg2 harg2 arg3 harg3 arg4 harg4 arg5 harg5 arg6 harg6 arg8 harg8 arg9 harg9 arg10 harg10 arg11 harg11 arg12 harg12 arg15 arg16 arg17 x0 x1 x2 x3 x4 x6 x7 x8 x9 x10) (gatedOf (View.readAt (Elt F) arg9.view (Rect.unit (s := S3x5632) ![0, 256] S3x256.size inb_S3x5632_S3x256_0_256).toLoadRect (harg9.unread x7)) (View.readAt (Elt F) arg9.view (Rect.unit (s := S3x5632) ![0, 3072] S3x256.size inb_S3x5632_S3x256_0_3072).toLoadRect (harg9.unread x7)) (View.readAt (Elt F) arg10.view (Rect.unit (s := S1x5632) ![0, 256] S1x256.size inb_S1x5632_S1x256_0_256).toLoadRect (harg10.unread x8)) (View.readAt (Elt F) arg10.view (Rect.unit (s := S1x5632) ![0, 3072] S1x256.size inb_S1x5632_S1x256_0_3072).toLoadRect (harg10.unread x8)) (loadOf (F := F) 1 0 inb_S3x272x512_S1x272x512_1_0_0 inb_S272x512_S256x512_0_0 (kernelRun0_A.sl.v316 (F := F) c i arg2 harg2 arg3 harg3 arg4 harg4 arg5 harg5 arg6 harg6 arg8 harg8 arg12 harg12 arg15 arg16 x0 x1 x2 x3 x4 x6 x10)) (loadOf (F := F) 1 8 inb_S3x272x512_S1x272x512_1_0_0 inb_S272x512_S256x512_8_0 (kernelRun0_A.sl.v322 (F := F) c i arg2 harg2 arg3 harg3 arg4 harg4 arg5 harg5 arg6 harg6 arg8 harg8 arg12 harg12 arg15 arg16 x0 x1 x2 x3 x4 x6 x10)) (loadOf (F := F) 1 16 inb_S3x272x512_S1x272x512_1_0_0 inb_S272x512_S256x512_16_0 (kernelRun0_A.sl.v329 (F := F) c i arg2 harg2 arg3 harg3 arg4 harg4 arg5 harg5 arg6 harg6 arg8 harg8 arg12 harg12 arg15 arg16 x0 x1 x2 x3 x4 x6 x10))) (View.readAt (Elt F) arg11.view (Rect.unit (s := S11x256x1024) ![1, 0, 0] S1x256x1024.size inb_S11x256x1024_S1x256x1024_1_0_0).toLoadRect (harg11.unread x9))).trans ?_
  rw [acc_0, gated_1, read_downs]
  rfl

theorem acc_2 : (kernelRun0_A.sl.v510 (F := F) c i arg2 harg2 arg3 harg3 arg4 harg4 arg5 harg5 arg6 harg6 arg8 harg8 arg9 harg9 arg10 harg10 arg11 harg11 arg12 harg12 arg15 arg16 arg17 x0 x1 x2 x3 x4 x6 x7 x8 x9 x10) = accAt (rowsOf (F := F) c i arg2 harg2 arg3 harg3 arg4 harg4 arg5 harg5 arg6 harg6 arg12 harg12 arg15 x0 x1 x2 x3 x4 x10) x6 x7 x8 x9 2 := by
  refine (View.readCov_cons_toLoadRect (Val := Elt F) arg17.view _ _ _ : (kernelRun0_A.sl.v510 (F := F) c i arg2 harg2 arg3 harg3 arg4 harg4 arg5 harg5 arg6 harg6 arg8 harg8 arg9 harg9 arg10 harg10 arg11 harg11 arg12 harg12 arg15 arg16 arg17 x0 x1 x2 x3 x4 x6 x7 x8 x9 x10) = _).trans ?_
  refine (rfl : _ = stepOf (kernelRun0_A.sl.v426 (F := F) c i arg2 harg2 arg3 harg3 arg4 harg4 arg5 harg5 arg6 harg6 arg8 harg8 arg9 harg9 arg10 harg10 arg11 harg11 arg12 harg12 arg15 arg16 arg17 x0 x1 x2 x3 x4 x6 x7 x8 x9 x10) (gatedOf (View.readAt (Elt F) arg9.view (Rect.unit (s := S3x5632) ![0, 512] S3x256.size inb_S3x5632_S3x256_0_512).toLoadRect (harg9.unread x7)) (View.readAt (Elt F) arg9.view (Rect.unit (s := S3x5632) ![0, 3328] S3x256.size inb_S3x5632_S3x256_0_3328).toLoadRect (harg9.unread x7)) (View.readAt (Elt F) arg10.view (Rect.unit (s := S1x5632) ![0, 512] S1x256.size inb_S1x5632_S1x256_0_512).toLoadRect (harg10.unread x8)) (View.readAt (Elt F) arg10.view (Rect.unit (s := S1x5632) ![0, 3328] S1x256.size inb_S1x5632_S1x256_0_3328).toLoadRect (harg10.unread x8)) (loadOf (F := F) 2 0 inb_S3x272x512_S1x272x512_2_0_0 inb_S272x512_S256x512_0_0 (kernelRun0_A.sl.v400 (F := F) c i arg2 harg2 arg3 harg3 arg4 harg4 arg5 harg5 arg6 harg6 arg8 harg8 arg12 harg12 arg15 arg16 x0 x1 x2 x3 x4 x6 x10)) (loadOf (F := F) 2 8 inb_S3x272x512_S1x272x512_2_0_0 inb_S272x512_S256x512_8_0 (kernelRun0_A.sl.v406 (F := F) c i arg2 harg2 arg3 harg3 arg4 harg4 arg5 harg5 arg6 harg6 arg8 harg8 arg12 harg12 arg15 arg16 x0 x1 x2 x3 x4 x6 x10)) (loadOf (F := F) 2 16 inb_S3x272x512_S1x272x512_2_0_0 inb_S272x512_S256x512_16_0 (kernelRun0_A.sl.v413 (F := F) c i arg2 harg2 arg3 harg3 arg4 harg4 arg5 harg5 arg6 harg6 arg8 harg8 arg12 harg12 arg15 arg16 x0 x1 x2 x3 x4 x6 x10))) (View.readAt (Elt F) arg11.view (Rect.unit (s := S11x256x1024) ![2, 0, 0] S1x256x1024.size inb_S11x256x1024_S1x256x1024_2_0_0).toLoadRect (harg11.unread x9))).trans ?_
  rw [acc_1, gated_2, read_downs]
  rfl

theorem acc_3 : (kernelRun0_A.sl.v594 (F := F) c i arg2 harg2 arg3 harg3 arg4 harg4 arg5 harg5 arg6 harg6 arg8 harg8 arg9 harg9 arg10 harg10 arg11 harg11 arg12 harg12 arg15 arg16 arg17 x0 x1 x2 x3 x4 x6 x7 x8 x9 x10) = accAt (rowsOf (F := F) c i arg2 harg2 arg3 harg3 arg4 harg4 arg5 harg5 arg6 harg6 arg12 harg12 arg15 x0 x1 x2 x3 x4 x10) x6 x7 x8 x9 3 := by
  refine (View.readCov_cons_toLoadRect (Val := Elt F) arg17.view _ _ _ : (kernelRun0_A.sl.v594 (F := F) c i arg2 harg2 arg3 harg3 arg4 harg4 arg5 harg5 arg6 harg6 arg8 harg8 arg9 harg9 arg10 harg10 arg11 harg11 arg12 harg12 arg15 arg16 arg17 x0 x1 x2 x3 x4 x6 x7 x8 x9 x10) = _).trans ?_
  refine (rfl : _ = stepOf (kernelRun0_A.sl.v510 (F := F) c i arg2 harg2 arg3 harg3 arg4 harg4 arg5 harg5 arg6 harg6 arg8 harg8 arg9 harg9 arg10 harg10 arg11 harg11 arg12 harg12 arg15 arg16 arg17 x0 x1 x2 x3 x4 x6 x7 x8 x9 x10) (gatedOf (View.readAt (Elt F) arg9.view (Rect.unit (s := S3x5632) ![0, 768] S3x256.size inb_S3x5632_S3x256_0_768).toLoadRect (harg9.unread x7)) (View.readAt (Elt F) arg9.view (Rect.unit (s := S3x5632) ![0, 3584] S3x256.size inb_S3x5632_S3x256_0_3584).toLoadRect (harg9.unread x7)) (View.readAt (Elt F) arg10.view (Rect.unit (s := S1x5632) ![0, 768] S1x256.size inb_S1x5632_S1x256_0_768).toLoadRect (harg10.unread x8)) (View.readAt (Elt F) arg10.view (Rect.unit (s := S1x5632) ![0, 3584] S1x256.size inb_S1x5632_S1x256_0_3584).toLoadRect (harg10.unread x8)) (loadOf (F := F) 0 0 inb_S3x272x512_S1x272x512_0_0_0 inb_S272x512_S256x512_0_0 (kernelRun0_A.sl.v484 (F := F) c i arg2 harg2 arg3 harg3 arg4 harg4 arg5 harg5 arg6 harg6 arg8 harg8 arg12 harg12 arg15 arg16 x0 x1 x2 x3 x4 x6 x10)) (loadOf (F := F) 0 8 inb_S3x272x512_S1x272x512_0_0_0 inb_S272x512_S256x512_8_0 (kernelRun0_A.sl.v490 (F := F) c i arg2 harg2 arg3 harg3 arg4 harg4 arg5 harg5 arg6 harg6 arg8 harg8 arg12 harg12 arg15 arg16 x0 x1 x2 x3 x4 x6 x10)) (loadOf (F := F) 0 16 inb_S3x272x512_S1x272x512_0_0_0 inb_S272x512_S256x512_16_0 (kernelRun0_A.sl.v497 (F := F) c i arg2 harg2 arg3 harg3 arg4 harg4 arg5 harg5 arg6 harg6 arg8 harg8 arg12 harg12 arg15 arg16 x0 x1 x2 x3 x4 x6 x10))) (View.readAt (Elt F) arg11.view (Rect.unit (s := S11x256x1024) ![3, 0, 0] S1x256x1024.size inb_S11x256x1024_S1x256x1024_3_0_0).toLoadRect (harg11.unread x9))).trans ?_
  rw [acc_2, gated_3, read_downs]
  rfl

theorem acc_4 : (kernelRun0_A.sl.v678 (F := F) c i arg2 harg2 arg3 harg3 arg4 harg4 arg5 harg5 arg6 harg6 arg8 harg8 arg9 harg9 arg10 harg10 arg11 harg11 arg12 harg12 arg15 arg16 arg17 x0 x1 x2 x3 x4 x6 x7 x8 x9 x10) = accAt (rowsOf (F := F) c i arg2 harg2 arg3 harg3 arg4 harg4 arg5 harg5 arg6 harg6 arg12 harg12 arg15 x0 x1 x2 x3 x4 x10) x6 x7 x8 x9 4 := by
  refine (View.readCov_cons_toLoadRect (Val := Elt F) arg17.view _ _ _ : (kernelRun0_A.sl.v678 (F := F) c i arg2 harg2 arg3 harg3 arg4 harg4 arg5 harg5 arg6 harg6 arg8 harg8 arg9 harg9 arg10 harg10 arg11 harg11 arg12 harg12 arg15 arg16 arg17 x0 x1 x2 x3 x4 x6 x7 x8 x9 x10) = _).trans ?_
  refine (rfl : _ = stepOf (kernelRun0_A.sl.v594 (F := F) c i arg2 harg2 arg3 harg3 arg4 harg4 arg5 harg5 arg6 harg6 arg8 harg8 arg9 harg9 arg10 harg10 arg11 harg11 arg12 harg12 arg15 arg16 arg17 x0 x1 x2 x3 x4 x6 x7 x8 x9 x10) (gatedOf (View.readAt (Elt F) arg9.view (Rect.unit (s := S3x5632) ![0, 1024] S3x256.size inb_S3x5632_S3x256_0_1024).toLoadRect (harg9.unread x7)) (View.readAt (Elt F) arg9.view (Rect.unit (s := S3x5632) ![0, 3840] S3x256.size inb_S3x5632_S3x256_0_3840).toLoadRect (harg9.unread x7)) (View.readAt (Elt F) arg10.view (Rect.unit (s := S1x5632) ![0, 1024] S1x256.size inb_S1x5632_S1x256_0_1024).toLoadRect (harg10.unread x8)) (View.readAt (Elt F) arg10.view (Rect.unit (s := S1x5632) ![0, 3840] S1x256.size inb_S1x5632_S1x256_0_3840).toLoadRect (harg10.unread x8)) (loadOf (F := F) 1 0 inb_S3x272x512_S1x272x512_1_0_0 inb_S272x512_S256x512_0_0 (kernelRun0_A.sl.v568 (F := F) c i arg2 harg2 arg3 harg3 arg4 harg4 arg5 harg5 arg6 harg6 arg8 harg8 arg12 harg12 arg15 arg16 x0 x1 x2 x3 x4 x6 x10)) (loadOf (F := F) 1 8 inb_S3x272x512_S1x272x512_1_0_0 inb_S272x512_S256x512_8_0 (kernelRun0_A.sl.v574 (F := F) c i arg2 harg2 arg3 harg3 arg4 harg4 arg5 harg5 arg6 harg6 arg8 harg8 arg12 harg12 arg15 arg16 x0 x1 x2 x3 x4 x6 x10)) (loadOf (F := F) 1 16 inb_S3x272x512_S1x272x512_1_0_0 inb_S272x512_S256x512_16_0 (kernelRun0_A.sl.v581 (F := F) c i arg2 harg2 arg3 harg3 arg4 harg4 arg5 harg5 arg6 harg6 arg8 harg8 arg12 harg12 arg15 arg16 x0 x1 x2 x3 x4 x6 x10))) (View.readAt (Elt F) arg11.view (Rect.unit (s := S11x256x1024) ![4, 0, 0] S1x256x1024.size inb_S11x256x1024_S1x256x1024_4_0_0).toLoadRect (harg11.unread x9))).trans ?_
  rw [acc_3, gated_4, read_downs]
  rfl

theorem acc_5 : (kernelRun0_A.sl.v762 (F := F) c i arg2 harg2 arg3 harg3 arg4 harg4 arg5 harg5 arg6 harg6 arg8 harg8 arg9 harg9 arg10 harg10 arg11 harg11 arg12 harg12 arg15 arg16 arg17 x0 x1 x2 x3 x4 x6 x7 x8 x9 x10) = accAt (rowsOf (F := F) c i arg2 harg2 arg3 harg3 arg4 harg4 arg5 harg5 arg6 harg6 arg12 harg12 arg15 x0 x1 x2 x3 x4 x10) x6 x7 x8 x9 5 := by
  refine (View.readCov_cons_toLoadRect (Val := Elt F) arg17.view _ _ _ : (kernelRun0_A.sl.v762 (F := F) c i arg2 harg2 arg3 harg3 arg4 harg4 arg5 harg5 arg6 harg6 arg8 harg8 arg9 harg9 arg10 harg10 arg11 harg11 arg12 harg12 arg15 arg16 arg17 x0 x1 x2 x3 x4 x6 x7 x8 x9 x10) = _).trans ?_
  refine (rfl : _ = stepOf (kernelRun0_A.sl.v678 (F := F) c i arg2 harg2 arg3 harg3 arg4 harg4 arg5 harg5 arg6 harg6 arg8 harg8 arg9 harg9 arg10 harg10 arg11 harg11 arg12 harg12 arg15 arg16 arg17 x0 x1 x2 x3 x4 x6 x7 x8 x9 x10) (gatedOf (View.readAt (Elt F) arg9.view (Rect.unit (s := S3x5632) ![0, 1280] S3x256.size inb_S3x5632_S3x256_0_1280).toLoadRect (harg9.unread x7)) (View.readAt (Elt F) arg9.view (Rect.unit (s := S3x5632) ![0, 4096] S3x256.size inb_S3x5632_S3x256_0_4096).toLoadRect (harg9.unread x7)) (View.readAt (Elt F) arg10.view (Rect.unit (s := S1x5632) ![0, 1280] S1x256.size inb_S1x5632_S1x256_0_1280).toLoadRect (harg10.unread x8)) (View.readAt (Elt F) arg10.view (Rect.unit (s := S1x5632) ![0, 4096] S1x256.size inb_S1x5632_S1x256_0_4096).toLoadRect (harg10.unread x8)) (loadOf (F := F) 2 0 inb_S3x272x512_S1x272x512_2_0_0 inb_S272x512_S256x512_0_0 (kernelRun0_A.sl.v652 (F := F) c i arg2 harg2 arg3 harg3 arg4 harg4 arg5 harg5 arg6 harg6 arg8 harg8 arg12 harg12 arg15 arg16 x0 x1 x2 x3 x4 x6 x10)) (loadOf (F := F) 2 8 inb_S3x272x512_S1x272x512_2_0_0 inb_S272x512_S256x512_8_0 (kernelRun0_A.sl.v658 (F := F) c i arg2 harg2 arg3 harg3 arg4 harg4 arg5 harg5 arg6 harg6 arg8 harg8 arg12 harg12 arg15 arg16 x0 x1 x2 x3 x4 x6 x10)) (loadOf (F := F) 2 16 inb_S3x272x512_S1x272x512_2_0_0 inb_S272x512_S256x512_16_0 (kernelRun0_A.sl.v665 (F := F) c i arg2 harg2 arg3 harg3 arg4 harg4 arg5 harg5 arg6 harg6 arg8 harg8 arg12 harg12 arg15 arg16 x0 x1 x2 x3 x4 x6 x10))) (View.readAt (Elt F) arg11.view (Rect.unit (s := S11x256x1024) ![5, 0, 0] S1x256x1024.size inb_S11x256x1024_S1x256x1024_5_0_0).toLoadRect (harg11.unread x9))).trans ?_
  rw [acc_4, gated_5, read_downs]
  rfl

theorem acc_6 : (kernelRun0_A.sl.v846 (F := F) c i arg2 harg2 arg3 harg3 arg4 harg4 arg5 harg5 arg6 harg6 arg8 harg8 arg9 harg9 arg10 harg10 arg11 harg11 arg12 harg12 arg15 arg16 arg17 x0 x1 x2 x3 x4 x6 x7 x8 x9 x10) = accAt (rowsOf (F := F) c i arg2 harg2 arg3 harg3 arg4 harg4 arg5 harg5 arg6 harg6 arg12 harg12 arg15 x0 x1 x2 x3 x4 x10) x6 x7 x8 x9 6 := by
  refine (View.readCov_cons_toLoadRect (Val := Elt F) arg17.view _ _ _ : (kernelRun0_A.sl.v846 (F := F) c i arg2 harg2 arg3 harg3 arg4 harg4 arg5 harg5 arg6 harg6 arg8 harg8 arg9 harg9 arg10 harg10 arg11 harg11 arg12 harg12 arg15 arg16 arg17 x0 x1 x2 x3 x4 x6 x7 x8 x9 x10) = _).trans ?_
  refine (rfl : _ = stepOf (kernelRun0_A.sl.v762 (F := F) c i arg2 harg2 arg3 harg3 arg4 harg4 arg5 harg5 arg6 harg6 arg8 harg8 arg9 harg9 arg10 harg10 arg11 harg11 arg12 harg12 arg15 arg16 arg17 x0 x1 x2 x3 x4 x6 x7 x8 x9 x10) (gatedOf (View.readAt (Elt F) arg9.view (Rect.unit (s := S3x5632) ![0, 1536] S3x256.size inb_S3x5632_S3x256_0_1536).toLoadRect (harg9.unread x7)) (View.readAt (Elt F) arg9.view (Rect.unit (s := S3x5632) ![0, 4352] S3x256.size inb_S3x5632_S3x256_0_4352).toLoadRect (harg9.unread x7)) (View.readAt (Elt F) arg10.view (Rect.unit (s := S1x5632) ![0, 1536] S1x256.size inb_S1x5632_S1x256_0_1536).toLoadRect (harg10.unread x8)) (View.readAt (Elt F) arg10.view (Rect.unit (s := S1x5632) ![0, 4352] S1x256.size inb_S1x5632_S1x256_0_4352).toLoadRect (harg10.unread x8)) (loadOf (F := F) 0 0 inb_S3x272x512_S1x272x512_0_0_0 inb_S272x512_S256x512_0_0 (kernelRun0_A.sl.v736 (F := F) c i arg2 harg2 arg3 harg3 arg4 harg4 arg5 harg5 arg6 harg6 arg8 harg8 arg12 harg12 arg15 arg16 x0 x1 x2 x3 x4 x6 x10)) (loadOf (F := F) 0 8 inb_S3x272x512_S1x272x512_0_0_0 inb_S272x512_S256x512_8_0 (kernelRun0_A.sl.v742 (F := F) c i arg2 harg2 arg3 harg3 arg4 harg4 arg5 harg5 arg6 harg6 arg8 harg8 arg12 harg12 arg15 arg16 x0 x1 x2 x3 x4 x6 x10)) (loadOf (F := F) 0 16 inb_S3x272x512_S1x272x512_0_0_0 inb_S272x512_S256x512_16_0 (kernelRun0_A.sl.v749 (F := F) c i arg2 harg2 arg3 harg3 arg4 harg4 arg5 harg5 arg6 harg6 arg8 harg8 arg12 harg12 arg15 arg16 x0 x1 x2 x3 x4 x6 x10))) (View.readAt (Elt F) arg11.view (Rect.unit (s := S11x256x1024) ![6, 0, 0] S1x256x1024.size inb_S11x256x1024_S1x256x1024_6_0_0).toLoadRect (harg11.unread x9))).trans ?_
  rw [acc_5, gated_6, read_downs]
  rfl

theorem acc_7 : (kernelRun0_A.sl.v930 (F := F) c i arg2 harg2 arg3 harg3 arg4 harg4 arg5 harg5 arg6 harg6 arg8 harg8 arg9 harg9 arg10 harg10 arg11 harg11 arg12 harg12 arg15 arg16 arg17 x0 x1 x2 x3 x4 x6 x7 x8 x9 x10) = accAt (rowsOf (F := F) c i arg2 harg2 arg3 harg3 arg4 harg4 arg5 harg5 arg6 harg6 arg12 harg12 arg15 x0 x1 x2 x3 x4 x10) x6 x7 x8 x9 7 := by
  refine (View.readCov_cons_toLoadRect (Val := Elt F) arg17.view _ _ _ : (kernelRun0_A.sl.v930 (F := F) c i arg2 harg2 arg3 harg3 arg4 harg4 arg5 harg5 arg6 harg6 arg8 harg8 arg9 harg9 arg10 harg10 arg11 harg11 arg12 harg12 arg15 arg16 arg17 x0 x1 x2 x3 x4 x6 x7 x8 x9 x10) = _).trans ?_
  refine (rfl : _ = stepOf (kernelRun0_A.sl.v846 (F := F) c i arg2 harg2 arg3 harg3 arg4 harg4 arg5 harg5 arg6 harg6 arg8 harg8 arg9 harg9 arg10 harg10 arg11 harg11 arg12 harg12 arg15 arg16 arg17 x0 x1 x2 x3 x4 x6 x7 x8 x9 x10) (gatedOf (View.readAt (Elt F) arg9.view (Rect.unit (s := S3x5632) ![0, 1792] S3x256.size inb_S3x5632_S3x256_0_1792).toLoadRect (harg9.unread x7)) (View.readAt (Elt F) arg9.view (Rect.unit (s := S3x5632) ![0, 4608] S3x256.size inb_S3x5632_S3x256_0_4608).toLoadRect (harg9.unread x7)) (View.readAt (Elt F) arg10.view (Rect.unit (s := S1x5632) ![0, 1792] S1x256.size inb_S1x5632_S1x256_0_1792).toLoadRect (harg10.unread x8)) (View.readAt (Elt F) arg10.view (Rect.unit (s := S1x5632) ![0, 4608] S1x256.size inb_S1x5632_S1x256_0_4608).toLoadRect (harg10.unread x8)) (loadOf (F := F) 1 0 inb_S3x272x512_S1x272x512_1_0_0 inb_S272x512_S256x512_0_0 (kernelRun0_A.sl.v820 (F := F) c i arg2 harg2 arg3 harg3 arg4 harg4 arg5 harg5 arg6 harg6 arg8 harg8 arg12 harg12 arg15 arg16 x0 x1 x2 x3 x4 x6 x10)) (loadOf (F := F) 1 8 inb_S3x272x512_S1x272x512_1_0_0 inb_S272x512_S256x512_8_0 (kernelRun0_A.sl.v826 (F := F) c i arg2 harg2 arg3 harg3 arg4 harg4 arg5 harg5 arg6 harg6 arg8 harg8 arg12 harg12 arg15 arg16 x0 x1 x2 x3 x4 x6 x10)) (loadOf (F := F) 1 16 inb_S3x272x512_S1x272x512_1_0_0 inb_S272x512_S256x512_16_0 (kernelRun0_A.sl.v833 (F := F) c i arg2 harg2 arg3 harg3 arg4 harg4 arg5 harg5 arg6 harg6 arg8 harg8 arg12 harg12 arg15 arg16 x0 x1 x2 x3 x4 x6 x10))) (View.readAt (Elt F) arg11.view (Rect.unit (s := S11x256x1024) ![7, 0, 0] S1x256x1024.size inb_S11x256x1024_S1x256x1024_7_0_0).toLoadRect (harg11.unread x9))).trans ?_
  rw [acc_6, gated_7, read_downs]
  rfl

theorem acc_8 : (kernelRun0_A.sl.v974 (F := F) c i arg2 harg2 arg3 harg3 arg4 harg4 arg5 harg5 arg6 harg6 arg8 harg8 arg9 harg9 arg10 harg10 arg11 harg11 arg12 harg12 arg15 arg16 arg17 x0 x1 x2 x3 x4 x6 x7 x8 x9 x10) = accAt (rowsOf (F := F) c i arg2 harg2 arg3 harg3 arg4 harg4 arg5 harg5 arg6 harg6 arg12 harg12 arg15 x0 x1 x2 x3 x4 x10) x6 x7 x8 x9 8 := by
  refine (View.readCov_cons_toLoadRect (Val := Elt F) arg17.view _ _ _ : (kernelRun0_A.sl.v974 (F := F) c i arg2 harg2 arg3 harg3 arg4 harg4 arg5 harg5 arg6 harg6 arg8 harg8 arg9 harg9 arg10 harg10 arg11 harg11 arg12 harg12 arg15 arg16 arg17 x0 x1 x2 x3 x4 x6 x7 x8 x9 x10) = _).trans ?_
  refine (rfl : _ = stepOf (kernelRun0_A.sl.v930 (F := F) c i arg2 harg2 arg3 harg3 arg4 harg4 arg5 harg5 arg6 harg6 arg8 harg8 arg9 harg9 arg10 harg10 arg11 harg11 arg12 harg12 arg15 arg16 arg17 x0 x1 x2 x3 x4 x6 x7 x8 x9 x10) (gatedOf (View.readAt (Elt F) arg9.view (Rect.unit (s := S3x5632) ![0, 2048] S3x256.size inb_S3x5632_S3x256_0_2048).toLoadRect (harg9.unread x7)) (View.readAt (Elt F) arg9.view (Rect.unit (s := S3x5632) ![0, 4864] S3x256.size inb_S3x5632_S3x256_0_4864).toLoadRect (harg9.unread x7)) (View.readAt (Elt F) arg10.view (Rect.unit (s := S1x5632) ![0, 2048] S1x256.size inb_S1x5632_S1x256_0_2048).toLoadRect (harg10.unread x8)) (View.readAt (Elt F) arg10.view (Rect.unit (s := S1x5632) ![0, 4864] S1x256.size inb_S1x5632_S1x256_0_4864).toLoadRect (harg10.unread x8)) (loadOf (F := F) 2 0 inb_S3x272x512_S1x272x512_2_0_0 inb_S272x512_S256x512_0_0 (kernelRun0_A.sl.v904 (F := F) c i arg2 harg2 arg3 harg3 arg4 harg4 arg5 harg5 arg6 harg6 arg8 harg8 arg12 harg12 arg15 arg16 x0 x1 x2 x3 x4 x6 x10)) (loadOf (F := F) 2 8 inb_S3x272x512_S1x272x512_2_0_0 inb_S272x512_S256x512_8_0 (kernelRun0_A.sl.v910 (F := F) c i arg2 harg2 arg3 harg3 arg4 harg4 arg5 harg5 arg6 harg6 arg8 harg8 arg12 harg12 arg15 arg16 x0 x1 x2 x3 x4 x6 x10)) (loadOf (F := F) 2 16 inb_S3x272x512_S1x272x512_2_0_0 inb_S272x512_S256x512_16_0 (kernelRun0_A.sl.v917 (F := F) c i arg2 harg2 arg3 harg3 arg4 harg4 arg5 harg5 arg6 harg6 arg8 harg8 arg12 harg12 arg15 arg16 x0 x1 x2 x3 x4 x6 x10))) (View.readAt (Elt F) arg11.view (Rect.unit (s := S11x256x1024) ![8, 0, 0] S1x256x1024.size inb_S11x256x1024_S1x256x1024_8_0_0).toLoadRect (harg11.unread x9))).trans ?_
  rw [acc_7, gated_8, read_downs]
  rfl

theorem acc_9 : (kernelRun0_A.sl.v1018 (F := F) c i arg2 harg2 arg3 harg3 arg4 harg4 arg5 harg5 arg6 harg6 arg8 harg8 arg9 harg9 arg10 harg10 arg11 harg11 arg12 harg12 arg15 arg16 arg17 x0 x1 x2 x3 x4 x6 x7 x8 x9 x10) = accAt (rowsOf (F := F) c i arg2 harg2 arg3 harg3 arg4 harg4 arg5 harg5 arg6 harg6 arg12 harg12 arg15 x0 x1 x2 x3 x4 x10) x6 x7 x8 x9 9 := by
  refine (View.readCov_cons_toLoadRect (Val := Elt F) arg17.view _ _ _ : (kernelRun0_A.sl.v1018 (F := F) c i arg2 harg2 arg3 harg3 arg4 harg4 arg5 harg5 arg6 harg6 arg8 harg8 arg9 harg9 arg10 harg10 arg11 harg11 arg12 harg12 arg15 arg16 arg17 x0 x1 x2 x3 x4 x6 x7 x8 x9 x10) = _).trans ?_
  refine (rfl : _ = stepOf (kernelRun0_A.sl.v974 (F := F) c i arg2 harg2 arg3 harg3 arg4 harg4 arg5 harg5 arg6 harg6 arg8 harg8 arg9 harg9 arg10 harg10 arg11 harg11 arg12 harg12 arg15 arg16 arg17 x0 x1 x2 x3 x4 x6 x7 x8 x9 x10) (gatedOf (View.readAt (Elt F) arg9.view (Rect.unit (s := S3x5632) ![0, 2304] S3x256.size inb_S3x5632_S3x256_0_2304).toLoadRect (harg9.unread x7)) (View.readAt (Elt F) arg9.view (Rect.unit (s := S3x5632) ![0, 5120] S3x256.size inb_S3x5632_S3x256_0_5120).toLoadRect (harg9.unread x7)) (View.readAt (Elt F) arg10.view (Rect.unit (s := S1x5632) ![0, 2304] S1x256.size inb_S1x5632_S1x256_0_2304).toLoadRect (harg10.unread x8)) (View.readAt (Elt F) arg10.view (Rect.unit (s := S1x5632) ![0, 5120] S1x256.size inb_S1x5632_S1x256_0_5120).toLoadRect (harg10.unread x8)) (loadOf (F := F) 0 0 inb_S3x272x512_S1x272x512_0_0_0 inb_S272x512_S256x512_0_0 (kernelRun0_A.sl.v948 (F := F) c i arg2 harg2 arg3 harg3 arg4 harg4 arg5 harg5 arg6 harg6 arg8 harg8 arg12 harg12 arg15 arg16 x0 x1 x2 x3 x4 x6 x10)) (loadOf (F := F) 0 8 inb_S3x272x512_S1x272x512_0_0_0 inb_S272x512_S256x512_8_0 (kernelRun0_A.sl.v954 (F := F) c i arg2 harg2 arg3 harg3 arg4 harg4 arg5 harg5 arg6 harg6 arg8 harg8 arg12 harg12 arg15 arg16 x0 x1 x2 x3 x4 x6 x10)) (loadOf (F := F) 0 16 inb_S3x272x512_S1x272x512_0_0_0 inb_S272x512_S256x512_16_0 (kernelRun0_A.sl.v961 (F := F) c i arg2 harg2 arg3 harg3 arg4 harg4 arg5 harg5 arg6 harg6 arg8 harg8 arg12 harg12 arg15 arg16 x0 x1 x2 x3 x4 x6 x10))) (View.readAt (Elt F) arg11.view (Rect.unit (s := S11x256x1024) ![9, 0, 0] S1x256x1024.size inb_S11x256x1024_S1x256x1024_9_0_0).toLoadRect (harg11.unread x9))).trans ?_
  rw [acc_8, gated_9, read_downs]
  rfl

theorem acc_10 : (kernelRun0_A.sl.v1028 (F := F) c i arg2 harg2 arg3 harg3 arg4 harg4 arg5 harg5 arg6 harg6 arg8 harg8 arg9 harg9 arg10 harg10 arg11 harg11 arg12 harg12 arg15 arg16 arg17 x0 x1 x2 x3 x4 x6 x7 x8 x9 x10) = accAt (rowsOf (F := F) c i arg2 harg2 arg3 harg3 arg4 harg4 arg5 harg5 arg6 harg6 arg12 harg12 arg15 x0 x1 x2 x3 x4 x10) x6 x7 x8 x9 10 := by
  refine (View.readCov_cons_toLoadRect (Val := Elt F) arg17.view _ _ _ : (kernelRun0_A.sl.v1028 (F := F) c i arg2 harg2 arg3 harg3 arg4 harg4 arg5 harg5 arg6 harg6 arg8 harg8 arg9 harg9 arg10 harg10 arg11 harg11 arg12 harg12 arg15 arg16 arg17 x0 x1 x2 x3 x4 x6 x7 x8 x9 x10) = _).trans ?_
  refine (rfl : _ = stepOf (kernelRun0_A.sl.v1018 (F := F) c i arg2 harg2 arg3 harg3 arg4 harg4 arg5 harg5 arg6 harg6 arg8 harg8 arg9 harg9 arg10 harg10 arg11 harg11 arg12 harg12 arg15 arg16 arg17 x0 x1 x2 x3 x4 x6 x7 x8 x9 x10) (gatedOf (View.readAt (Elt F) arg9.view (Rect.unit (s := S3x5632) ![0, 2560] S3x256.size inb_S3x5632_S3x256_0_2560).toLoadRect (harg9.unread x7)) (View.readAt (Elt F) arg9.view (Rect.unit (s := S3x5632) ![0, 5376] S3x256.size inb_S3x5632_S3x256_0_5376).toLoadRect (harg9.unread x7)) (View.readAt (Elt F) arg10.view (Rect.unit (s := S1x5632) ![0, 2560] S1x256.size inb_S1x5632_S1x256_0_2560).toLoadRect (harg10.unread x8)) (View.readAt (Elt F) arg10.view (Rect.unit (s := S1x5632) ![0, 5376] S1x256.size inb_S1x5632_S1x256_0_5376).toLoadRect (harg10.unread x8)) (loadOf (F := F) 1 0 inb_S3x272x512_S1x272x512_1_0_0 inb_S272x512_S256x512_0_0 (kernelRun0_A.sl.v992 (F := F) c i arg2 harg2 arg3 harg3 arg4 harg4 arg5 harg5 arg6 harg6 arg8 harg8 arg12 harg12 arg15 arg16 x0 x1 x2 x3 x4 x6 x10)) (loadOf (F := F) 1 8 inb_S3x272x512_S1x272x512_1_0_0 inb_S272x512_S256x512_8_0 (kernelRun0_A.sl.v998 (F := F) c i arg2 harg2 arg3 harg3 arg4 harg4 arg5 harg5 arg6 harg6 arg8 harg8 arg12 harg12 arg15 arg16 x0 x1 x2 x3 x4 x6 x10)) (loadOf (F := F) 1 16 inb_S3x272x512_S1x272x512_1_0_0 inb_S272x512_S256x512_16_0 (kernelRun0_A.sl.v1005 (F := F) c i arg2 harg2 arg3 harg3 arg4 harg4 arg5 harg5 arg6 harg6 arg8 harg8 arg12 harg12 arg15 arg16 x0 x1 x2 x3 x4 x6 x10))) (View.readAt (Elt F) arg11.view (Rect.unit (s := S11x256x1024) ![10, 0, 0] S1x256x1024.size inb_S11x256x1024_S1x256x1024_10_0_0).toLoadRect (harg11.unread x9))).trans ?_
  rw [acc_9, gated_10, read_downs]
  rfl

/-- What the block's run stores: one piece, the whole block. -/
theorem run_pieces : (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11).1
    = [⟨Rect.unit ![0, 0, 0] S1x256x1024.size inb_S1x256x1024_S1x256x1024_0_0_0,
        k0_pay1 (k0_pay102 (View.ld x3 (Rect.unit (s := S1x6x1024) ![0, 5, 0] S1x1x1024.size inb_S1x6x1024_S1x1x1024_0_5_0))
          (accAt (rowsOf (F := F) c i arg2 harg2 arg3 harg3 arg4 harg4 arg5 harg5 arg6 harg6 arg12 harg12 arg15 x0 x1 x2 x3 x4 x10) x6 x7 x8 x9 10) (View.ld x5 (Rect.unit (s := S1x1024) ![0, 0] S1x1024.size inb_S1x1024_S1x1024_0_0))
          (View.ld x1 (Rect.unit (s := S1x256x1024) ![0, 0, 0] S1x256x1024.size inb_S1x256x1024_S1x256x1024_0_0_0))
          (View.ld x11 (Rect.unit (s := S256x256) ![0, 0] S256x256.size inb_S256x256_S256x256_0_0)))⟩] := by
  rw [← acc_10, ← read_whole arg5 harg5 x3, ← read_whole arg7 harg7 x5, ← read_whole arg3 harg3 x1, ← read_whole arg13 harg13 x11]
  rfl

end Run

end Cert.Ffn
-- ==== Proof.FfnPicks.lean ====
/- The shape of a fact about eight rows of a table of zeros and ones: which entry of each row is the one. -/
module

public import proofs.«01_k».proof.Kernel2Ideal

@[expose] public section

namespace Cert.Ffn
open Cert.Kernel2Ideal

/-- The place of row `p` of the rotated order in time, and of time `t` in the rotated order. -/
def timeOf (p : ℕ) : ℕ := 32 * (p % 8) + p / 8
def posOf (t : ℕ) : ℕ := 8 * (t % 32) + t / 32

/-- In the rows `8 b … 8 b + 7` of the table, the only entry that is one is number `f` of the row. -/
abbrev Picks (table : Fin 65536 → BitVec 32) (f : ℕ → ℕ) (b : Fin 32) : Prop :=
  ∀ (p : Fin 8) (q : Fin 256),
    table ⟨(8 * b.val + p.val) * 256 + q.val, by have := p.isLt; have := q.isLt; have := b.isLt; omega⟩
      = if q.val = f (8 * b.val + p.val) then 0x3F800000#32 else 0x00000000#32

end Cert.Ffn
-- ==== Proof.FfnRows.lean ====
/- The gated convolution block's row scratch: 256 rows in rotated order, and the row before and the row after them, entry by
   entry. -/
module

public import proofs.«01_k».proof.Proof.FfnRun
public import proofs.«01_k».proof.Proof.FfnPicks
public import Idealize.ShloMosaic.Lib.WordCmp
public import Idealize.ShloMosaic.Lib.KernelVsHost

@[expose] public section

set_option maxRecDepth 16384

noncomputable section

namespace Cert.Ffn

open Idealize.ShloMosaic.ValueIdx Idealize.ShloMosaic.TcCoe Idealize.SL.Sem
open Idealize.ShloMosaic hiding ix0 ix1 ix2 ix3 ix4 ix5 eq_ix3
open Cert.Kernel2Ideal Cert.Kernel2Ideal.Gen
open Cert.Norm
open Idealize.ShloMosaic.View (canon)
open scoped BigOperators

theorem rows256 : RowFacts 256 :=
  ⟨reduces_S256x1024_S256, shapeCasts_S256_S256x1, broadcasts_S256x1_S256x1024, broadcasts_S1x1024_S256x1024,
    shapeCasts_S1x256x1024_S256x1024⟩

theorem rows8 : RowFacts 8 :=
  ⟨reduces_S8x1024_S8, shapeCasts_S8_S8x1, broadcasts_S8x1_S8x1024, broadcasts_S1x1024_S8x1024, shapeCasts_S1x8x1024_S8x1024⟩

section Generic
variable {F : FTy → Type} [FloatOps F]

/-- A load of everything. -/
theorem ld_all {Val : EltTy → Type} {s : Shape} {e : EltTy} (x : s.Idx → Val e) (off : Fin s.rank → ℕ) (h : ∀ a, off a + s.size a ≤ s.size a) :
    View.ld x (Rect.unit (s := s) off s.size h) = x :=
  funext fun i => ld_unit_apply x off s.size h i i fun a => by have := h a; omega

/-- A row of the modulation. -/
def modRow (x3 : Vec F S1x6x1024 .f32) (n : Fin 6) : Vec F S1x1x1024 .f32 := fun j => x3 (ix3 (0 : Fin 1) n (j 2))

theorem ld_modRow (x3 : Vec F S1x6x1024 .f32) (n : Fin 6) (h : ∀ a, (![0, n.val, 0] : Fin 3 → ℕ) a + S1x1x1024.size a ≤ S1x6x1024.size a) :
    View.ld x3 (Rect.unit (s := S1x6x1024) ![0, n.val, 0] S1x1x1024.size h) = modRow x3 n :=
  funext fun j => ld_unit_apply x3 _ _ h j _ fun a => match a with
    | ⟨0, _⟩ => by have : (j 0).val < 1 := (j 0).isLt; show 0 = 0 + (j 0).val; omega
    | ⟨1, _⟩ => by have : (j 1).val < 1 := (j 1).isLt; show n.val = n.val + (j 1).val; omega
    | ⟨2, _⟩ => (Nat.zero_add _).symm

/-- The rotated rows. -/
def mainRows (sh sc : Vec F S1x1x1024 .f32) (p : Vec F S256x256 .bf16) (x : Vec F S1x256x1024 .f32) (g : Vec F S1x1024 .f32) : FVec F S256x1024 .bf16 :=
  truncf .bf16 (matmul (DotDims.plain 256 256 1024) none (p : FVec F S256x256 .bf16)
    (truncf .bf16 (modBlock rows256 x g sc sh shapeCasts_S1x1x1024_S1x1024) bitsLt_bf16_f32 : FVec F S256x1024 .bf16)
    (constant S256x1024 .f32 0x00000000#32)) bitsLt_bf16_f32

theorem pay4_eq (sh sc : Vec F S1x1x1024 .f32) (p : Vec F S256x256 .bf16) (x : Vec F S1x256x1024 .f32) (g : Vec F S1x1024 .f32) :
    k0_pay4 sh sc p x g = shapeCast S256x1024 (mainRows sh sc (shapeCast S256x256 p shapeCasts_S256x256_S256x256) x g) shapeCasts_S256x1024_S256x1024 := rfl

/-- The row before and the row after, each times its flag. -/
def beforeRow (w : BitVec 32) (sh sc : Vec F S1x1x1024 .f32) (x : Vec F S1x8x1024 .f32) (g : Vec F S1x1024 .f32) : FVec F S1x1024 .f32 :=
  mulf (extractStridedSlice S1x1024 ![7, 0] (modBlock rows8 x g sc sh shapeCasts_S1x1x1024_S1x1024) slices_S8x1024_o7_0_S1x1024)
    (broadcast S1x1024 (Scalar.sitofp .f32 (Scalar.extui (Scalar.cmpi .sgt w 0#32) : BitVec 32)))

def afterRow (w : BitVec 32) (sh sc : Vec F S1x1x1024 .f32) (x : Vec F S1x8x1024 .f32) (g : Vec F S1x1024 .f32) : FVec F S1x1024 .f32 :=
  mulf (extractStridedSlice S1x1024 ![0, 0] (modBlock rows8 x g sc sh shapeCasts_S1x1x1024_S1x1024) slices_S8x1024_o0_0_S1x1024)
    (broadcast S1x1024 (Scalar.sitofp .f32 (Scalar.extui (Scalar.cmpi .slt w 15#32) : BitVec 32)))

/-- The sixteen rows that hold them. -/
def edgeRows (b a : FVec F S1x1024 .f32) : FVec F S16x1024 .bf16 :=
  truncf .bf16 (select (cmpi .eq (iota .tc S16x1024 32 [0] iota_S16x1024_d0_w32) (broadcast S16x1024 0#32))
    (broadcastTo S16x1024 b broadcasts_S1x1024_S16x1024)
    (select (cmpi .eq (iota .tc S16x1024 32 [0] iota_S16x1024_d0_w32) (broadcast S16x1024 1#32))
      (broadcastTo S16x1024 a broadcasts_S1x1024_S16x1024) (broadcast S16x1024 (Scalar.ofBits .f32 0x00000000#32)))) bitsLt_bf16_f32

theorem pay8_eq (w : BitVec 32) (sh sc : Vec F S1x1x1024 .f32) (x x' : Vec F S1x8x1024 .f32) (g : Vec F S1x1024 .f32) :
    k0_pay8 w (k0_pay2 sh) (k0_pay5 w (k0_pay2 sh) (k0_pay3 sc) x g) (k0_pay6 x' g) (k0_pay7 (k0_pay3 sc))
      = shapeCast S16x1024 (edgeRows (shapeCast S1x1024 (beforeRow w sh sc x g) shapeCasts_S1x1024_S1x1024)
          (shapeCast S1x1024 (afterRow w sh sc x' g) shapeCasts_S1x1024_S1x1024)) shapeCasts_S16x1024_S16x1024 := rfl

/-- The scratch as a whole. -/
def stack (m : FVec F S256x1024 .bf16) (e : FVec F S16x1024 .bf16) : Vec F S272x1024 .bf16 := fun j =>
  if h : (j 0).val < 256 then m (ix2 (⟨(j 0).val, h⟩ : Fin 256) (j 1))
  else e (ix2 (⟨(j 0).val - 256, by have : (j 0).val < 272 := (j 0).isLt; omega⟩ : Fin 16) (j 1))

theorem canon_stack (m : FVec F S256x1024 .bf16) (e : FVec F S16x1024 .bf16) :
    canon (Val := Elt F) (e := .bf16) [⟨Rect.unit (s := S272x1024) ![256, 0] S16x1024.size inb_S272x1024_S16x1024_256_0, e⟩,
      ⟨Rect.unit (s := S272x1024) ![0, 0] S256x1024.size inb_S272x1024_S256x1024_0_0, m⟩] = stack m e := by
  funext j
  have hj : (j 0).val < 272 := (j 0).isLt
  unfold stack
  by_cases h : (j 0).val < 256
  · rw [dif_pos h]
    refine (View.canon_cons_of_not_mem _ _ fun hm => ?_).trans ?_
    · obtain ⟨a0, ha0, e0⟩ := (LoadRect.mem_set _).mp hm (0 : Fin 2)
      have e0' : (j 0).val = 256 + 1 * a0 := e0
      omega
    · have he : (Rect.unit (s := S272x1024) ![0, 0] S256x1024.size inb_S272x1024_S256x1024_0_0).emb (ix2 (⟨(j 0).val, h⟩ : Fin 256) (j 1)) = j := by
        funext a
        refine Fin.ext ?_
        match a with
        | ⟨0, _⟩ => show 0 + 1 * (j 0).val = (j 0).val; omega
        | ⟨1, _⟩ => show 0 + 1 * (j 1).val = (j 1).val; omega
      exact (congrArg (canon _) he.symm).trans (View.canon_cons_emb _ _ _ _)
  · rw [dif_neg h]
    have he : (Rect.unit (s := S272x1024) ![256, 0] S16x1024.size inb_S272x1024_S16x1024_256_0).emb
        (ix2 (⟨(j 0).val - 256, by omega⟩ : Fin 16) (j 1)) = j := by
      funext a
      refine Fin.ext ?_
      match a with
      | ⟨0, _⟩ => show 256 + 1 * ((j 0).val - 256) = (j 0).val; omega
      | ⟨1, _⟩ => show 0 + 1 * (j 1).val = (j 1).val; omega
    exact (congrArg (canon _) he.symm).trans (View.canon_cons_emb _ _ _ _)

variable (c : Dev nD) (i : grid0.Coords) (arg2 : Memref sig .tc .vmem S1x8x1024 .f32) (harg2 : arg2.IsWhole) (arg3 : Memref sig .tc .vmem S1x256x1024 .f32) (harg3 : arg3.IsWhole) (arg4 : Memref sig .tc .vmem S1x8x1024 .f32) (harg4 : arg4.IsWhole) (arg5 : Memref sig .tc .vmem S1x6x1024 .f32) (harg5 : arg5.IsWhole) (arg6 : Memref sig .tc .vmem S1x1024 .f32) (harg6 : arg6.IsWhole) (arg12 : Memref sig .tc .vmem S256x256 .bf16) (harg12 : arg12.IsWhole) (arg15 : Memref sig .tc .vmem S272x1024 .bf16)
    (x0 : Vec F S1x8x1024 .f32) (x1 : Vec F S1x256x1024 .f32) (x2 : Vec F S1x8x1024 .f32) (x3 : Vec F S1x6x1024 .f32) (x4 : Vec F S1x1024 .f32) (x10 : Vec F S256x256 .bf16)

/-- What the scratch holds, from the blocks of a grid point. -/
def scratch : Vec F S272x1024 .bf16 :=
  stack (mainRows (modRow x3 3) (modRow x3 4) x10 x1 x4)
    (edgeRows (beforeRow (BitVec.ofNat 32 (i 1).val) (modRow x3 3) (modRow x3 4) x0 x4)
      (afterRow (BitVec.ofNat 32 (i 1).val) (modRow x3 3) (modRow x3 4) x2 x4))

theorem rows_eq : rowsOf (F := F) c i arg2 harg2 arg3 harg3 arg4 harg4 arg5 harg5 arg6 harg6 arg12 harg12 arg15 x0 x1 x2 x3 x4 x10
    = scratch i x0 x1 x2 x3 x4 x10 := by
  have h3 : View.readAt (Elt F) arg5.view (Rect.unit (s := S1x6x1024) ![0, 3, 0] S1x1x1024.size inb_S1x6x1024_S1x1x1024_0_3_0).toLoadRect (harg5.unread x3)
      = modRow x3 3 := (read_whole arg5 harg5 x3 _).trans (ld_modRow x3 3 _)
  have h4 : View.readAt (Elt F) arg5.view (Rect.unit (s := S1x6x1024) ![0, 4, 0] S1x1x1024.size inb_S1x6x1024_S1x1x1024_0_4_0).toLoadRect (harg5.unread x3)
      = modRow x3 4 := (read_whole arg5 harg5 x3 _).trans (ld_modRow x3 4 _)
  have h0 : View.readAt (Elt F) arg2.view (Rect.unit (s := S1x8x1024) ![0, 0, 0] S1x8x1024.size inb_S1x8x1024_S1x8x1024_0_0_0).toLoadRect (harg2.unread x0)
      = x0 := (read_whole arg2 harg2 x0 _).trans (ld_all x0 _ _)
  have h1 : View.readAt (Elt F) arg3.view (Rect.unit (s := S1x256x1024) ![0, 0, 0] S1x256x1024.size inb_S1x256x1024_S1x256x1024_0_0_0).toLoadRect (harg3.unread x1)
      = x1 := (read_whole arg3 harg3 x1 _).trans (ld_all x1 _ _)
  have h2 : View.readAt (Elt F) arg4.view (Rect.unit (s := S1x8x1024) ![0, 0, 0] S1x8x1024.size inb_S1x8x1024_S1x8x1024_0_0_0).toLoadRect (harg4.unread x2)
      = x2 := (read_whole arg4 harg4 x2 _).trans (ld_all x2 _ _)
  have h6 : View.readAt (Elt F) arg6.view (Rect.unit (s := S1x1024) ![0, 0] S1x1024.size inb_S1x1024_S1x1024_0_0).toLoadRect (harg6.unread x4)
      = x4 := (read_whole arg6 harg6 x4 _).trans (ld_all x4 _ _)
  have h12 : View.readAt (Elt F) arg12.view (Rect.unit (s := S256x256) ![0, 0] S256x256.size inb_S256x256_S256x256_0_0).toLoadRect (harg12.unread x10)
      = x10 := (read_whole arg12 harg12 x10 _).trans (ld_all x10 _ _)
  unfold rowsOf kernelRun0_A.sl.v104
  refine (View.readCov_eq_canon' _ _ _).trans ?_
  unfold kernelRun0_A.sl.HS0_2 kernelRun0_A.sl.r_3 kernelRun0_A.sl.r_4 kernelRun0_A.sl.r_5 kernelRun0_A.sl.r_2 kernelRun0_A.sl.r_1 kernelRun0_A.sl.r
  rw [h3, h4, h0, h1, h2, h6, h12, pay8_eq, pay4_eq, canon_stack]
  simp only [shapeCast_self]
  funext j
  refine congrArg (scratch i x0 x1 x2 x3 x4 x10) (funext fun a => Fin.ext ?_)
  match a with
  | ⟨0, _⟩ => show 0 + 1 * (j 0).val = (j 0).val; omega
  | ⟨1, _⟩ => show 0 + 1 * (j 1).val = (j 1).val; omega

end Generic

section Ideal

/-- Where a row is in the scratch, by its place in extended time: first the row before, then the 256 rows, then the row after. -/
def extRow (e : ℕ) : ℕ := if e = 0 then 256 else if e = 257 then 257 else posOf (e - 1)

theorem extRow_lt (e : ℕ) (h : e < 258) : extRow e < 272 := by
  unfold extRow posOf
  split
  · omega
  · split <;> omega

theorem timeOf_posOf (t : ℕ) (h : t < 256) : timeOf (posOf t) = t := by
  unfold timeOf posOf
  omega

/-- The modulated rows of a grid point by their place in extended time. -/
def extended (i1 : ℕ) (x0 : Vec Ideal S1x8x1024 .f32) (x1 : Vec Ideal S1x256x1024 .f32) (x2 : Vec Ideal S1x8x1024 .f32) (x3 : Vec Ideal S1x6x1024 .f32)
    (x4 : Vec Ideal S1x1024 .f32) (e : ℕ) (k : Fin 1024) : EReal :=
  if e = 0 then
    if 0 < i1 then modulated (fun k => x0 (ix3 (0 : Fin 1) (7 : Fin 8) k)) (fun k => x4 (ix2 (0 : Fin 1) k))
      (fun k => x3 (ix3 (0 : Fin 1) (4 : Fin 6) k)) (fun k => x3 (ix3 (0 : Fin 1) (3 : Fin 6) k)) k else 0
  else if e = 257 then
    if i1 < 15 then modulated (fun k => x2 (ix3 (0 : Fin 1) (0 : Fin 8) k)) (fun k => x4 (ix2 (0 : Fin 1) k))
      (fun k => x3 (ix3 (0 : Fin 1) (4 : Fin 6) k)) (fun k => x3 (ix3 (0 : Fin 1) (3 : Fin 6) k)) k else 0
  else modulated (fun k => x1 (ix3 (0 : Fin 1) (⟨(e - 1) % 256, Nat.mod_lt _ (by decide)⟩ : Fin 256) k)) (fun k => x4 (ix2 (0 : Fin 1) k))
      (fun k => x3 (ix3 (0 : Fin 1) (4 : Fin 6) k)) (fun k => x3 (ix3 (0 : Fin 1) (3 : Fin 6) k)) k

theorem mainRows_apply (sh sc : Vec Ideal S1x1x1024 .f32) (p : Vec Ideal S256x256 .bf16) (x : Vec Ideal S1x256x1024 .f32) (g : Vec Ideal S1x1024 .f32)
    (r t : Fin 256) (hp : ∀ q : Fin 256, p (ix2 r q) = if q = t then (1 : EReal) else 0) (k : Fin 1024) :
    mainRows sh sc p x g (ix2 r k) = modulated (fun k => x (ix3 (0 : Fin 1) t k)) (fun k => g (ix2 (0 : Fin 1) k))
      (fun k => sc (ix3 (0 : Fin 1) (0 : Fin 1) k)) (fun k => sh (ix3 (0 : Fin 1) (0 : Fin 1) k)) k := by
  unfold mainRows
  refine (Ideal.matmul_plain_apply (φ₁ := .bf16) (φ₂ := .bf16) none (p : FVec Ideal S256x256 .bf16) _ _ r k).trans ?_
  rw [show (constant S256x1024 .f32 0x00000000#32 : FVec Ideal _ .f32) (ix2 r k) = 0 from Ideal.ofBits_zero_f32, zero_add]
  refine (Finset.sum_congr rfl fun q _ => congrArg₂ (fun a b : EReal => a * b) (hp q) (modBlock_apply rows256 x g sc sh shapeCasts_S1x1x1024_S1x1024 q k)).trans ?_
  simp only [ite_mul, one_mul, zero_mul, Finset.sum_ite_eq', Finset.sum_ite_eq, Finset.mem_univ, if_true]

theorem flag_before : ∀ n : Fin 16, (Scalar.extui (Scalar.cmpi .sgt (BitVec.ofNat 32 n.val) 0#32) : BitVec 32) = if 0 < n.val then 1#32 else 0#32 := by decide
theorem flag_after : ∀ n : Fin 16, (Scalar.extui (Scalar.cmpi .slt (BitVec.ofNat 32 n.val) 15#32) : BitVec 32) = if n.val < 15 then 1#32 else 0#32 := by decide

theorem flag_one : (Scalar.sitofp .f32 1#32 : Ideal .f32) = 1 := by
  show (((1#32 : BitVec 32).toInt : ℝ) : EReal) = 1
  rw [show (1#32 : BitVec 32).toInt = 1 from by decide]
  norm_num

theorem flag_zero : (Scalar.sitofp .f32 0#32 : Ideal .f32) = 0 := sitofp_zero

theorem slice_7 (y : FVec Ideal S8x1024 .f32) (k : Fin 1024) :
    extractStridedSlice S1x1024 ![7, 0] y slices_S8x1024_o7_0_S1x1024 (ix2 (0 : Fin 1) k) = y (ix2 (7 : Fin 8) k) :=
  extractStridedSlice_apply ![7, 0] y slices_S8x1024_o7_0_S1x1024 (ix2 (0 : Fin 1) k) (ix2 (7 : Fin 8) k)
    fun a => match a with | ⟨0, _⟩ => rfl | ⟨1, _⟩ => (Nat.zero_add _).symm

theorem slice_0 (y : FVec Ideal S8x1024 .f32) (k : Fin 1024) :
    extractStridedSlice S1x1024 ![0, 0] y slices_S8x1024_o0_0_S1x1024 (ix2 (0 : Fin 1) k) = y (ix2 (0 : Fin 8) k) :=
  extractStridedSlice_apply ![0, 0] y slices_S8x1024_o0_0_S1x1024 (ix2 (0 : Fin 1) k) (ix2 (0 : Fin 8) k)
    fun a => match a with | ⟨0, _⟩ => rfl | ⟨1, _⟩ => (Nat.zero_add _).symm

theorem beforeRow_apply (n : Fin 16) (sh sc : Vec Ideal S1x1x1024 .f32) (x : Vec Ideal S1x8x1024 .f32) (g : Vec Ideal S1x1024 .f32) (k : Fin 1024) :
    beforeRow (BitVec.ofNat 32 n.val) sh sc x g (ix2 (0 : Fin 1) k)
      = if 0 < n.val then modulated (fun k => x (ix3 (0 : Fin 1) (7 : Fin 8) k)) (fun k => g (ix2 (0 : Fin 1) k))
      (fun k => sc (ix3 (0 : Fin 1) (0 : Fin 1) k)) (fun k => sh (ix3 (0 : Fin 1) (0 : Fin 1) k)) k else 0 := by
  unfold beforeRow
  rw [flag_before n, mulf_apply]
  rw [slice_7, modBlock_apply]
  split
  · exact (congrArg (fun z : EReal => _ * z) flag_one).trans (mul_one _)
  · exact (congrArg (fun z : EReal => _ * z) flag_zero).trans (mul_zero _)

theorem afterRow_apply (n : Fin 16) (sh sc : Vec Ideal S1x1x1024 .f32) (x : Vec Ideal S1x8x1024 .f32) (g : Vec Ideal S1x1024 .f32) (k : Fin 1024) :
    afterRow (BitVec.ofNat 32 n.val) sh sc x g (ix2 (0 : Fin 1) k)
      = if n.val < 15 then modulated (fun k => x (ix3 (0 : Fin 1) (0 : Fin 8) k)) (fun k => g (ix2 (0 : Fin 1) k))
      (fun k => sc (ix3 (0 : Fin 1) (0 : Fin 1) k)) (fun k => sh (ix3 (0 : Fin 1) (0 : Fin 1) k)) k else 0 := by
  unfold afterRow
  rw [flag_after n, mulf_apply]
  rw [slice_0, modBlock_apply]
  split
  · exact (congrArg (fun z : EReal => _ * z) flag_one).trans (mul_one _)
  · exact (congrArg (fun z : EReal => _ * z) flag_zero).trans (mul_zero _)

theorem edgeRows_before (b a : FVec Ideal S1x1024 .f32) (k : Fin 1024) : edgeRows b a (ix2 (0 : Fin 16) k) = b (ix2 (0 : Fin 1) k) :=
  down_apply b broadcasts_S1x1024_S16x1024 (0 : Fin 16) k

theorem edgeRows_after (b a : FVec Ideal S1x1024 .f32) (k : Fin 1024) : edgeRows b a (ix2 (1 : Fin 16) k) = a (ix2 (0 : Fin 1) k) :=
  down_apply a broadcasts_S1x1024_S16x1024 (1 : Fin 16) k

/-- The scratch, entry by entry, in extended time. -/
theorem scratch_apply (i : grid0.Coords) (x0 : Vec Ideal S1x8x1024 .f32) (x1 : Vec Ideal S1x256x1024 .f32) (x2 : Vec Ideal S1x8x1024 .f32)
    (x3 : Vec Ideal S1x6x1024 .f32) (x4 : Vec Ideal S1x1024 .f32) (x10 : Vec Ideal S256x256 .bf16)
    (hp : ∀ p q : Fin 256, x10 (ix2 p q) = if q.val = timeOf p.val then (1 : EReal) else 0) (e : ℕ) (he : e < 258) (k : Fin 1024) :
    scratch i x0 x1 x2 x3 x4 x10 (ix2 (⟨extRow e, extRow_lt e he⟩ : Fin 272) k) = extended (i 1).val x0 x1 x2 x3 x4 e k := by
  unfold scratch stack extended
  by_cases h0 : e = 0
  · subst h0
    rw [dif_neg (by show ¬ extRow 0 < 256; decide), if_pos rfl]
    exact (edgeRows_before _ _ k).trans (beforeRow_apply (i 1) _ _ x0 x4 k)
  · rw [if_neg h0]
    by_cases h1 : e = 257
    · subst h1
      rw [dif_neg (by show ¬ extRow 257 < 256; decide), if_pos rfl]
      exact (edgeRows_after _ _ k).trans (afterRow_apply (i 1) _ _ x2 x4 k)
    · rw [if_neg h1]
      have hr : extRow e = posOf (e - 1) := by unfold extRow; rw [if_neg h0, if_neg h1]
      have hlt : posOf (e - 1) < 256 := by unfold posOf; omega
      rw [dif_pos (by show extRow e < 256; omega)]
      refine mainRows_apply _ _ x10 x1 x4 _ _ (fun q => (hp _ q).trans ?_) k
      have ht : timeOf (extRow e) = (e - 1) % 256 := by rw [hr, timeOf_posOf _ (by omega), Nat.mod_eq_of_lt (by omega)]
      show (if q.val = timeOf (extRow e) then (1 : EReal) else 0) = _
      rw [ht]
      simp only [Fin.ext_iff]

end Ideal

end Cert.Ffn

end
-- ==== Proof.FfnEntry.lean ====
/- The gated convolution block's result, entry by entry, as a formula over the rows in time. -/
module

public import proofs.«01_k».proof.Proof.Norm

@[expose] public section

noncomputable section

namespace Cert.Ffn

open Idealize.ShloMosaic.ValueIdx Idealize.ShloMosaic.TcCoe Idealize.SL.Sem
open Idealize.ShloMosaic hiding ix0 ix1 ix2 ix3 ix4 ix5 eq_ix3
open Cert.Norm
open scoped BigOperators

/-- A row against a column of the up projection. -/
def upEntry (H : ℕ → Fin 1024 → EReal) (W : Fin 1024 → Fin 5632 → EReal) (e : ℕ) (n : Fin 5632) : EReal := ∑ k, H e k * W k n

/-- The depthwise convolution over three neighbouring rows, `e`, `e + 1` and `e + 2`. -/
def convEntry (H : ℕ → Fin 1024 → EReal) (W : Fin 1024 → Fin 5632 → EReal) (cw : Fin 3 → Fin 5632 → EReal) (cb : Fin 5632 → EReal)
    (e : ℕ) (n : Fin 5632) : EReal :=
  upEntry H W e n * cw 0 n + upEntry H W (e + 1) n * cw 1 n + upEntry H W (e + 2) n * cw 2 n + cb n

/-- The column of the gate and of the gated value. -/
def gateCol (j : Fin 2816) : Fin 5632 := ⟨j.val, by omega⟩
def valueCol (j : Fin 2816) : Fin 5632 := ⟨2816 + j.val, by omega⟩

/-- The gated product. -/
def gatedEntry (H : ℕ → Fin 1024 → EReal) (W : Fin 1024 → Fin 5632 → EReal) (cw : Fin 3 → Fin 5632 → EReal) (cb : Fin 5632 → EReal)
    (e : ℕ) (j : Fin 2816) : EReal :=
  convEntry H W cw cb e (gateCol j) * Ideal.logistic (convEntry H W cw cb e (gateCol j)) * convEntry H W cw cb e (valueCol j)

/-- The down projection. -/
def downEntry (H : ℕ → Fin 1024 → EReal) (W : Fin 1024 → Fin 5632 → EReal) (cw : Fin 3 → Fin 5632 → EReal) (cb : Fin 5632 → EReal)
    (wd : Fin 2816 → Fin 1024 → EReal) (e : ℕ) (m : Fin 1024) : EReal :=
  ∑ j, gatedEntry H W cw cb e j * wd j m

/-- Only three rows of `H` matter. -/
theorem downEntry_congr (H H' : ℕ → Fin 1024 → EReal) (W : Fin 1024 → Fin 5632 → EReal) (cw : Fin 3 → Fin 5632 → EReal) (cb : Fin 5632 → EReal)
    (wd : Fin 2816 → Fin 1024 → EReal) (e e' : ℕ) (h0 : H e = H' e') (h1 : H (e + 1) = H' (e' + 1)) (h2 : H (e + 2) = H' (e' + 2)) (m : Fin 1024) :
    downEntry H W cw cb wd e m = downEntry H' W cw cb wd e' m := by
  unfold downEntry gatedEntry convEntry upEntry
  rw [h0, h1, h2]

/-- The rows the convolution sees: row `E` is the modulated row `E - 1` of the stream, and the rows before the first and after the
    last are zero. -/
def padded (X : FVec Ideal ⟨3, ![4, 4096, 1024]⟩ .f32) (M : FVec Ideal ⟨3, ![4, 6, 1024]⟩ .f32) (G : FVec Ideal ⟨2, ![1, 1024]⟩ .f32)
    (b : Fin 4) (E : ℕ) (k : Fin 1024) : EReal :=
  if h : 1 ≤ E ∧ E ≤ 4096 then
    modulated (fun k => X (ix3 b (⟨E - 1, by omega⟩ : Fin 4096) k)) (fun k => G (ix2 (0 : Fin 1) k))
      (fun k => M (ix3 b (4 : Fin 6) k)) (fun k => M (ix3 b (3 : Fin 6) k)) k
  else 0

theorem padded_row (X : FVec Ideal ⟨3, ![4, 4096, 1024]⟩ .f32) (M : FVec Ideal ⟨3, ![4, 6, 1024]⟩ .f32) (G : FVec Ideal ⟨2, ![1, 1024]⟩ .f32)
    (b : Fin 4) (T : Fin 4096) (E : ℕ) (h : E = T.val + 1) (k : Fin 1024) :
    padded X M G b E k = modulated (fun k => X (ix3 b T k)) (fun k => G (ix2 (0 : Fin 1) k))
      (fun k => M (ix3 b (4 : Fin 6) k)) (fun k => M (ix3 b (3 : Fin 6) k)) k := by
  subst h
  unfold padded
  rw [dif_pos ⟨by omega, by have := T.isLt; omega⟩]
  rfl

theorem padded_out (X : FVec Ideal ⟨3, ![4, 4096, 1024]⟩ .f32) (M : FVec Ideal ⟨3, ![4, 6, 1024]⟩ .f32) (G : FVec Ideal ⟨2, ![1, 1024]⟩ .f32)
    (b : Fin 4) (E : ℕ) (h : E = 0 ∨ 4096 < E) (k : Fin 1024) : padded X M G b E k = 0 := by
  unfold padded
  exact dif_neg (by omega)

/-- An entry of the result: the stream plus the scaled, normalized down projection. -/
def entry (X : FVec Ideal ⟨3, ![4, 4096, 1024]⟩ .f32) (M : FVec Ideal ⟨3, ![4, 6, 1024]⟩ .f32) (G G' : FVec Ideal ⟨2, ![1, 1024]⟩ .f32)
    (W : FVec Ideal ⟨2, ![1024, 5632]⟩ .f32) (cw : FVec Ideal ⟨2, ![3, 5632]⟩ .f32) (cb : FVec Ideal ⟨1, ![5632]⟩ .f32)
    (wd : FVec Ideal ⟨2, ![2816, 1024]⟩ .f32) (b : Fin 4) (t : Fin 4096) (n : Fin 1024) : EReal :=
  X (ix3 b t n) + M (ix3 b (5 : Fin 6) n)
    * rms (fun n => downEntry (padded X M G b) (fun k n => W (ix2 k n)) (fun d n => cw (ix2 d n)) (fun n => cb (ix1 n)) (fun j n => wd (ix2 j n)) t.val n)
      (fun k => G' (ix2 (0 : Fin 1) k)) n

end Cert.Ffn

end
-- ==== Proof.FfnChunk.lean ====
/- The gated convolution block's chunks, entry by entry, in the order of time: the up projection, the three shifted products,
   the gate, and the down projection summed over the chunks. -/
module

public import proofs.«01_k».proof.Proof.FfnRows
public import proofs.«01_k».proof.Proof.FfnEntry

@[expose] public section

set_option maxRecDepth 16384

noncomputable section

namespace Cert.Ffn

open Idealize.ShloMosaic.ValueIdx Idealize.ShloMosaic.TcCoe Idealize.SL.Sem
open Idealize.ShloMosaic hiding ix0 ix1 ix2 ix3 ix4 ix5 eq_ix3
open Cert.Kernel2Ideal Cert.Kernel2Ideal.Gen
open Cert.Norm
open scoped BigOperators

section Slab

theorem head_apply (u : Vec Ideal S272x512 .f32) (r : Fin 8) (q : Fin 512) :
    k0_pay11 (F := Ideal) lanes u (ix2 r q) = if r.val = 0 then u (ix2 (256 : Fin 272) q) else u (ix2 (⟨247 + r.val, by omega⟩ : Fin 272) q) := by
  have hc : (cmpi .eq lanes (broadcast S8x512 0#32) : IVec S8x512 1) (ix2 r q) = if r.val = 0 then 1#1 else 0#1 :=
    (by decide : ∀ r : Fin 8, IntOp.cmpi .eq (BitVec.ofNat 32 (0 * 8 + r.val)) 0#32 = if r.val = 0 then 1#1 else 0#1) r
  unfold k0_pay11
  rw [shapeCast_self, shapeCast_self]
  show Scalar.select ((cmpi .eq lanes (broadcast S8x512 0#32) : IVec S8x512 1) (ix2 r q)) _ _ = _
  rw [hc]
  by_cases h : r.val = 0
  · rw [if_pos h, if_pos h]
    refine (down_apply (extractStridedSlice S1x512 ![256, 0] (u : FVec Ideal S272x512 .f32) slices_S272x512_o256_0_S1x512) broadcasts_S1x512_S8x512 r q).trans ?_
    exact extractStridedSlice_apply ![256, 0] (u : FVec Ideal S272x512 .f32) slices_S272x512_o256_0_S1x512 (ix2 (0 : Fin 1) q) (ix2 (256 : Fin 272) q)
      fun a => match a with | ⟨0, _⟩ => rfl | ⟨1, _⟩ => (Nat.zero_add _).symm
  · rw [if_neg h, if_neg h]
    refine (dynamicRotate_apply 0 1#32 (extractStridedSlice S8x512 ![248, 0] (u : FVec Ideal S272x512 .f32) slices_S272x512_o248_0_S8x512) rotates_S8x512_d0 (ix2 r q) (ix2 (⟨(r.val + 7) % 8, Nat.mod_lt _ (by decide)⟩ : Fin 8) q) fun a => match a with
      | ⟨0, _⟩ => rfl
      | ⟨1, _⟩ => rfl).trans ?_
    exact extractStridedSlice_apply ![248, 0] (u : FVec Ideal S272x512 .f32) slices_S272x512_o248_0_S8x512 _ (ix2 (⟨247 + r.val, by omega⟩ : Fin 272) q)
      fun a => match a with
      | ⟨0, _⟩ => by have := r.isLt; show 247 + r.val = 248 + (r.val + 7) % 8; omega
      | ⟨1, _⟩ => (Nat.zero_add _).symm

theorem tail_apply (u : Vec Ideal S272x512 .f32) (r : Fin 8) (q : Fin 512) :
    k0_pay12 (F := Ideal) lanes u (ix2 r q) = if r.val = 7 then u (ix2 (257 : Fin 272) q) else u (ix2 (⟨r.val + 1, by omega⟩ : Fin 272) q) := by
  have hc : (cmpi .eq lanes (broadcast S8x512 7#32) : IVec S8x512 1) (ix2 r q) = if r.val = 7 then 1#1 else 0#1 :=
    (by decide : ∀ r : Fin 8, IntOp.cmpi .eq (BitVec.ofNat 32 (0 * 8 + r.val)) 7#32 = if r.val = 7 then 1#1 else 0#1) r
  unfold k0_pay12
  rw [shapeCast_self, shapeCast_self]
  show Scalar.select ((cmpi .eq lanes (broadcast S8x512 7#32) : IVec S8x512 1) (ix2 r q)) _ _ = _
  rw [hc]
  by_cases h : r.val = 7
  · rw [if_pos h, if_pos h]
    refine (down_apply (extractStridedSlice S1x512 ![257, 0] (u : FVec Ideal S272x512 .f32) slices_S272x512_o257_0_S1x512) broadcasts_S1x512_S8x512 r q).trans ?_
    exact extractStridedSlice_apply ![257, 0] (u : FVec Ideal S272x512 .f32) slices_S272x512_o257_0_S1x512 (ix2 (0 : Fin 1) q) (ix2 (257 : Fin 272) q)
      fun a => match a with | ⟨0, _⟩ => rfl | ⟨1, _⟩ => (Nat.zero_add _).symm
  · rw [if_neg h, if_neg h]
    refine (dynamicRotate_apply 0 7#32 (extractStridedSlice S8x512 ![0, 0] (u : FVec Ideal S272x512 .f32) slices_S272x512_o0_0_S8x512) rotates_S8x512_d0 (ix2 r q) (ix2 (⟨(r.val + 1) % 8, Nat.mod_lt _ (by decide)⟩ : Fin 8) q) fun a => match a with
      | ⟨0, _⟩ => rfl
      | ⟨1, _⟩ => rfl).trans ?_
    exact extractStridedSlice_apply ![0, 0] (u : FVec Ideal S272x512 .f32) slices_S272x512_o0_0_S8x512 _ (ix2 (⟨r.val + 1, by omega⟩ : Fin 272) q)
      fun a => match a with
      | ⟨0, _⟩ => by have := r.isLt; show r.val + 1 = 0 + (r.val + 1) % 8; omega
      | ⟨1, _⟩ => (Nat.zero_add _).symm

/-- A slot's row `r` is the row at extended time `32 (r % 8) + r / 8`. -/
theorem slab_apply (u : Vec Ideal S272x512 .f32) (r : Fin 272) (q : Fin 512) (e : ℕ) (he : e < 258) (hr : 32 * (r.val % 8) + r.val / 8 = e) :
    slab u r q = u (ix2 (⟨extRow e, extRow_lt e he⟩ : Fin 272) q) := by
  have hlt := r.isLt
  have key : ∀ x y : Fin 272, x.val = y.val → u (ix2 x q) = u (ix2 y q) := fun x y h => congrArg (fun z : Fin 272 => u (ix2 z q)) (Fin.ext h)
  unfold slab
  by_cases h1 : r.val < 8
  · rw [dif_pos h1, head_apply]
    split
    · rename_i h; have h : r.val = 0 := h
      refine key _ _ ?_
      show 256 = extRow e
      unfold extRow
      rw [if_pos (by omega)]
    · rename_i h; have h : ¬ r.val = 0 := h
      refine key _ _ ?_
      show 247 + r.val = extRow e
      unfold extRow posOf
      rw [if_neg (by omega), if_neg (by omega)]
      omega
  · rw [dif_neg h1]
    by_cases h2 : r.val < 264
    · rw [dif_pos h2]
      unfold middle
      rw [shapeCast_self]
      refine (extractStridedSlice_apply ![0, 0] (u : FVec Ideal S272x512 .f32) slices_S272x512_o0_0_S256x512 _ (ix2 (⟨r.val - 8, by omega⟩ : Fin 272) q)
        fun a => match a with | ⟨0, _⟩ => (Nat.zero_add _).symm | ⟨1, _⟩ => (Nat.zero_add _).symm).trans ?_
      refine key _ _ ?_
      show r.val - 8 = extRow e
      unfold extRow posOf
      rw [if_neg (by omega), if_neg (by omega)]
      omega
    · rw [dif_neg h2, tail_apply]
      split
      · rename_i h; have h : r.val - 264 = 7 := h
        refine key _ _ ?_
        show 257 = extRow e
        unfold extRow
        rw [if_neg (by omega), if_pos (by omega)]
      · rename_i h; have h : ¬ r.val - 264 = 7 := h
        refine key _ _ ?_
        show r.val - 264 + 1 = extRow e
        unfold extRow posOf
        rw [if_neg (by omega), if_neg (by omega)]
        omega

theorem time_lt (p : Fin 256) : timeOf p.val < 256 := by
  have := p.isLt
  unfold timeOf
  omega

theorem shifted_apply (u : Vec Ideal S272x512 .f32) (d : ℕ) (hd : d < 3) (p : Fin 256) (q : Fin 512) :
    shifted u (8 * d) (ix2 p q) = u (ix2 (⟨extRow (timeOf p.val + d), extRow_lt _ (by have := time_lt p; omega)⟩ : Fin 272) q) := by
  have hp := p.isLt
  refine slab_apply u _ q _ (by have := time_lt p; omega) ?_
  show 32 * ((8 * d + p.val) % 272 % 8) + (8 * d + p.val) % 272 / 8 = timeOf p.val + d
  unfold timeOf
  omega

end Slab

section Chunk

/-- The lower and the upper half of 512 columns. -/
def low (j : Fin 256) : Fin 512 := ⟨j.val, by omega⟩
def high (j : Fin 256) : Fin 512 := ⟨256 + j.val, by omega⟩

theorem pair_low {n : ℕ} (a b : FVec Ideal ⟨2, ![n, 256]⟩ .f32)
    (h : Shape.Concatenates [(⟨2, ![n, 256]⟩ : Shape), ⟨2, ![n, 256]⟩] (⟨2, ![n, 512]⟩ : Shape) 1) (r : Fin n) (j : Fin 256) :
    concatenate (⟨2, ![n, 512]⟩ : Shape) 1 [⟨⟨2, ![n, 256]⟩, a⟩, ⟨⟨2, ![n, 256]⟩, b⟩] h (ix2 r (low j)) = a (ix2 r j) :=
  concatenate_pair_apply_left 1 a b h (ix2 r (low j)) rfl (ix2 r j) fun x => match x with
    | ⟨0, _⟩ => rfl
    | ⟨1, _⟩ => rfl

theorem pair_high {n : ℕ} (a b : FVec Ideal ⟨2, ![n, 256]⟩ .f32)
    (h : Shape.Concatenates [(⟨2, ![n, 256]⟩ : Shape), ⟨2, ![n, 256]⟩] (⟨2, ![n, 512]⟩ : Shape) 1) (r : Fin n) (j : Fin 256) :
    concatenate (⟨2, ![n, 512]⟩ : Shape) 1 [⟨⟨2, ![n, 256]⟩, a⟩, ⟨⟨2, ![n, 256]⟩, b⟩] h (ix2 r (high j)) = b (ix2 r j) :=
  concatenate_pair_apply_right 1 a b h (ix2 r (high j)) rfl rfl (ix2 r j)
    (fun x hx => match x with
      | ⟨0, _⟩ => rfl
      | ⟨1, _⟩ => absurd rfl hx)
    (Nat.add_comm _ _)

/-- Chunk `n`'s `j`-th gate column, value column and row of the down projection, for `n` below eleven. -/
def chunkCol (n : ℕ) (hn : n < 11) (j : Fin 256) : Fin 2816 := ⟨256 * n + j.val, by omega⟩

variable (h : Vec Ideal S272x1024 .bf16) (H : ℕ → Fin 1024 → EReal)
  (hH : ∀ (e : ℕ) (he : e < 258) (k : Fin 1024), h (ix2 (⟨extRow e, extRow_lt e he⟩ : Fin 272) k) = H e k)
  (w : Vec Ideal S1024x5632 .bf16) (cw : Vec Ideal S3x5632 .f32) (cb : Vec Ideal S1x5632 .f32) (wd : Vec Ideal S11x256x1024 .bf16)

/-- The arrays as functions of their indices. -/
def asW (k : Fin 1024) (n : Fin 5632) : EReal := w (ix2 k n)
def asTap (d : Fin 3) (n : Fin 5632) : EReal := cw (ix2 d n)
def asBias (n : Fin 5632) : EReal := cb (ix2 (0 : Fin 1) n)

theorem half_apply (c : Vec Ideal S1024x256 .bf16) (r : Fin 272) (j : Fin 256) :
    (matmul (φ₁ := .bf16) (φ₂ := .bf16) (DotDims.plain 272 1024 256) none (h : FVec Ideal S272x1024 .bf16) (c : FVec Ideal S1024x256 .bf16) (constant S272x256 .f32 0x00000000#32) : FVec Ideal S272x256 .f32) (ix2 r j)
      = ∑ k : Fin 1024, h (ix2 r k) * c (ix2 k j) := by
  refine (Ideal.matmul_plain_apply (φ₁ := .bf16) (φ₂ := .bf16) none (h : FVec Ideal S272x1024 .bf16) (c : FVec Ideal S1024x256 .bf16) _ r j).trans ?_
  rw [show (constant S272x256 .f32 0x00000000#32 : FVec Ideal _ .f32) (ix2 r j) = 0 from Ideal.ofBits_zero_f32, zero_add]

include hH in
theorem up_low (n : ℕ) (hn : n < 11) (e : ℕ) (he : e < 258) (j : Fin 256) :
    upOf h w n (ix2 (⟨extRow e, extRow_lt e he⟩ : Fin 272) (low j)) = upEntry H (asW w) e (gateCol (chunkCol n hn j)) := by
  unfold upOf k0_pay9
  rw [shapeCast_self, shapeCast_self]
  refine (pair_low _ _ _ _ j).trans ((half_apply h (cols w (256 * n)) _ j).trans (Finset.sum_congr rfl fun k _ => ?_))
  refine congrArg₂ (fun a b : EReal => a * b) (hH e he k) (congrArg (fun z : Fin 5632 => w (ix2 k z)) (Fin.ext ?_))
  show (256 * n + j.val) % 5632 = 256 * n + j.val
  omega

include hH in
theorem up_high (n : ℕ) (hn : n < 11) (e : ℕ) (he : e < 258) (j : Fin 256) :
    upOf h w n (ix2 (⟨extRow e, extRow_lt e he⟩ : Fin 272) (high j)) = upEntry H (asW w) e (valueCol (chunkCol n hn j)) := by
  unfold upOf k0_pay9
  rw [shapeCast_self, shapeCast_self]
  refine (pair_high _ _ _ _ j).trans ((half_apply h (cols w (2816 + 256 * n)) _ j).trans (Finset.sum_congr rfl fun k _ => ?_))
  refine congrArg₂ (fun a b : EReal => a * b) (hH e he k) (congrArg (fun z : Fin 5632 => w (ix2 k z)) (Fin.ext ?_))
  show (2816 + 256 * n + j.val) % 5632 = 2816 + (256 * n + j.val)
  omega

/-- The three shifted products and the bias, from the two halves' weights. -/
theorem mixed_apply (cg cv : Vec Ideal S3x256 .f32) (bg bv : Vec Ideal S1x256 .f32) (u0 u1 u2 : Vec Ideal S256x512 .f32) (p : Fin 256) (q : Fin 512)
    (a0 a1 a2 b : EReal)
    (h0 : concatenate S3x512 1 [⟨S3x256, (cg : FVec Ideal S3x256 .f32)⟩, ⟨S3x256, (cv : FVec Ideal S3x256 .f32)⟩] concatenates_S3x256_S3x256_S3x512_d1 (ix2 (0 : Fin 3) q) = a0)
    (h1 : concatenate S3x512 1 [⟨S3x256, (cg : FVec Ideal S3x256 .f32)⟩, ⟨S3x256, (cv : FVec Ideal S3x256 .f32)⟩] concatenates_S3x256_S3x256_S3x512_d1 (ix2 (1 : Fin 3) q) = a1)
    (h2 : concatenate S3x512 1 [⟨S3x256, (cg : FVec Ideal S3x256 .f32)⟩, ⟨S3x256, (cv : FVec Ideal S3x256 .f32)⟩] concatenates_S3x256_S3x256_S3x512_d1 (ix2 (2 : Fin 3) q) = a2)
    (hb : concatenate S1x512 1 [⟨S1x256, (bg : FVec Ideal S1x256 .f32)⟩, ⟨S1x256, (bv : FVec Ideal S1x256 .f32)⟩] concatenates_S1x256_S1x256_S1x512_d1 (ix2 (0 : Fin 1) q) = b) :
    k0_pay24 (F := Ideal) cg cv bg bv u0 u1 u2 (ix2 p q) = u0 (ix2 p q) * a0 + u1 (ix2 p q) * a1 + u2 (ix2 p q) * a2 + b := by
  unfold k0_pay24
  rw [shapeCast_self, shapeCast_self, addf_apply, addf_apply, addf_apply, mulf_apply, mulf_apply, mulf_apply]
  have s0 : ∀ y : FVec Ideal S3x512 .f32, broadcastTo S256x512 (extractStridedSlice S1x512 ![0, 0] y slices_S3x512_o0_0_S1x512) broadcasts_S1x512_S256x512 (ix2 p q) = y (ix2 (0 : Fin 3) q) := fun y =>
    (down_apply _ _ p q).trans (extractStridedSlice_apply ![0, 0] y slices_S3x512_o0_0_S1x512 _ _ fun a => match a with | ⟨0, _⟩ => rfl | ⟨1, _⟩ => (Nat.zero_add _).symm)
  have s1 : ∀ y : FVec Ideal S3x512 .f32, broadcastTo S256x512 (extractStridedSlice S1x512 ![1, 0] y slices_S3x512_o1_0_S1x512) broadcasts_S1x512_S256x512 (ix2 p q) = y (ix2 (1 : Fin 3) q) := fun y =>
    (down_apply _ _ p q).trans (extractStridedSlice_apply ![1, 0] y slices_S3x512_o1_0_S1x512 _ _ fun a => match a with | ⟨0, _⟩ => rfl | ⟨1, _⟩ => (Nat.zero_add _).symm)
  have s2 : ∀ y : FVec Ideal S3x512 .f32, broadcastTo S256x512 (extractStridedSlice S1x512 ![2, 0] y slices_S3x512_o2_0_S1x512) broadcasts_S1x512_S256x512 (ix2 p q) = y (ix2 (2 : Fin 3) q) := fun y =>
    (down_apply _ _ p q).trans (extractStridedSlice_apply ![2, 0] y slices_S3x512_o2_0_S1x512 _ _ fun a => match a with | ⟨0, _⟩ => rfl | ⟨1, _⟩ => (Nat.zero_add _).symm)
  rw [s0, s1, s2, h0, h1, h2]
  exact congrArg (fun z : EReal => _ + z) ((down_apply _ _ p q).trans hb)

include hH in
theorem gated_apply (n : ℕ) (hn : n < 11) (p j : Fin 256) :
    gatedAt h w cw cb n (ix2 p j) = gatedEntry H (asW w) (asTap cw) (asBias cb) (timeOf p.val) (chunkCol n hn j) := by
  have hp := time_lt p
  have u0 : ∀ q, shifted (upOf h w n) 0 (ix2 p q) = _ := shifted_apply (upOf h w n) 0 (by omega) p
  have u1 : ∀ q, shifted (upOf h w n) 8 (ix2 p q) = _ := shifted_apply (upOf h w n) 1 (by omega) p
  have u2 : ∀ q, shifted (upOf h w n) 16 (ix2 p q) = _ := shifted_apply (upOf h w n) 2 (by omega) p
  have eg : (⟨(256 * n + j.val) % 5632, Nat.mod_lt _ (by decide)⟩ : Fin 5632) = gateCol (chunkCol n hn j) :=
    Fin.ext (by show (256 * n + j.val) % 5632 = 256 * n + j.val; omega)
  have ev : (⟨(2816 + 256 * n + j.val) % 5632, Nat.mod_lt _ (by decide)⟩ : Fin 5632) = valueCol (chunkCol n hn j) :=
    Fin.ext (by show (2816 + 256 * n + j.val) % 5632 = 2816 + (256 * n + j.val); omega)
  have hg : k0_pay24 (F := Ideal) (taps cw (256 * n)) (taps cw (2816 + 256 * n)) (biases cb (256 * n)) (biases cb (2816 + 256 * n))
      (shifted (upOf h w n) 0) (shifted (upOf h w n) 8) (shifted (upOf h w n) 16) (ix2 p (low j))
      = convEntry H (asW w) (asTap cw) (asBias cb) (timeOf p.val) (gateCol (chunkCol n hn j)) := by
    refine (mixed_apply _ _ _ _ _ _ _ p (low j) (asTap cw 0 (gateCol (chunkCol n hn j))) (asTap cw 1 (gateCol (chunkCol n hn j))) (asTap cw 2 (gateCol (chunkCol n hn j)))
      (asBias cb (gateCol (chunkCol n hn j)))
      ((pair_low _ _ _ _ j).trans (congrArg (asTap cw 0) eg)) ((pair_low _ _ _ _ j).trans (congrArg (asTap cw 1) eg)) ((pair_low _ _ _ _ j).trans (congrArg (asTap cw 2) eg))
      ((pair_low _ _ _ _ j).trans (congrArg (asBias cb) eg))).trans ?_
    rw [u0, u1, u2, up_low h H hH w n hn _ (by omega) j, up_low h H hH w n hn _ (by omega) j, up_low h H hH w n hn _ (by omega) j]
    rfl
  have hv : k0_pay24 (F := Ideal) (taps cw (256 * n)) (taps cw (2816 + 256 * n)) (biases cb (256 * n)) (biases cb (2816 + 256 * n))
      (shifted (upOf h w n) 0) (shifted (upOf h w n) 8) (shifted (upOf h w n) 16) (ix2 p (high j))
      = convEntry H (asW w) (asTap cw) (asBias cb) (timeOf p.val) (valueCol (chunkCol n hn j)) := by
    refine (mixed_apply _ _ _ _ _ _ _ p (high j) (asTap cw 0 (valueCol (chunkCol n hn j))) (asTap cw 1 (valueCol (chunkCol n hn j))) (asTap cw 2 (valueCol (chunkCol n hn j)))
      (asBias cb (valueCol (chunkCol n hn j)))
      ((pair_high _ _ _ _ j).trans (congrArg (asTap cw 0) ev)) ((pair_high _ _ _ _ j).trans (congrArg (asTap cw 1) ev)) ((pair_high _ _ _ _ j).trans (congrArg (asTap cw 2) ev))
      ((pair_high _ _ _ _ j).trans (congrArg (asBias cb) ev))).trans ?_
    rw [u0, u1, u2, up_high h H hH w n hn _ (by omega) j, up_high h H hH w n hn _ (by omega) j, up_high h H hH w n hn _ (by omega) j]
    rfl
  unfold gatedAt gatedOf k0_pay25 k0_pay26
  generalize k0_pay24 (F := Ideal) (taps cw (256 * n)) (taps cw (2816 + 256 * n)) (biases cb (256 * n)) (biases cb (2816 + 256 * n))
      (shifted (upOf h w n) 0) (shifted (upOf h w n) 8) (shifted (upOf h w n) 16) = y at hg hv
  have sg : extractStridedSlice S256x256 ![0, 0] y slices_S256x512_o0_0_S256x256 (ix2 p j) = y (ix2 p (low j)) :=
    extractStridedSlice_apply ![0, 0] y slices_S256x512_o0_0_S256x256 (ix2 p j) (ix2 p (low j)) fun a => match a with
      | ⟨0, _⟩ => (Nat.zero_add _).symm
      | ⟨1, _⟩ => (Nat.zero_add _).symm
  have sv : extractStridedSlice S256x256 ![0, 256] y slices_S256x512_o0_256_S256x256 (ix2 p j) = y (ix2 p (high j)) :=
    extractStridedSlice_apply ![0, 256] y slices_S256x512_o0_256_S256x256 (ix2 p j) (ix2 p (high j)) fun a => match a with
      | ⟨0, _⟩ => (Nat.zero_add _).symm
      | ⟨1, _⟩ => rfl
  rw [mulf_apply, mulf_apply, sv, sg, hv, hg]
  unfold gatedEntry
  have hl : (logistic (extractStridedSlice S256x256 ![0, 0] y slices_S256x512_o0_0_S256x256) : FVec Ideal S256x256 .f32) (ix2 p j)
      = Ideal.logistic (convEntry H (asW w) (asTap cw) (asBias cb) (timeOf p.val) (gateCol (chunkCol n hn j))) := congrArg Ideal.logistic (sg.trans hg)
  rw [hl]

theorem share_apply (g : Vec Ideal S256x256 .f32) (n : ℕ) (p : Fin 256) (m : Fin 1024) :
    shareOf g (downs wd n) (ix2 p m) = ∑ j : Fin 256, g (ix2 p j) * wd (ix3 (⟨n % 11, Nat.mod_lt _ (by decide)⟩ : Fin 11) j m) := by
  refine (Ideal.matmul_plain_apply (φ₁ := .bf16) (φ₂ := .bf16) (M := 256) (K := 256) (N := 1024) none
    (truncf .bf16 (g : FVec Ideal S256x256 .f32) bitsLt_bf16_f32 : FVec Ideal S256x256 .bf16)
    (shapeCast S256x1024 (downs wd n) shapeCasts_S1x256x1024_S256x1024 : FVec Ideal S256x1024 .bf16) _ p m).trans ?_
  rw [show (constant S256x1024 .f32 0x00000000#32 : FVec Ideal _ .f32) (ix2 p m) = 0 from Ideal.ofBits_zero_f32, zero_add]
  exact Finset.sum_congr rfl fun j _ => congrArg (fun z : EReal => g (ix2 p j) * z)
    (unlead_apply (downs wd n : FVec Ideal S1x256x1024 .bf16) shapeCasts_S1x256x1024_S256x1024 j m)

/-- The accumulator sums the chunks' shares. -/
theorem acc_apply (p : Fin 256) (m : Fin 1024) : ∀ n : ℕ, accAt h w cw cb wd n (ix2 p m)
      = ∑ c ∈ Finset.range (n + 1), ∑ j : Fin 256, gatedAt h w cw cb c (ix2 p j) * wd (ix3 (⟨c % 11, Nat.mod_lt _ (by decide)⟩ : Fin 11) j m)
  | 0 => by
    rw [Finset.sum_range_one]
    unfold accAt firstOf
    rw [shapeCast_self]
    exact share_apply wd _ 0 p m
  | n + 1 => by
    rw [Finset.sum_range_succ, ← acc_apply p m n]
    have e : accAt h w cw cb wd (n + 1) = shapeCast S256x1024 (addf (accAt h w cw cb wd n : FVec Ideal S256x1024 .f32)
        (shareOf (gatedAt h w cw cb (n + 1)) (downs wd (n + 1)))) shapeCasts_S256x1024_S256x1024 := rfl
    rw [e, shapeCast_self, addf_apply]
    exact congrArg (fun z : EReal => accAt h w cw cb wd n (ix2 p m) + z) (share_apply wd _ (n + 1) p m)

include hH in
/-- After the last chunk the accumulator holds the down projection. -/
theorem acc_down (wd' : Fin 2816 → Fin 1024 → EReal)
    (hwd : ∀ (n : ℕ) (hn : n < 11) (j : Fin 256) (m : Fin 1024), wd (ix3 (⟨n, hn⟩ : Fin 11) j m) = wd' (chunkCol n hn j) m)
    (p : Fin 256) (m : Fin 1024) :
    accAt h w cw cb wd 10 (ix2 p m) = downEntry H (asW w) (asTap cw) (asBias cb) wd' (timeOf p.val) m := by
  refine (acc_apply h w cw cb wd p m 10).trans ((Finset.sum_range _).trans ?_)
  unfold downEntry
  refine Eq.trans ?_ (sum_chunks 11 256 (fun j => gatedEntry H (asW w) (asTap cw) (asBias cb) (timeOf p.val) j * wd' j m)).symm
  refine Finset.sum_congr rfl fun c _ => Finset.sum_congr rfl fun j _ => congrArg₂ (fun a b : EReal => a * b) (gated_apply h H hH w cw cb c.val c.isLt p j) ?_
  rw [show (⟨c.val % 11, Nat.mod_lt _ (by decide)⟩ : Fin 11) = ⟨c.val, c.isLt⟩ from Fin.ext (Nat.mod_eq_of_lt c.isLt)]
  exact hwd c.val c.isLt j m

end Chunk

section Last

theorem posOf_lt (t : Fin 256) : posOf t.val < 256 := by
  have := t.isLt
  unfold posOf
  omega

/-- The last step: back into the order of time, normalized, scaled and added to the stream. -/
theorem last_apply (s : Vec Ideal S1x1x1024 .f32) (a : Vec Ideal S256x1024 .f32) (g : Vec Ideal S1x1024 .f32) (x : Vec Ideal S1x256x1024 .f32)
    (pt : Vec Ideal S256x256 .bf16) (hp : ∀ t q : Fin 256, pt (ix2 t q) = if q.val = posOf t.val then (1 : EReal) else 0) (t : Fin 256) (m : Fin 1024) :
    k0_pay1 (k0_pay102 (F := Ideal) s a g x pt) (ix3 (0 : Fin 1) t m) = x (ix3 (0 : Fin 1) t m)
      + s (ix3 (0 : Fin 1) (0 : Fin 1) m) * rms (fun k => a (ix2 (⟨posOf t.val, posOf_lt t⟩ : Fin 256) k)) (fun k => g (ix2 (0 : Fin 1) k)) m := by
  have e : k0_pay102 (F := Ideal) s a g x pt = addf (shapeCast S256x1024 x shapeCasts_S1x256x1024_S256x1024)
      (matmul (DotDims.plain 256 256 1024) none (shapeCast S256x256 pt shapeCasts_S256x256_S256x256 : FVec Ideal S256x256 .bf16)
        (truncf .bf16 (mulf (broadcastTo S256x1024 (shapeCast S1x1024 s shapeCasts_S1x1x1024_S1x1024) broadcasts_S1x1024_S256x1024)
          (rmsBlock rows256 (a : FVec Ideal S256x1024 .f32) g)) bitsLt_bf16_f32 : FVec Ideal S256x1024 .bf16)
        (constant S256x1024 .f32 0x00000000#32)) := rfl
  rw [e]
  unfold k0_pay1
  refine (lead_apply _ shapeCasts_S256x1024_S1x256x1024 t m).trans ?_
  rw [addf_apply, shapeCast_self]
  refine congrArg₂ (fun a b : EReal => a + b) (unlead_apply (x : FVec Ideal S1x256x1024 .f32) shapeCasts_S1x256x1024_S256x1024 t m) ?_
  refine (Ideal.matmul_plain_apply (φ₁ := .bf16) (φ₂ := .bf16) none (pt : FVec Ideal S256x256 .bf16) _ _ t m).trans ?_
  rw [show (constant S256x1024 .f32 0x00000000#32 : FVec Ideal _ .f32) (ix2 t m) = 0 from Ideal.ofBits_zero_f32, zero_add]
  refine (Finset.sum_congr rfl fun q _ => congrArg₂ (fun a b : EReal => a * b)
    ((hp t q).trans (if_congr (Fin.ext_iff (a := q) (b := ⟨posOf t.val, posOf_lt t⟩)).symm rfl rfl))
    ((mulf_apply _ _ (ix2 q m)).trans (congrArg₂ (fun a b : EReal => a * b)
      ((down_apply _ broadcasts_S1x1024_S256x1024 q m).trans (unlead_apply (s : FVec Ideal S1x1x1024 .f32) shapeCasts_S1x1x1024_S1x1024 (0 : Fin 1) m))
      (rmsBlock_apply rows256 (a : FVec Ideal S256x1024 .f32) g q m)))).trans ?_
  simp only [ite_mul, one_mul, zero_mul, Finset.sum_ite_eq', Finset.sum_ite_eq, Finset.mem_univ, if_true]

end Last

end Cert.Ffn

end
-- ==== Proof.FfnTable0a.lean ====
/- Part 1 of 4 of the table that puts the rows into the rotated order, checked row by row. -/
module

public import proofs.«01_k».proof.Proof.FfnPicks

@[expose] public section

set_option maxRecDepth 100000

namespace Cert.Ffn
open Cert.Kernel2Ideal

theorem lit0_rows_0 : Picks lit0 timeOf 0 := by decide +kernel
theorem lit0_rows_1 : Picks lit0 timeOf 1 := by decide +kernel
theorem lit0_rows_2 : Picks lit0 timeOf 2 := by decide +kernel
theorem lit0_rows_3 : Picks lit0 timeOf 3 := by decide +kernel
theorem lit0_rows_4 : Picks lit0 timeOf 4 := by decide +kernel
theorem lit0_rows_5 : Picks lit0 timeOf 5 := by decide +kernel
theorem lit0_rows_6 : Picks lit0 timeOf 6 := by decide +kernel
theorem lit0_rows_7 : Picks lit0 timeOf 7 := by decide +kernel

end Cert.Ffn
-- ==== Proof.FfnTable0b.lean ====
/- Part 2 of 4 of the table that puts the rows into the rotated order, checked row by row. -/
module

public import proofs.«01_k».proof.Proof.FfnPicks

@[expose] public section

set_option maxRecDepth 100000

namespace Cert.Ffn
open Cert.Kernel2Ideal

theorem lit0_rows_8 : Picks lit0 timeOf 8 := by decide +kernel
theorem lit0_rows_9 : Picks lit0 timeOf 9 := by decide +kernel
theorem lit0_rows_10 : Picks lit0 timeOf 10 := by decide +kernel
theorem lit0_rows_11 : Picks lit0 timeOf 11 := by decide +kernel
theorem lit0_rows_12 : Picks lit0 timeOf 12 := by decide +kernel
theorem lit0_rows_13 : Picks lit0 timeOf 13 := by decide +kernel
theorem lit0_rows_14 : Picks lit0 timeOf 14 := by decide +kernel
theorem lit0_rows_15 : Picks lit0 timeOf 15 := by decide +kernel

end Cert.Ffn
-- ==== Proof.FfnTable0c.lean ====
/- Part 3 of 4 of the table that puts the rows into the rotated order, checked row by row. -/
module

public import proofs.«01_k».proof.Proof.FfnPicks

@[expose] public section

set_option maxRecDepth 100000

namespace Cert.Ffn
open Cert.Kernel2Ideal

theorem lit0_rows_16 : Picks lit0 timeOf 16 := by decide +kernel
theorem lit0_rows_17 : Picks lit0 timeOf 17 := by decide +kernel
theorem lit0_rows_18 : Picks lit0 timeOf 18 := by decide +kernel
theorem lit0_rows_19 : Picks lit0 timeOf 19 := by decide +kernel
theorem lit0_rows_20 : Picks lit0 timeOf 20 := by decide +kernel
theorem lit0_rows_21 : Picks lit0 timeOf 21 := by decide +kernel
theorem lit0_rows_22 : Picks lit0 timeOf 22 := by decide +kernel
theorem lit0_rows_23 : Picks lit0 timeOf 23 := by decide +kernel

end Cert.Ffn
-- ==== Proof.FfnTable0d.lean ====
/- Part 4 of 4 of the table that puts the rows into the rotated order, checked row by row. -/
module

public import proofs.«01_k».proof.Proof.FfnPicks

@[expose] public section

set_option maxRecDepth 100000

namespace Cert.Ffn
open Cert.Kernel2Ideal

theorem lit0_rows_24 : Picks lit0 timeOf 24 := by decide +kernel
theorem lit0_rows_25 : Picks lit0 timeOf 25 := by decide +kernel
theorem lit0_rows_26 : Picks lit0 timeOf 26 := by decide +kernel
theorem lit0_rows_27 : Picks lit0 timeOf 27 := by decide +kernel
theorem lit0_rows_28 : Picks lit0 timeOf 28 := by decide +kernel
theorem lit0_rows_29 : Picks lit0 timeOf 29 := by decide +kernel
theorem lit0_rows_30 : Picks lit0 timeOf 30 := by decide +kernel
theorem lit0_rows_31 : Picks lit0 timeOf 31 := by decide +kernel

end Cert.Ffn
-- ==== Proof.FfnTable1a.lean ====
/- Part 1 of 4 of the table that puts the rows back into the order of time, checked row by row. -/
module

public import proofs.«01_k».proof.Proof.FfnPicks

@[expose] public section

set_option maxRecDepth 100000

namespace Cert.Ffn
open Cert.Kernel2Ideal

theorem lit1_rows_0 : Picks lit1 posOf 0 := by decide +kernel
theorem lit1_rows_1 : Picks lit1 posOf 1 := by decide +kernel
theorem lit1_rows_2 : Picks lit1 posOf 2 := by decide +kernel
theorem lit1_rows_3 : Picks lit1 posOf 3 := by decide +kernel
theorem lit1_rows_4 : Picks lit1 posOf 4 := by decide +kernel
theorem lit1_rows_5 : Picks lit1 posOf 5 := by decide +kernel
theorem lit1_rows_6 : Picks lit1 posOf 6 := by decide +kernel
theorem lit1_rows_7 : Picks lit1 posOf 7 := by decide +kernel

end Cert.Ffn
-- ==== Proof.FfnTable1b.lean ====
/- Part 2 of 4 of the table that puts the rows back into the order of time, checked row by row. -/
module

public import proofs.«01_k».proof.Proof.FfnPicks

@[expose] public section

set_option maxRecDepth 100000

namespace Cert.Ffn
open Cert.Kernel2Ideal

theorem lit1_rows_8 : Picks lit1 posOf 8 := by decide +kernel
theorem lit1_rows_9 : Picks lit1 posOf 9 := by decide +kernel
theorem lit1_rows_10 : Picks lit1 posOf 10 := by decide +kernel
theorem lit1_rows_11 : Picks lit1 posOf 11 := by decide +kernel
theorem lit1_rows_12 : Picks lit1 posOf 12 := by decide +kernel
theorem lit1_rows_13 : Picks lit1 posOf 13 := by decide +kernel
theorem lit1_rows_14 : Picks lit1 posOf 14 := by decide +kernel
theorem lit1_rows_15 : Picks lit1 posOf 15 := by decide +kernel

end Cert.Ffn
-- ==== Proof.FfnTable1c.lean ====
/- Part 3 of 4 of the table that puts the rows back into the order of time, checked row by row. -/
module

public import proofs.«01_k».proof.Proof.FfnPicks

@[expose] public section

set_option maxRecDepth 100000

namespace Cert.Ffn
open Cert.Kernel2Ideal

theorem lit1_rows_16 : Picks lit1 posOf 16 := by decide +kernel
theorem lit1_rows_17 : Picks lit1 posOf 17 := by decide +kernel
theorem lit1_rows_18 : Picks lit1 posOf 18 := by decide +kernel
theorem lit1_rows_19 : Picks lit1 posOf 19 := by decide +kernel
theorem lit1_rows_20 : Picks lit1 posOf 20 := by decide +kernel
theorem lit1_rows_21 : Picks lit1 posOf 21 := by decide +kernel
theorem lit1_rows_22 : Picks lit1 posOf 22 := by decide +kernel
theorem lit1_rows_23 : Picks lit1 posOf 23 := by decide +kernel

end Cert.Ffn
-- ==== Proof.FfnTable1d.lean ====
/- Part 4 of 4 of the table that puts the rows back into the order of time, checked row by row. -/
module

public import proofs.«01_k».proof.Proof.FfnPicks

@[expose] public section

set_option maxRecDepth 100000

namespace Cert.Ffn
open Cert.Kernel2Ideal

theorem lit1_rows_24 : Picks lit1 posOf 24 := by decide +kernel
theorem lit1_rows_25 : Picks lit1 posOf 25 := by decide +kernel
theorem lit1_rows_26 : Picks lit1 posOf 26 := by decide +kernel
theorem lit1_rows_27 : Picks lit1 posOf 27 := by decide +kernel
theorem lit1_rows_28 : Picks lit1 posOf 28 := by decide +kernel
theorem lit1_rows_29 : Picks lit1 posOf 29 := by decide +kernel
theorem lit1_rows_30 : Picks lit1 posOf 30 := by decide +kernel
theorem lit1_rows_31 : Picks lit1 posOf 31 := by decide +kernel

end Cert.Ffn
-- ==== Proof.FfnTables.lean ====
/- The two tables of zeros and ones the gated convolution block multiplies its rows with: which row each one picks. -/
module

public import proofs.«01_k».proof.Proof.FfnTable0a
public import proofs.«01_k».proof.Proof.FfnTable0b
public import proofs.«01_k».proof.Proof.FfnTable0c
public import proofs.«01_k».proof.Proof.FfnTable0d
public import proofs.«01_k».proof.Proof.FfnTable1a
public import proofs.«01_k».proof.Proof.FfnTable1b
public import proofs.«01_k».proof.Proof.FfnTable1c
public import proofs.«01_k».proof.Proof.FfnTable1d

@[expose] public section

namespace Cert.Ffn
open Cert.Kernel2Ideal

/-- Thirty-two cases, one by one. -/
theorem all_cases {P : Fin 32 → Prop}
    (h0 : P 0) (h1 : P 1) (h2 : P 2) (h3 : P 3) (h4 : P 4) (h5 : P 5) (h6 : P 6) (h7 : P 7)
    (h8 : P 8) (h9 : P 9) (h10 : P 10) (h11 : P 11) (h12 : P 12) (h13 : P 13) (h14 : P 14) (h15 : P 15)
    (h16 : P 16) (h17 : P 17) (h18 : P 18) (h19 : P 19) (h20 : P 20) (h21 : P 21) (h22 : P 22) (h23 : P 23)
    (h24 : P 24) (h25 : P 25) (h26 : P 26) (h27 : P 27) (h28 : P 28) (h29 : P 29) (h30 : P 30) (h31 : P 31) : ∀ b, P b
  | ⟨0, _⟩ => h0
  | ⟨1, _⟩ => h1
  | ⟨2, _⟩ => h2
  | ⟨3, _⟩ => h3
  | ⟨4, _⟩ => h4
  | ⟨5, _⟩ => h5
  | ⟨6, _⟩ => h6
  | ⟨7, _⟩ => h7
  | ⟨8, _⟩ => h8
  | ⟨9, _⟩ => h9
  | ⟨10, _⟩ => h10
  | ⟨11, _⟩ => h11
  | ⟨12, _⟩ => h12
  | ⟨13, _⟩ => h13
  | ⟨14, _⟩ => h14
  | ⟨15, _⟩ => h15
  | ⟨16, _⟩ => h16
  | ⟨17, _⟩ => h17
  | ⟨18, _⟩ => h18
  | ⟨19, _⟩ => h19
  | ⟨20, _⟩ => h20
  | ⟨21, _⟩ => h21
  | ⟨22, _⟩ => h22
  | ⟨23, _⟩ => h23
  | ⟨24, _⟩ => h24
  | ⟨25, _⟩ => h25
  | ⟨26, _⟩ => h26
  | ⟨27, _⟩ => h27
  | ⟨28, _⟩ => h28
  | ⟨29, _⟩ => h29
  | ⟨30, _⟩ => h30
  | ⟨31, _⟩ => h31
  | ⟨n + 32, h⟩ => absurd h (by omega)

theorem lit0_picks (b : Fin 32) : Picks lit0 timeOf b :=
  all_cases (P := fun b => Picks lit0 timeOf b)
    lit0_rows_0 lit0_rows_1 lit0_rows_2 lit0_rows_3 lit0_rows_4 lit0_rows_5 lit0_rows_6 lit0_rows_7
    lit0_rows_8 lit0_rows_9 lit0_rows_10 lit0_rows_11 lit0_rows_12 lit0_rows_13 lit0_rows_14 lit0_rows_15
    lit0_rows_16 lit0_rows_17 lit0_rows_18 lit0_rows_19 lit0_rows_20 lit0_rows_21 lit0_rows_22 lit0_rows_23
    lit0_rows_24 lit0_rows_25 lit0_rows_26 lit0_rows_27 lit0_rows_28 lit0_rows_29 lit0_rows_30 lit0_rows_31 b

theorem lit1_picks (b : Fin 32) : Picks lit1 posOf b :=
  all_cases (P := fun b => Picks lit1 posOf b)
    lit1_rows_0 lit1_rows_1 lit1_rows_2 lit1_rows_3 lit1_rows_4 lit1_rows_5 lit1_rows_6 lit1_rows_7
    lit1_rows_8 lit1_rows_9 lit1_rows_10 lit1_rows_11 lit1_rows_12 lit1_rows_13 lit1_rows_14 lit1_rows_15
    lit1_rows_16 lit1_rows_17 lit1_rows_18 lit1_rows_19 lit1_rows_20 lit1_rows_21 lit1_rows_22 lit1_rows_23
    lit1_rows_24 lit1_rows_25 lit1_rows_26 lit1_rows_27 lit1_rows_28 lit1_rows_29 lit1_rows_30 lit1_rows_31 b

/-- Eight rows at a time is every row. -/
theorem picks_all {table : Fin 65536 → BitVec 32} {f : ℕ → ℕ} (h : ∀ b : Fin 32, Picks table f b) (p q : Fin 256)
    (i : Fin 65536) (hi : i.val = p.val * 256 + q.val) :
    table i = if q.val = f p.val then 0x3F800000#32 else 0x00000000#32 := by
  have hp := p.isLt
  have h8 : 8 * (p.val / 8) + p.val % 8 = p.val := Nat.div_add_mod p.val 8
  have e := h ⟨p.val / 8, by omega⟩ ⟨p.val % 8, by omega⟩ q
  simp only [h8] at e
  rw [← e]
  exact congrArg table (Fin.ext hi)

end Cert.Ffn
-- ==== Proof.FfnArray.lean ====
/- The gated convolution block: what one grid point stores, and the result array, entry by entry. -/
module

public import proofs.«01_k».proof.Proof.FfnChunk
public import proofs.«01_k».proof.Proof.FfnTables
public import Idealize.ShloMosaic.Lib.IdealHost

@[expose] public section

set_option maxRecDepth 16384

noncomputable section

namespace Cert.Ffn

open Idealize.ShloMosaic.ValueIdx Idealize.ShloMosaic.TcCoe Idealize.SL.Sem
open Idealize.ShloMosaic hiding ix0 ix1 ix2 ix3 ix4 ix5 eq_ix3
open Cert.Kernel2Ideal Cert.Kernel2Ideal.Gen
open Cert.Norm
open scoped BigOperators

theorem offsets_zero : (![0, 0, 0] : Fin 3 → Nat) = fun _ => 0 := funext fun a => by fin_cases a <;> rfl

section Point
variable (c : Dev nD) (i : grid0.Coords) (arg2 : Memref sig .tc .vmem S1x8x1024 .f32) (harg2 : arg2.IsWhole) (arg3 : Memref sig .tc .vmem S1x256x1024 .f32) (harg3 : arg3.IsWhole) (arg4 : Memref sig .tc .vmem S1x8x1024 .f32) (harg4 : arg4.IsWhole) (arg5 : Memref sig .tc .vmem S1x6x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S1x5632 .f32) (harg10 : arg10.IsWhole) (arg11 : Memref sig .tc .vmem S11x256x1024 .bf16) (harg11 : arg11.IsWhole) (arg12 : Memref sig .tc .vmem S256x256 .bf16) (harg12 : arg12.IsWhole) (arg13 : Memref sig .tc .vmem S256x256 .bf16) (harg13 : arg13.IsWhole) (arg14 : Memref sig .tc .vmem S1x256x1024 .f32) (harg14 : arg14.IsWhole) (arg15 : Memref sig .tc .vmem S272x1024 .bf16) (harg15 : arg15.IsWhole) (arg16 : Memref sig .tc .vmem S3x272x512 .f32) (harg16 : arg16.IsWhole) (arg17 : Memref sig .tc .vmem S256x1024 .f32) (harg17 : arg17.IsWhole)
    (x0 : Vec Ideal S1x8x1024 .f32) (x1 : Vec Ideal S1x256x1024 .f32) (x2 : Vec Ideal S1x8x1024 .f32) (x3 : Vec Ideal S1x6x1024 .f32) (x4 : Vec Ideal S1x1024 .f32) (x5 : Vec Ideal S1x1024 .f32) (x6 : Vec Ideal S1024x5632 .bf16) (x7 : Vec Ideal S3x5632 .f32) (x8 : Vec Ideal S1x5632 .f32) (x9 : Vec Ideal S11x256x1024 .bf16) (x10 : Vec Ideal S256x256 .bf16) (x11 : Vec Ideal S256x256 .bf16)

/-- The block a grid point stores, entry by entry. -/
theorem out12_apply (hp : ∀ p q : Fin 256, x10 (ix2 p q) = if q.val = timeOf p.val then (1 : EReal) else 0)
    (hpt : ∀ t q : Fin 256, x11 (ix2 t q) = if q.val = posOf t.val then (1 : EReal) else 0)
    (wd : Fin 2816 → Fin 1024 → EReal)
    (hwd : ∀ (n : ℕ) (hn : n < 11) (j : Fin 256) (m : Fin 1024), x9 (ix3 (⟨n, hn⟩ : Fin 11) j m) = wd (chunkCol n hn j) m)
    (t : Fin 256) (n : Fin 1024) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 (ix3 (0 : Fin 1) t n)
      = x1 (ix3 (0 : Fin 1) t n) + x3 (ix3 (0 : Fin 1) (5 : Fin 6) n)
        * rms (fun m => downEntry (extended (i 1).val x0 x1 x2 x3 x4) (asW x6) (asTap x7) (asBias x8) wd t.val m) (fun k => x5 (ix2 (0 : Fin 1) k)) n := by
  unfold out0_A_12
  rw [View.read_writes_junk_eq_canon, run_pieces]
  refine (congrFun (View.canon_unit_zero (Val := Elt Ideal) offsets_zero inb_S1x256x1024_S1x256x1024_0_0_0 _) _).trans ?_
  rw [ld_all x5, ld_all x1, ld_all x11, rows_eq]
  refine (last_apply _ _ x5 x1 x11 hpt t n).trans ?_
  refine congrArg₂ (fun a f : EReal => x1 (ix3 (0 : Fin 1) t n) + a * f) ?_ ?_
  · exact congrFun (ld_modRow x3 5 inb_S1x6x1024_S1x1x1024_0_5_0) _
  · refine congrArg (fun f => rms f (fun k => x5 (ix2 (0 : Fin 1) k)) n) (funext fun m => ?_)
    refine (acc_down _ (extended (i 1).val x0 x1 x2 x3 x4) (fun e he k => scratch_apply i x0 x1 x2 x3 x4 x10 hp e he k) x6 x7 x8 x9 wd hwd
      (⟨posOf t.val, posOf_lt t⟩ : Fin 256) m).trans ?_
    exact congrArg (fun e => downEntry (extended (i 1).val x0 x1 x2 x3 x4) (asW x6) (asTap x7) (asBias x8) wd e m) (timeOf_posOf t.val t.isLt)

end Point

/-- A grid point's batch and its tile of rows. -/
def batchOf (t : Fin cfg0.N) : Fin 4 := grid0.coords t 0
def tileOf (t : Fin cfg0.N) : Fin 16 := grid0.coords t 1

/-- Row `r` of tile `i`, in the whole array. -/
def rowOf (i : Fin 16) (r : Fin 256) : Fin 4096 := ⟨i.val * 256 + r.val, by omega⟩

theorem index0 : ∀ t : Fin cfg0.N, win0_0.index t = ![(grid0.coords t 0).val, (grid0.coords t 1).val * 32 - 1, 0] :=
  (by decide +kernel : ∀ t : Fin grid0.N, _)
theorem index1 : ∀ t : Fin cfg0.N, win0_1.index t = ![(grid0.coords t 0).val, (grid0.coords t 1).val, 0] :=
  (by decide +kernel : ∀ t : Fin grid0.N, _)
theorem index2 : ∀ t : Fin cfg0.N, win0_2.index t = ![(grid0.coords t 0).val, min (((grid0.coords t 1).val + 1) * 32) 511, 0] :=
  (by decide +kernel : ∀ t : Fin grid0.N, _)
theorem index3 : ∀ t : Fin cfg0.N, win0_3.index t = ![(grid0.coords t 0).val, 0, 0] :=
  (by decide +kernel : ∀ t : Fin grid0.N, _)
theorem index4 : ∀ t : Fin cfg0.N, win0_4.index t = ![0, 0] :=
  (by decide +kernel : ∀ t : Fin grid0.N, _)
theorem index5 : ∀ t : Fin cfg0.N, win0_5.index t = ![0, 0] :=
  (by decide +kernel : ∀ t : Fin grid0.N, _)
theorem index6 : ∀ t : Fin cfg0.N, win0_6.index t = ![0, 0] :=
  (by decide +kernel : ∀ t : Fin grid0.N, _)
theorem index7 : ∀ t : Fin cfg0.N, win0_7.index t = ![0, 0] :=
  (by decide +kernel : ∀ t : Fin grid0.N, _)
theorem index8 : ∀ t : Fin cfg0.N, win0_8.index t = ![0, 0] :=
  (by decide +kernel : ∀ t : Fin grid0.N, _)
theorem index9 : ∀ t : Fin cfg0.N, win0_9.index t = ![0, 0, 0] :=
  (by decide +kernel : ∀ t : Fin grid0.N, _)
theorem index10 : ∀ t : Fin cfg0.N, win0_10.index t = ![0, 0] :=
  (by decide +kernel : ∀ t : Fin grid0.N, _)
theorem index11 : ∀ t : Fin cfg0.N, win0_11.index t = ![0, 0] :=
  (by decide +kernel : ∀ t : Fin grid0.N, _)
theorem index12 : ∀ t : Fin cfg0.N, win0_12.index t = ![(grid0.coords t 0).val, (grid0.coords t 1).val, 0] :=
  (by decide +kernel : ∀ t : Fin grid0.N, _)

theorem place0 (t : Fin cfg0.N) (r : Fin 8) (a : Fin 1024) (T : Fin 4096) (h : ((tileOf t).val * 32 - 1) * 8 + r.val = T.val) :
    (win0_0.blk t).view.emb (ix3 (0 : Fin 1) r a) = (ix3 (batchOf t) T a : S4x4096x1024.Idx) :=
  funext fun d => Fin.ext (match d with
    | ⟨0, _⟩ => by blk_simp [index0]; rfl
    | ⟨1, _⟩ => by blk_simp [index0]; exact h
    | ⟨2, _⟩ => by blk_simp [index0])

theorem place2 (t : Fin cfg0.N) (r : Fin 8) (a : Fin 1024) (T : Fin 4096) (h : min (((tileOf t).val + 1) * 32) 511 * 8 + r.val = T.val) :
    (win0_2.blk t).view.emb (ix3 (0 : Fin 1) r a) = (ix3 (batchOf t) T a : S4x4096x1024.Idx) :=
  funext fun d => Fin.ext (match d with
    | ⟨0, _⟩ => by blk_simp [index2]; rfl
    | ⟨1, _⟩ => by blk_simp [index2]; exact h
    | ⟨2, _⟩ => by blk_simp [index2])

theorem place1 (t : Fin cfg0.N) (r : Fin 256) (a : Fin 1024) :
    (win0_1.blk t).view.emb (ix3 (0 : Fin 1) r a) = (ix3 (batchOf t) (rowOf (tileOf t) r) a : S4x4096x1024.Idx) :=
  funext fun d => Fin.ext (match d with
    | ⟨0, _⟩ => by blk_simp [index1]; rfl
    | ⟨1, _⟩ => by blk_simp [index1]; rfl
    | ⟨2, _⟩ => by blk_simp [index1])

theorem place12 (t : Fin cfg0.N) (r : Fin 256) (a : Fin 1024) :
    (win0_12.blk t).view.emb (ix3 (0 : Fin 1) r a) = (ix3 (batchOf t) (rowOf (tileOf t) r) a : S4x4096x1024.Idx) :=
  funext fun d => Fin.ext (match d with
    | ⟨0, _⟩ => by blk_simp [index12]; rfl
    | ⟨1, _⟩ => by blk_simp [index12]; rfl
    | ⟨2, _⟩ => by blk_simp [index12])

theorem place3 (t : Fin cfg0.N) (r : Fin 6) (a : Fin 1024) :
    (win0_3.blk t).view.emb (ix3 (0 : Fin 1) r a) = (ix3 (batchOf t) r a : S4x6x1024.Idx) :=
  funext fun d => Fin.ext (match d with
    | ⟨0, _⟩ => by blk_simp [index3]; rfl
    | ⟨1, _⟩ => by blk_simp [index3]
    | ⟨2, _⟩ => by blk_simp [index3])

theorem place9 (t : Fin cfg0.N) (n : Fin 11) (r : Fin 256) (a : Fin 1024) :
    (win0_9.blk t).view.emb (ix3 n r a) = (ix3 n r a : S11x256x1024.Idx) :=
  funext fun d => Fin.ext (match d with
    | ⟨0, _⟩ => by blk_simp [index9]
    | ⟨1, _⟩ => by blk_simp [index9]
    | ⟨2, _⟩ => by blk_simp [index9])

theorem place4 (t : Fin cfg0.N) (r : Fin 1) (a : Fin 1024) :
    (win0_4.blk t).view.emb (ix2 r a) = (ix2 r a : S1x1024.Idx) :=
  funext fun d => Fin.ext (match d with
    | ⟨0, _⟩ => by blk_simp [index4]
    | ⟨1, _⟩ => by blk_simp [index4])

theorem place5 (t : Fin cfg0.N) (r : Fin 1) (a : Fin 1024) :
    (win0_5.blk t).view.emb (ix2 r a) = (ix2 r a : S1x1024.Idx) :=
  funext fun d => Fin.ext (match d with
    | ⟨0, _⟩ => by blk_simp [index5]
    | ⟨1, _⟩ => by blk_simp [index5])

theorem place6 (t : Fin cfg0.N) (r : Fin 1024) (a : Fin 5632) :
    (win0_6.blk t).view.emb (ix2 r a) = (ix2 r a : S1024x5632.Idx) :=
  funext fun d => Fin.ext (match d with
    | ⟨0, _⟩ => by blk_simp [index6]
    | ⟨1, _⟩ => by blk_simp [index6])

theorem place7 (t : Fin cfg0.N) (r : Fin 3) (a : Fin 5632) :
    (win0_7.blk t).view.emb (ix2 r a) = (ix2 r a : S3x5632.Idx) :=
  funext fun d => Fin.ext (match d with
    | ⟨0, _⟩ => by blk_simp [index7]
    | ⟨1, _⟩ => by blk_simp [index7])

theorem place8 (t : Fin cfg0.N) (r : Fin 1) (a : Fin 5632) :
    (win0_8.blk t).view.emb (ix2 r a) = (ix2 r a : S1x5632.Idx) :=
  funext fun d => Fin.ext (match d with
    | ⟨0, _⟩ => by blk_simp [index8]
    | ⟨1, _⟩ => by blk_simp [index8])

theorem place10 (t : Fin cfg0.N) (r : Fin 256) (a : Fin 256) :
    (win0_10.blk t).view.emb (ix2 r a) = (ix2 r a : S256x256.Idx) :=
  funext fun d => Fin.ext (match d with
    | ⟨0, _⟩ => by blk_simp [index10]
    | ⟨1, _⟩ => by blk_simp [index10])

theorem place11 (t : Fin cfg0.N) (r : Fin 256) (a : Fin 256) :
    (win0_11.blk t).view.emb (ix2 r a) = (ix2 r a : S256x256.Idx) :=
  funext fun d => Fin.ext (match d with
    | ⟨0, _⟩ => by blk_simp [index11]
    | ⟨1, _⟩ => by blk_simp [index11])

section Host

theorem bias_apply (x : FVec Ideal S5632 .f32) (n : Fin 5632) : shapeCast S1x5632 x shapeCasts_S5632_S1x5632 (ix2 (0 : Fin 1) n) = x (ix1 n) :=
  shapeCast_apply x _ _ _ (by
    rw [Shape.rowMajor_val_one, Shape.rowMajor_val_two]
    show n.val = 0 * 5632 + n.val
    omega)

theorem chunks_apply (x : FVec Ideal S2816x1024 .f32) (n : ℕ) (hn : n < 11) (j : Fin 256) (a : Fin 1024) :
    shapeCast S11x256x1024 x shapeCasts_S2816x1024_S11x256x1024 (ix3 (⟨n, hn⟩ : Fin 11) j a) = x (ix2 (chunkCol n hn j) a) :=
  shapeCast_apply x _ _ _ (by
    rw [Shape.rowMajor_val_two, Shape.rowMajor_val_three]
    show (256 * n + j.val) * 1024 + a.val = (n * 256 + j.val) * 1024 + a.val
    omega)

/-- A printed table as an array. -/
def tableOf (l : Fin 65536 → BitVec 32) : S256x256.Idx → EReal := fun i => FloatOps.ofBits (F := Ideal) .f32 (l (S256x256.rowMajor i))

/-- Row `p` of a table that picks one entry of each row. -/
theorem tableOf_apply {l : Fin 65536 → BitVec 32} {f : ℕ → ℕ} (h : ∀ b, Picks l f b) (p q : Fin 256) :
    tableOf l (ix2 p q) = if q.val = f p.val then (1 : EReal) else 0 := by
  unfold tableOf
  rw [picks_all h p q (S256x256.rowMajor (ix2 p q)) (Shape.rowMajor_val_two _)]
  split
  · exact Ideal.ofBits_one_f32
  · exact Ideal.ofBits_zero_f32

variable (m : (ℓ : Loc nD τ sig) → Buf (Elt Ideal) ℓ) (c : Dev nD)

/-- The arrays the host makes: the two tables, the weights cast, and the bias and the down projection reshaped. -/
theorem host_v0 : (V m c main_v0 : S256x256.Idx → EReal) = tableOf lit0 := by
  unfold V hostOps0; after_results_simp <;> rfl
theorem host_v1 : (V m c main_v1 : S256x256.Idx → EReal) = tableOf lit1 := by
  unfold V hostOps0; after_results_simp <;> rfl
theorem host_v2 : (V m c main_v2 : S1024x5632.Idx → EReal) = m ((c.tc : Thread nD τ).loc main_arg4) := by
  unfold V hostOps0; after_results_simp <;> rfl
theorem host_v3 : (V m c main_v3 : S1x5632.Idx → EReal) = shapeCast S1x5632 (m ((c.tc : Thread nD τ).loc main_arg6)) shapeCasts_S5632_S1x5632 := by
  unfold V hostOps0; after_results_simp <;> rfl
theorem host_v5 : (V m c main_v5 : S11x256x1024.Idx → EReal)
    = shapeCast S11x256x1024 (m ((c.tc : Thread nD τ).loc main_arg7)) shapeCasts_S2816x1024_S11x256x1024 := by
  unfold V hostOps0; after_results_simp <;> rfl

/-- An entry of the result of the launched arrays. -/
def result (b : Fin 4) (t : Fin 4096) (n : Fin 1024) : EReal :=
  entry (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) b t n

theorem block0 (t : Fin cfg0.N) (r : Fin 8) (a : Fin 1024) (T : Fin 4096) (h : ((tileOf t).val * 32 - 1) * 8 + r.val = T.val) :
    iblk m c 0 t (ix3 (0 : Fin 1) r a) = m ((c.tc : Thread nD τ).loc main_arg0) (ix3 (batchOf t) T a) := by
  rw [← V_main_arg0 m c]
  blk_simp [iblk]; rw [place0 t r a T h]
theorem block1 (t : Fin cfg0.N) (r : Fin 256) (a : Fin 1024) :
    iblk m c 1 t (ix3 (0 : Fin 1) r a) = m ((c.tc : Thread nD τ).loc main_arg0) (ix3 (batchOf t) (rowOf (tileOf t) r) a) := by
  rw [← V_main_arg0 m c]
  blk_simp [iblk]; rw [place1]
theorem block2 (t : Fin cfg0.N) (r : Fin 8) (a : Fin 1024) (T : Fin 4096) (h : min (((tileOf t).val + 1) * 32) 511 * 8 + r.val = T.val) :
    iblk m c 2 t (ix3 (0 : Fin 1) r a) = m ((c.tc : Thread nD τ).loc main_arg0) (ix3 (batchOf t) T a) := by
  rw [← V_main_arg0 m c]
  blk_simp [iblk]; rw [place2 t r a T h]
theorem block3 (t : Fin cfg0.N) (r : Fin 6) (a : Fin 1024) : iblk m c 3 t (ix3 (0 : Fin 1) r a) = m ((c.tc : Thread nD τ).loc main_arg1) (ix3 (batchOf t) r a) := by
  rw [← V_main_arg1 m c]
  blk_simp [iblk]; rw [place3]
theorem block4 (t : Fin cfg0.N) (a : Fin 1024) : iblk m c 4 t (ix2 (0 : Fin 1) a) = m ((c.tc : Thread nD τ).loc main_arg2) (ix2 (0 : Fin 1) a) := by
  rw [← V_main_arg2 m c]
  blk_simp [iblk]; rw [place4]
theorem block5 (t : Fin cfg0.N) (a : Fin 1024) : iblk m c 5 t (ix2 (0 : Fin 1) a) = m ((c.tc : Thread nD τ).loc main_arg3) (ix2 (0 : Fin 1) a) := by
  rw [← V_main_arg3 m c]
  blk_simp [iblk]; rw [place5]
theorem block6 (t : Fin cfg0.N) (k : Fin 1024) (n : Fin 5632) : iblk m c 6 t (ix2 k n) = m ((c.tc : Thread nD τ).loc main_arg4) (ix2 k n) := by
  refine Eq.trans ?_ (congrFun (host_v2 m c) (ix2 k n))
  blk_simp [iblk]; rw [place6]
theorem block7 (t : Fin cfg0.N) (d : Fin 3) (n : Fin 5632) : iblk m c 7 t (ix2 d n) = m ((c.tc : Thread nD τ).loc main_arg5) (ix2 d n) := by
  rw [← V_main_arg5 m c]
  blk_simp [iblk]; rw [place7]
theorem block8 (t : Fin cfg0.N) (n : Fin 5632) : iblk m c 8 t (ix2 (0 : Fin 1) n) = m ((c.tc : Thread nD τ).loc main_arg6) (ix1 n) := by
  refine Eq.trans ?_ ((congrFun (host_v3 m c) (ix2 (0 : Fin 1) n)).trans (bias_apply _ n))
  blk_simp [iblk]; rw [place8]
theorem block9 (t : Fin cfg0.N) (n : ℕ) (hn : n < 11) (j : Fin 256) (a : Fin 1024) :
    iblk m c 9 t (ix3 (⟨n, hn⟩ : Fin 11) j a) = m ((c.tc : Thread nD τ).loc main_arg7) (ix2 (chunkCol n hn j) a) := by
  refine Eq.trans ?_ ((congrFun (host_v5 m c) (ix3 (⟨n, hn⟩ : Fin 11) j a)).trans (chunks_apply _ n hn j a))
  blk_simp [iblk]; rw [place9]
theorem block10 (t : Fin cfg0.N) (p q : Fin 256) : iblk m c 10 t (ix2 p q) = if q.val = timeOf p.val then (1 : EReal) else 0 := by
  refine Eq.trans ?_ ((congrFun (host_v0 m c) (ix2 p q)).trans (tableOf_apply lit0_picks p q))
  blk_simp [iblk]; rw [place10]
theorem block11 (t : Fin cfg0.N) (p q : Fin 256) : iblk m c 11 t (ix2 p q) = if q.val = posOf p.val then (1 : EReal) else 0 := by
  refine Eq.trans ?_ ((congrFun (host_v1 m c) (ix2 p q)).trans (tableOf_apply lit1_picks p q))
  blk_simp [iblk]; rw [place11]

/-- A grid point's rows, the one before and the one after, are the padded rows. -/
theorem extended_eq (t : Fin cfg0.N) (e : ℕ) (he : e < 258) :
    extended (tileOf t).val (iblk m c 0 t) (iblk m c 1 t) (iblk m c 2 t) (iblk m c 3 t) (iblk m c 4 t) e
      = padded (m ((c.tc : Thread nD τ).loc main_arg0)) (m ((c.tc : Thread nD τ).loc main_arg1)) (m ((c.tc : Thread nD τ).loc main_arg2)) (batchOf t) ((tileOf t).val * 256 + e) := by
  have hi := (tileOf t).isLt
  have mk : ∀ (f : Fin 1024 → EReal) (T : Fin 4096) (_ : ∀ k, f k = m ((c.tc : Thread nD τ).loc main_arg0) (ix3 (batchOf t) T k)) (_ : (tileOf t).val * 256 + e = T.val + 1) (k : Fin 1024),
      modulated f (fun k => iblk m c 4 t (ix2 (0 : Fin 1) k)) (fun k => iblk m c 3 t (ix3 (0 : Fin 1) (4 : Fin 6) k))
        (fun k => iblk m c 3 t (ix3 (0 : Fin 1) (3 : Fin 6) k)) k
        = padded (m ((c.tc : Thread nD τ).loc main_arg0)) (m ((c.tc : Thread nD τ).loc main_arg1)) (m ((c.tc : Thread nD τ).loc main_arg2)) (batchOf t) ((tileOf t).val * 256 + e) k := fun f T hf hE k => by
    rw [padded_row _ _ _ _ T _ hE, show f = _ from funext hf, show (fun k => iblk m c 4 t (ix2 (0 : Fin 1) k)) = _ from funext (block4 m c t),
      show (fun k => iblk m c 3 t (ix3 (0 : Fin 1) (4 : Fin 6) k)) = _ from funext (block3 m c t 4),
      show (fun k => iblk m c 3 t (ix3 (0 : Fin 1) (3 : Fin 6) k)) = _ from funext (block3 m c t 3)]
  funext k
  unfold extended
  by_cases h0 : e = 0
  · rw [if_pos h0]
    by_cases h : 0 < (tileOf t).val
    · rw [if_pos h]
      exact mk _ ⟨(tileOf t).val * 256 - 1, by omega⟩ (fun k => block0 m c t 7 k _ (by show ((tileOf t).val * 32 - 1) * 8 + 7 = (tileOf t).val * 256 - 1; omega))
        (by show _ = (tileOf t).val * 256 - 1 + 1; omega) k
    · rw [if_neg h]
      exact (padded_out _ _ _ _ _ (by omega) k).symm
  · rw [if_neg h0]
    by_cases h1 : e = 257
    · rw [if_pos h1]
      by_cases h : (tileOf t).val < 15
      · rw [if_pos h]
        exact mk _ ⟨(tileOf t).val * 256 + 256, by omega⟩ (fun k => block2 m c t 0 k _ (by
          show min (((tileOf t).val + 1) * 32) 511 * 8 + 0 = (tileOf t).val * 256 + 256; omega)) (by show _ = (tileOf t).val * 256 + 256 + 1; omega) k
      · rw [if_neg h]
        exact (padded_out _ _ _ _ _ (by omega) k).symm
    · rw [if_neg h1]
      exact mk _ (rowOf (tileOf t) ⟨(e - 1) % 256, Nat.mod_lt _ (by decide)⟩) (fun k => block1 m c t _ k)
        (by show _ = (tileOf t).val * 256 + (e - 1) % 256 + 1; omega) k

/-- What a grid point stores, in the launched arrays' terms. -/
theorem blocks_apply (t : Fin cfg0.N) (r : Fin 256) (n : Fin 1024) :
    out0_A_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
      (ix3 (0 : Fin 1) r n) = result m c (batchOf t) (rowOf (tileOf t) r) n := by
  have hr := r.isLt
  refine (out12_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    (block10 m c t) (block11 m c t) (fun j a => m ((c.tc : Thread nD τ).loc main_arg7) (ix2 j a)) (block9 m c t) r n).trans ?_
  have hW : asW (iblk m c 6 t) = fun k n => m ((c.tc : Thread nD τ).loc main_arg4) (ix2 k n) := funext fun k => funext fun n => block6 m c t k n
  have hT : asTap (iblk m c 7 t) = fun d n => m ((c.tc : Thread nD τ).loc main_arg5) (ix2 d n) := funext fun d => funext fun n => block7 m c t d n
  have hB : asBias (iblk m c 8 t) = fun n => m ((c.tc : Thread nD τ).loc main_arg6) (ix1 n) := funext fun n => block8 m c t n
  have hG : (fun k => iblk m c 5 t (ix2 (0 : Fin 1) k)) = fun k => m ((c.tc : Thread nD τ).loc main_arg3) (ix2 (0 : Fin 1) k) := funext (block5 m c t)
  rw [hW, hT, hB]
  unfold result entry
  refine congrArg₂ (fun a b : EReal => a + b) (block1 m c t r n) (congrArg₂ (fun a b : EReal => a * b) (block3 m c t 5 n) ?_)
  refine congrArg₂ (fun f g => rms f g n) (funext fun a => ?_) hG
  exact downEntry_congr _ _ _ _ _ _ _ _ (extended_eq m c t r.val (by omega)) (extended_eq m c t (r.val + 1) (by omega))
    (extended_eq m c t (r.val + 2) (by omega)) a

theorem array_apply (i : S4x4096x1024.Idx) : (dats m 0 c).arrAt 12 cfg0.N i = result m c (i 0) (i 1) (i 2) := by
  refine (dats m 0 c).arrAt_forall_of_covers 12 (fun (i : S4x4096x1024.Idx) (v : EReal) => v = result m c (i 0) (i 1) (i 2))
    (by decide +kernel) (fun t hf y => ?_) i
  blk_simp
  rw [after0_12]
  unfold outsAt0
  obtain ⟨r, a, rfl⟩ : ∃ (r : Fin 256) (a : Fin 1024), y = ix3 (0 : Fin 1) r a :=
    ⟨y 1, y 2, (eq_ix3 y).trans (congrArg (fun z : Fin 1 => ix3 z (y 1) (y 2)) (Subsingleton.elim _ _))⟩
  refine (blocks_apply m c t r a).trans ?_
  exact (congrArg (fun i : S4x4096x1024.Idx => result m c (i 0) (i 1) (i 2)) (place12 t r a)).symm

end Host

end Cert.Ffn

end
-- ==== Proof.FfnRef.lean ====
/- The gated convolution block's reference, entry by entry. -/
module

public import proofs.«01_k».proof.Proof.FfnEntry
public import proofs.«01_k».proof.Proof.Gen.Reference2Ideal.Run
public import proofs.«01_k».proof.Proof.Gen.Reference2Ideal.Read
public import Idealize.ShloMosaic.Lib.Pipeline.ValueKit
public import Idealize.ShloMosaic.Lib.KernelVsHost
public import Idealize.ShloMosaic.Lib.IdealHost

@[expose] public section

noncomputable section

namespace Cert.Ffn

open Idealize.ShloMosaic.ValueIdx Idealize.ShloMosaic.TcCoe Idealize.SL.Sem
open Idealize.ShloMosaic hiding ix0 ix1 ix2 ix3 ix4 ix5 eq_ix3
open Cert.Norm
open scoped BigOperators

section Reference
open Cert.Reference2Ideal Cert.Reference2Ideal.Gen Cert.Reference2Ideal.Read
variable (X : FVec Ideal S4x4096x1024 .f32) (M : FVec Ideal S4x6x1024 .f32) (G G' : FVec Ideal S1x1024 .f32) (W : FVec Ideal S1024x5632 .f32)
  (cw : FVec Ideal S3x5632 .f32) (cb : FVec Ideal S5632 .f32) (wd : FVec Ideal S2816x1024 .f32)

/-- The reference's modulated rows. -/
theorem reference_hidden (i : S4x4096x1024.Idx) :
    val_main_v21 (F := Ideal) X M G i = modulated (fun k => X (ix3 (i 0) (i 1) k)) (fun k => G (ix2 (0 : Fin 1) k))
      (fun k => M (ix3 (i 0) (4 : Fin 6) k)) (fun k => M (ix3 (i 0) (3 : Fin 6) k)) (i 2) := by
  have hr : ∀ k : Fin 1024, idx_main_v2 (idx_main_v3 (idx_main_v9 i)) k = ix3 (i 0) (i 1) k := fun k =>
    funext fun a => match a with | ⟨0, _⟩ => rfl | ⟨1, _⟩ => rfl | ⟨2, _⟩ => rfl
  have hi : i = ix3 (i 0) (i 1) (i 2) := eq_ix3 i
  have hg : idx_main_v0 (idx_main_v11 (idx_main_v12 i)) = ix2 (0 : Fin 1) (i 2) := by
    funext a
    refine Fin.ext ?_
    match a with
    | ⟨0, _⟩ => rfl
    | ⟨1, _⟩ => exact Nat.mod_eq_of_lt (i 2).isLt
  have hs : idx_main_v15 (idx_main_v18 i) = ix3 (i 0) (4 : Fin 6) (i 2) :=
    funext fun a => match a with | ⟨0, _⟩ => rfl | ⟨1, _⟩ => rfl | ⟨2, _⟩ => rfl
  have hh : idx_main_v14 (idx_main_v20 i) = ix3 (i 0) (3 : Fin 6) (i 2) :=
    funext fun a => match a with | ⟨0, _⟩ => rfl | ⟨1, _⟩ => rfl | ⟨2, _⟩ => rfl
  rw [val_main_v21_apply, val_main_v20_apply, val_main_v14_apply, hh, val_main_v19_apply, val_main_v18_apply, val_main_v17_apply,
    val_main_v16_apply, val_main_cst_2_apply, val_main_v15_apply, hs, val_main_v13_apply, val_main_v12_apply, val_main_v11_apply,
    val_main_v0_apply, hg, val_main_v10_apply, val_main_v9_apply, val_main_v8_apply, val_main_v7_apply, val_main_v6_apply,
    val_main_cst_1_apply, val_main_v5_apply, val_main_v4_apply, val_main_cst_0_apply, val_main_v3_apply, val_main_v2_apply,
    val_main_cst_apply]
  simp only [val_main_v1_apply, hr, Ideal.addf_def, Ideal.mulf_def, Ideal.hostDivf_def, Ideal.hostUnary_rsqrt_def]
  rw [show (FloatOps.ofBits .f32 0x00000000#32 : Ideal .f32) = 0 from Ideal.ofBits_zero_f32, zero_add, congrArg X hi]
  rfl

/-- The reference's up projection is `upEntry` of the padded rows, one row down. -/
theorem reference_up (j : S4x4096x5632.Idx) :
    val_main_v22 (F := Ideal) X M G W j = upEntry (padded X M G (j 0)) (fun k n => W (ix2 k n)) ((j 1).val + 1) (j 2) := by
  rw [val_main_v22_apply]
  unfold upEntry
  refine Finset.sum_congr rfl fun k _ => ?_
  rw [reference_hidden, padded_row X M G (j 0) (j 1) _ rfl k]
  exact congrArg₂ (fun a b : EReal => a * b) rfl (congrArg W (funext fun a => match a with | ⟨0, _⟩ => rfl | ⟨1, _⟩ => rfl))

/-- A row of zeros against a column is zero. -/
theorem upEntry_out (b : Fin 4) (E : ℕ) (h : E = 0 ∨ 4096 < E) (V : Fin 1024 → Fin 5632 → EReal) (n : Fin 5632) :
    upEntry (padded X M G b) V E n = 0 := by
  unfold upEntry
  refine Finset.sum_eq_zero fun k _ => ?_
  rw [padded_out X M G b E h k, zero_mul]

/-- The value the reference pads with. -/
theorem reference_pad_value (i : S_.Idx) : val_main_call0_v0 (F := Ideal) i = (0 : EReal) := by
  rw [val_main_call0_v0_apply, val_main_c_apply]
  exact sitofp_zero (φ := .f32)

/-- The reference's padded up projection is `upEntry` of the padded rows. -/
theorem reference_padded (j : S4x4098x5632.Idx) :
    val_main_v23 (F := Ideal) X M G W j = upEntry (padded X M G (j 0)) (fun k n => W (ix2 k n)) (j 1).val (j 2) := by
  unfold val_main_v23
  have hu := reference_up X M G W
  generalize val_main_v22 (F := Ideal) X M G W = U at hu ⊢
  have hj : (j 1).val < 4098 := (j 1).isLt
  by_cases h : 1 ≤ (j 1).val ∧ (j 1).val ≤ 4096
  · have hr : (j 1).val - 1 < 4096 := by omega
    refine (pad_apply_of_inside ![0, 1, 0] ![0, 1, 0] ![0, 0, 0] U _ pads_S4x4096x5632_S4x4098x5632_000_110_000 h_S_ j
      (ix3 (j 0) (⟨(j 1).val - 1, hr⟩ : Fin 4096) (j 2)) (fun a => match a with
        | ⟨0, _⟩ => by show (j 0).val = 0 + (j 0).val * (0 + 1); omega
        | ⟨1, _⟩ => by show (j 1).val = 1 + ((j 1).val - 1) * (0 + 1); omega
        | ⟨2, _⟩ => by show (j 2).val = 0 + (j 2).val * (0 + 1); omega)).trans ((hu _).trans ?_)
    exact congrArg (fun E => upEntry (padded X M G (j 0)) (fun k n => W (ix2 k n)) E (j 2)) (Nat.sub_add_cancel h.1)
  · refine (pad_apply_of_not_inside ![0, 1, 0] ![0, 1, 0] ![0, 0, 0] U _ pads_S4x4096x5632_S4x4098x5632_000_110_000 h_S_ j 1 ?_).trans
      ((reference_pad_value _).trans (upEntry_out X M G (j 0) (j 1).val (by omega) _ (j 2)).symm)
    show ¬(1 ≤ (j 1).val ∧ ((j 1).val - 1) % (0 + 1) = 0 ∧ ((j 1).val - 1) / (0 + 1) < 4096)
    omega

/-- The taps of the convolution, spread over the rows. -/
theorem tap0 (i : S4x4096x5632.Idx) : val_main_v28 (F := Ideal) cw i = cw (ix2 (0 : Fin 3) (i 2)) := by
  rw [val_main_v28_apply, val_main_v27_apply, val_main_v26_apply, val_main_v25_apply]
  refine congrArg cw (funext fun a => Fin.ext ?_)
  match a with
  | ⟨0, _⟩ => rfl
  | ⟨1, _⟩ => exact Nat.mod_eq_of_lt (i 2).isLt
theorem tap1 (i : S4x4096x5632.Idx) : val_main_v34 (F := Ideal) cw i = cw (ix2 (1 : Fin 3) (i 2)) := by
  rw [val_main_v34_apply, val_main_v33_apply, val_main_v32_apply, val_main_v31_apply]
  refine congrArg cw (funext fun a => Fin.ext ?_)
  match a with
  | ⟨0, _⟩ => rfl
  | ⟨1, _⟩ => exact Nat.mod_eq_of_lt (i 2).isLt
theorem tap2 (i : S4x4096x5632.Idx) : val_main_v41 (F := Ideal) cw i = cw (ix2 (2 : Fin 3) (i 2)) := by
  rw [val_main_v41_apply, val_main_v40_apply, val_main_v39_apply, val_main_v38_apply]
  refine congrArg cw (funext fun a => Fin.ext ?_)
  match a with
  | ⟨0, _⟩ => rfl
  | ⟨1, _⟩ => exact Nat.mod_eq_of_lt (i 2).isLt
theorem bias (i : S4x4096x5632.Idx) : val_main_v45 (F := Ideal) cb i = cb (ix1 (i 2)) := by
  rw [val_main_v45_apply, val_main_v44_apply]
  exact congrArg cb (funext fun a => match a with | ⟨0, _⟩ => rfl)

/-- The reference's three shifted rows. -/
theorem shift0 (i : S4x4096x5632.Idx) :
    val_main_v24 (F := Ideal) X M G W i = upEntry (padded X M G (i 0)) (fun k n => W (ix2 k n)) (i 1).val (i 2) := by
  rw [val_main_v24_apply, reference_padded]
  rfl
theorem shift1 (i : S4x4096x5632.Idx) :
    val_main_v30 (F := Ideal) X M G W i = upEntry (padded X M G (i 0)) (fun k n => W (ix2 k n)) ((i 1).val + 1) (i 2) := by
  rw [val_main_v30_apply, reference_padded]
  exact congrArg (fun E => upEntry (padded X M G (i 0)) (fun k n => W (ix2 k n)) E (i 2)) (Nat.add_comm 1 _)
theorem shift2 (i : S4x4096x5632.Idx) :
    val_main_v37 (F := Ideal) X M G W i = upEntry (padded X M G (i 0)) (fun k n => W (ix2 k n)) ((i 1).val + 2) (i 2) := by
  rw [val_main_v37_apply, reference_padded]
  exact congrArg (fun E => upEntry (padded X M G (i 0)) (fun k n => W (ix2 k n)) E (i 2)) (Nat.add_comm 2 _)

/-- The reference's convolution. -/
theorem reference_conv (i : S4x4096x5632.Idx) :
    val_main_v46 (F := Ideal) X M G W cw cb i = convEntry (padded X M G (i 0)) (fun k n => W (ix2 k n)) (fun d n => cw (ix2 d n))
      (fun n => cb (ix1 n)) (i 1).val (i 2) := by
  rw [val_main_v46_apply, val_main_v43_apply, val_main_v42_apply, val_main_v36_apply, val_main_v35_apply, val_main_v29_apply,
    shift0, shift1, shift2, tap0, tap1, tap2, bias]
  rfl

/-- The reference's gated product. -/
theorem reference_gated (i : S4x4096x2816.Idx) :
    val_main_v51 (F := Ideal) X M G W cw cb i = gatedEntry (padded X M G (i 0)) (fun k n => W (ix2 k n)) (fun d n => cw (ix2 d n))
      (fun n => cb (ix1 n)) (i 1).val (i 2) := by
  have hgate : val_main_v47 (F := Ideal) X M G W cw cb i = convEntry (padded X M G (i 0)) (fun k n => W (ix2 k n)) (fun d n => cw (ix2 d n))
      (fun n => cb (ix1 n)) (i 1).val (gateCol (i 2)) := by
    rw [val_main_v47_apply, reference_conv]
    rfl
  have hvalue : val_main_v48 (F := Ideal) X M G W cw cb i = convEntry (padded X M G (i 0)) (fun k n => W (ix2 k n)) (fun d n => cw (ix2 d n))
      (fun n => cb (ix1 n)) (i 1).val (valueCol (i 2)) := by
    rw [val_main_v48_apply, reference_conv]
    rfl
  rw [val_main_v51_apply, val_main_v50_apply, val_main_call1_v5_apply, val_main_call1_v4_apply, val_main_call1_cst_0_apply,
    val_main_call1_v3_apply, val_main_call1_v2_apply, val_main_call1_cst_apply, val_main_call1_v1_apply, val_main_call1_v0_apply,
    hgate, hvalue, show (FloatOps.ofBits .f32 0x3F800000#32 : Ideal .f32) = (1 : EReal) from Ideal.ofBits_one_f32]
  rfl

/-- The reference's down projection. -/
theorem reference_down (i : S4x4096x1024.Idx) :
    val_main_v52 (F := Ideal) X M G W cw cb wd i = downEntry (padded X M G (i 0)) (fun k n => W (ix2 k n)) (fun d n => cw (ix2 d n))
      (fun n => cb (ix1 n)) (fun j n => wd (ix2 j n)) (i 1).val (i 2) := by
  rw [val_main_v52_apply]
  unfold downEntry
  refine Finset.sum_congr rfl fun k _ => ?_
  rw [reference_gated]
  exact congrArg₂ (fun a b : EReal => a * b) rfl (congrArg wd (funext fun a => match a with | ⟨0, _⟩ => rfl | ⟨1, _⟩ => rfl))

set_option maxHeartbeats 1600000 in
/-- The reference's result. -/
theorem reference_apply (i : S4x4096x1024.Idx) :
    val_main_v69 (F := Ideal) X M G G' W cw cb wd i = entry X M G G' W cw cb wd (i 0) (i 1) (i 2) := by
  have hr : ∀ k : Fin 1024, idx_main_v55 (idx_main_v56 (idx_main_v62 i)) k = ix3 (i 0) (i 1) k := fun k =>
    funext fun a => match a with | ⟨0, _⟩ => rfl | ⟨1, _⟩ => rfl | ⟨2, _⟩ => rfl
  have hg : idx_main_v53 (idx_main_v64 (idx_main_v65 i)) = ix2 (0 : Fin 1) (i 2) := by
    funext a
    refine Fin.ext ?_
    match a with
    | ⟨0, _⟩ => rfl
    | ⟨1, _⟩ => exact Nat.mod_eq_of_lt (i 2).isLt
  have hs : idx_main_v49 (idx_main_v67 i) = ix3 (i 0) (5 : Fin 6) (i 2) :=
    funext fun a => match a with | ⟨0, _⟩ => rfl | ⟨1, _⟩ => rfl | ⟨2, _⟩ => rfl
  rw [val_main_v69_apply, val_main_v68_apply, val_main_v67_apply, val_main_v49_apply, hs, val_main_v66_apply, val_main_v65_apply,
    val_main_v64_apply, val_main_v53_apply, hg, val_main_v63_apply, val_main_v62_apply, val_main_v61_apply, val_main_v60_apply,
    val_main_v59_apply, val_main_cst_5_apply, val_main_v58_apply, val_main_v57_apply, val_main_cst_4_apply, val_main_v56_apply,
    val_main_v55_apply, val_main_cst_3_apply]
  have hJ : ∀ j, val_main_v52 (F := Ideal) X M G W cw cb wd j = _ := reference_down X M G W cw cb wd
  unfold val_main_v54
  have hk : ∀ k : Fin 1024, val_main_v52 (F := Ideal) X M G W cw cb wd (ix3 (i 0) (i 1) k) = _ := fun k => hJ (ix3 (i 0) (i 1) k)
  have hi := hJ i
  clear hJ
  generalize val_main_v52 (F := Ideal) X M G W cw cb wd = V at hk hi ⊢
  simp only [hr, mulf_apply, Ideal.addf_def, Ideal.mulf_def, Ideal.hostDivf_def, Ideal.hostUnary_rsqrt_def]
  rw [show (FloatOps.ofBits .f32 0x00000000#32 : Ideal .f32) = 0 from Ideal.ofBits_zero_f32, zero_add, congrArg X (eq_ix3 i), hi]
  unfold entry rms scaleOf
  exact congrArg (fun z : EReal => X (ix3 (i 0) (i 1) (i 2)) + M (ix3 (i 0) (5 : Fin 6) (i 2))
    * (downEntry (padded X M G (i 0)) (fun k n => W (ix2 k n)) (fun d n => cw (ix2 d n)) (fun n => cb (ix1 n)) (fun j n => wd (ix2 j n)) (i 1).val (i 2)
      * Ideal.rsqrt (Ideal.div z (Ideal.ofBits .f32 0x44800000#32) + Ideal.ofBits .f32 0x358637BD#32) * G' (ix2 (0 : Fin 1) (i 2))))
    (Finset.sum_congr rfl fun k _ => congrArg₂ (fun a b : EReal => a * b) (hk k) (hk k))

end Reference

end Cert.Ffn

end
-- ==== Proof.FfnClaims.lean ====
/- THE GATED CONVOLUTION BLOCK: its frames, and its value. -/
module

public import proofs.«01_k».proof.Defs
public import proofs.«01_k».proof.Proof.FfnArray
public import proofs.«01_k».proof.Proof.FfnRef
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import Idealize.ShloMosaic.Adequacy
public import Idealize.ShloMosaic.Init

@[expose] public section

noncomputable section

namespace Cert.Ffn

open Idealize.ShloMosaic Idealize.SL.Sem

theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- THE GATED CONVOLUTION BLOCK: the kernel's result array is the reference's. -/
theorem algebraic : Cert.algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨(h c).1.trans ?_, (h c).2⟩)
    (Cert.Reference2Ideal.Value.run (F := Ideal) m' ρ')
  refine (Cert.Reference2Ideal.Read.val_main_v69_eq m' c).trans ?_
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  funext i
  exact (reference_apply _ _ _ _ _ _ _ _ i).trans (array_apply m c i).symm

end Cert.Ffn

end
-- ==== Proof.InProj.lean ====
/- The input projection: what one grid point stores, the four result arrays, and the reference, entry by entry. -/
module

public import proofs.«01_k».proof.Defs
public import proofs.«01_k».proof.Proof.Norm
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.IdealHost

@[expose] public section

noncomputable section

namespace Cert.InProj

open Idealize.ShloMosaic.ValueIdx Idealize.ShloMosaic.TcCoe Idealize.SL.Sem
open Idealize.ShloMosaic hiding ix0 ix1 ix2 ix3 ix4 ix5 eq_ix3
open Cert.Norm
open scoped BigOperators

section Kernel
open Cert.Kernel3Ideal Cert.Kernel3Ideal.Gen

/-- An entry of the projection: the modulated row against a column of the weights. -/
def entry (X : FVec Ideal S4x4096x1024 .f32) (M : FVec Ideal S4x6x1024 .f32) (G : FVec Ideal S1x1024 .f32) (W : FVec Ideal S1024x2560 .bf16)
    (b : Fin 4) (t : Fin 4096) (c : Fin 2560) : EReal :=
  ∑ k : Fin 1024, modulated (fun k => X (ix3 b t k)) (fun k => G (ix2 (0 : Fin 1) k)) (fun k => M (ix3 b (1 : Fin 6) k))
    (fun k => M (ix3 b (0 : Fin 6) k)) k * W (ix2 k c)

theorem rows : RowFacts 1024 :=
  ⟨reduces_S1024x1024_S1024, shapeCasts_S1024_S1024x1, broadcasts_S1024x1_S1024x1024, broadcasts_S1x1024_S1024x1024,
    shapeCasts_S1x1024x1024_S1024x1024⟩

/-- A block of rows against `w` columns. -/
def project {F : FTy → Type} [FloatOps F] (w : ℕ) (hc : (⟨2, ![1024, w]⟩ : Shape).ShapeCasts ⟨3, ![1, 1024, w]⟩)
    (h : FVec F S1024x1024 .f32) (wt : FVec F ⟨2, ![1024, w]⟩ .bf16) : FVec F ⟨3, ![1, 1024, w]⟩ .bf16 :=
  shapeCast (⟨3, ![1, 1024, w]⟩ : Shape) (truncf .bf16 (matmul (DotDims.plain 1024 1024 w) none (truncf .bf16 h bitsLt_bf16_f32) wt
    (constant (⟨2, ![1024, w]⟩ : Shape) .f32 0x00000000#32)) bitsLt_bf16_f32) hc

theorem project_apply (w : ℕ) (hc : (⟨2, ![1024, w]⟩ : Shape).ShapeCasts ⟨3, ![1, 1024, w]⟩)
    (h : FVec Ideal S1024x1024 .f32) (wt : FVec Ideal ⟨2, ![1024, w]⟩ .bf16) (r : Fin 1024) (c : Fin w) :
    project w hc h wt (ix3 (0 : Fin 1) r c) = ∑ k : Fin 1024, h (ix2 r k) * wt (ix2 k c) := by
  unfold project
  refine (lead_apply _ hc r c).trans ?_
  rw [truncf_apply]
  refine (Ideal.matmul_plain_apply none _ _ _ r c).trans ?_
  rw [show (constant (⟨2, ![1024, w]⟩ : Shape) .f32 0x00000000#32 : FVec Ideal _ .f32) (ix2 r c) = 0 from Ideal.ofBits_zero_f32, zero_add]
  rfl

/-- The modulated rows of a grid point. -/
def hidden {F : FTy → Type} [FloatOps F] (x0 : Vec F S1x1024x1024 .f32) (x1 : Vec F S1x6x1024 .f32) (x2 : Vec F S1x1024 .f32) : FVec F S1024x1024 .f32 :=
  modBlock rows (View.ld x0 r0_0) (View.ld x2 r0_1) (View.ld x1 r0_2) (View.ld x1 r0_3) shapeCasts_S1x1x1024_S1x1024

theorem hidden_apply (x0 : Vec Ideal S1x1024x1024 .f32) (x1 : Vec Ideal S1x6x1024 .f32) (x2 : Vec Ideal S1x1024 .f32) (r k : Fin 1024) :
    hidden x0 x1 x2 (ix2 r k) = modulated (fun k => x0 (ix3 (0 : Fin 1) r k)) (fun k => x2 (ix2 (0 : Fin 1) k))
      (fun k => x1 (ix3 (0 : Fin 1) (1 : Fin 6) k)) (fun k => x1 (ix3 (0 : Fin 1) (0 : Fin 6) k)) k := by
  unfold hidden
  rw [modBlock_apply]
  have e0 : ∀ k, View.ld x0 r0_0 (ix3 (0 : Fin 1) r k) = x0 (ix3 (0 : Fin 1) r k) := fun k =>
    ld_unit_apply _ _ _ _ _ _ fun a => match a with | ⟨0, _⟩ => rfl | ⟨1, _⟩ => (Nat.zero_add _).symm | ⟨2, _⟩ => (Nat.zero_add _).symm
  have e1 : ∀ k, View.ld x2 r0_1 (ix2 (0 : Fin 1) k) = x2 (ix2 (0 : Fin 1) k) := fun k =>
    ld_unit_apply _ _ _ _ _ _ fun a => match a with | ⟨0, _⟩ => rfl | ⟨1, _⟩ => (Nat.zero_add _).symm
  have e2 : ∀ k, View.ld x1 r0_2 (ix3 (0 : Fin 1) (0 : Fin 1) k) = x1 (ix3 (0 : Fin 1) (1 : Fin 6) k) := fun k =>
    ld_unit_apply _ _ _ _ _ _ fun a => match a with | ⟨0, _⟩ => rfl | ⟨1, _⟩ => rfl | ⟨2, _⟩ => (Nat.zero_add _).symm
  have e3 : ∀ k, View.ld x1 r0_3 (ix3 (0 : Fin 1) (0 : Fin 1) k) = x1 (ix3 (0 : Fin 1) (0 : Fin 6) k) := fun k =>
    ld_unit_apply _ _ _ _ _ _ fun a => match a with | ⟨0, _⟩ => rfl | ⟨1, _⟩ => rfl | ⟨2, _⟩ => (Nat.zero_add _).symm
  rw [show (fun k => View.ld x0 r0_0 (ix3 (0 : Fin 1) r k)) = _ from funext e0, show (fun k => View.ld x2 r0_1 (ix2 (0 : Fin 1) k)) = _ from funext e1,
    show (fun k => View.ld x1 r0_2 (ix3 (0 : Fin 1) (0 : Fin 1) k)) = _ from funext e2,
    show (fun k => View.ld x1 r0_3 (ix3 (0 : Fin 1) (0 : Fin 1) k)) = _ from funext e3]

theorem offsets_zero : (![0, 0, 0] : Fin 3 → Nat) = fun _ => 0 := funext fun a => by fin_cases a <;> rfl

theorem index_x : ∀ t : Fin cfg0.N, win0_0.index t = ![(grid0.coords t 0).val, (grid0.coords t 1).val, 0] :=
  (by decide +kernel : ∀ t : Fin grid0.N, _)
theorem index_m : ∀ t : Fin cfg0.N, win0_1.index t = ![(grid0.coords t 0).val, 0, 0] :=
  (by decide +kernel : ∀ t : Fin grid0.N, _)
theorem index_g : ∀ t : Fin cfg0.N, win0_2.index t = ![0, 0] :=
  (by decide +kernel : ∀ t : Fin grid0.N, _)
theorem index_w : ∀ t : Fin cfg0.N, win0_3.index t = ![0, 0] :=
  (by decide +kernel : ∀ t : Fin grid0.N, _)

/-- A grid point's batch and its tile of rows. -/
def batchOf (t : Fin cfg0.N) : Fin 4 := grid0.coords t 0
def tileOf (t : Fin cfg0.N) : Fin 4 := grid0.coords t 1

/-- Row `r` of tile `i`, in the whole array. -/
def rowOf (i : Fin 4) (r : Fin 1024) : Fin 4096 := ⟨i.val * 1024 + r.val, by omega⟩

theorem place_x (t : Fin cfg0.N) (r a : Fin 1024) :
    (win0_0.blk t).view.emb (ix3 (0 : Fin 1) r a) = (ix3 (batchOf t) (rowOf (tileOf t) r) a : S4x4096x1024.Idx) :=
  funext fun d => Fin.ext (match d with
    | ⟨0, _⟩ => by blk_simp [index_x]; rfl
    | ⟨1, _⟩ => by blk_simp [index_x]; rfl
    | ⟨2, _⟩ => by blk_simp [index_x])
theorem place_m (t : Fin cfg0.N) (r : Fin 6) (a : Fin 1024) :
    (win0_1.blk t).view.emb (ix3 (0 : Fin 1) r a) = (ix3 (batchOf t) r a : S4x6x1024.Idx) :=
  funext fun d => Fin.ext (match d with
    | ⟨0, _⟩ => by blk_simp [index_m]; rfl
    | ⟨1, _⟩ => by blk_simp [index_m]
    | ⟨2, _⟩ => by blk_simp [index_m])
theorem place_g (t : Fin cfg0.N) (r : Fin 1) (a : Fin 1024) :
    (win0_2.blk t).view.emb (ix2 r a) = (ix2 r a : S1x1024.Idx) :=
  funext fun d => Fin.ext (match d with
    | ⟨0, _⟩ => by blk_simp [index_g]
    | ⟨1, _⟩ => by blk_simp [index_g])
theorem place_w (t : Fin cfg0.N) (r : Fin 1024) (a : Fin 2560) :
    (win0_3.blk t).view.emb (ix2 r a) = (ix2 r a : S1024x2560.Idx) :=
  funext fun d => Fin.ext (match d with
    | ⟨0, _⟩ => by blk_simp [index_w]
    | ⟨1, _⟩ => by blk_simp [index_w])

/-- Column `a` of the `n` columns from `o`. -/
def column (o n : ℕ) (h : o + n ≤ 2560) (a : Fin n) : Fin 2560 := ⟨o + a.val, by omega⟩

section Arrays
variable (m : (ℓ : Loc nD τ sig) → Buf (Elt Ideal) ℓ) (c : Dev nD)

/-- An entry of the projection of the launched arrays. -/
def result (b : Fin 4) (t : Fin 4096) (c' : Fin 2560) : EReal :=
  entry (m ((c.tc : Thread nD τ).loc main_arg0)) (m ((c.tc : Thread nD τ).loc main_arg1)) (m ((c.tc : Thread nD τ).loc main_arg2))
    (m ((c.tc : Thread nD τ).loc main_arg3)) b t c'

/-- What a grid point's blocks make of row `r` and column `c'`. -/
theorem blocks_apply (t : Fin cfg0.N) (r : Fin 1024) (c' : Fin 2560) :
    (∑ k : Fin 1024, hidden (iblk m c 0 t) (iblk m c 1 t) (iblk m c 2 t) (ix2 r k) * iblk m c 3 t (ix2 k c'))
      = result m c (batchOf t) (rowOf (tileOf t) r) c' := by
  unfold result entry
  refine Finset.sum_congr rfl fun k _ => ?_
  have e0 : ∀ k, iblk m c 0 t (ix3 (0 : Fin 1) r k) = m ((c.tc : Thread nD τ).loc main_arg0) (ix3 (batchOf t) (rowOf (tileOf t) r) k) := fun k => by
    blk_simp [iblk]; rw [place_x]
  have e1 : ∀ (a : Fin 6) k, iblk m c 1 t (ix3 (0 : Fin 1) a k) = m ((c.tc : Thread nD τ).loc main_arg1) (ix3 (batchOf t) a k) := fun a k => by
    blk_simp [iblk]; rw [place_m]
  have e2 : ∀ k, iblk m c 2 t (ix2 (0 : Fin 1) k) = m ((c.tc : Thread nD τ).loc main_arg2) (ix2 (0 : Fin 1) k) := fun k => by
    blk_simp [iblk]; rw [place_g]
  have e3 : iblk m c 3 t (ix2 k c') = m ((c.tc : Thread nD τ).loc main_arg3) (ix2 k c') := by
    blk_simp [iblk]; rw [place_w]
  refine congrArg₂ (fun a b : EReal => a * b) ((hidden_apply _ _ _ r k).trans ?_) e3
  rw [show (fun k => iblk m c 0 t (ix3 (0 : Fin 1) r k)) = _ from funext e0, show (fun k => iblk m c 2 t (ix2 (0 : Fin 1) k)) = _ from funext e2,
    show (fun k => iblk m c 1 t (ix3 (0 : Fin 1) (1 : Fin 6) k)) = _ from funext (e1 1),
    show (fun k => iblk m c 1 t (ix3 (0 : Fin 1) (0 : Fin 6) k)) = _ from funext (e1 0)]

/-! ### Columns 0 to 256 -/

theorem index4 : ∀ t : Fin cfg0.N, win0_4.index t = ![(grid0.coords t 0).val, (grid0.coords t 1).val, 0] :=
  (by decide +kernel : ∀ t : Fin grid0.N, _)
theorem place4 (t : Fin cfg0.N) (r : Fin 1024) (a : Fin 256) :
    (win0_4.blk t).view.emb (ix3 (0 : Fin 1) r a) = (ix3 (batchOf t) (rowOf (tileOf t) r) a : S4x4096x256.Idx) :=
  funext fun d => Fin.ext (match d with
    | ⟨0, _⟩ => by blk_simp [index4]; rfl
    | ⟨1, _⟩ => by blk_simp [index4]; rfl
    | ⟨2, _⟩ => by blk_simp [index4])

theorem out4_eq {F : FTy → Type} [FloatOps F] (x0 : Vec F S1x1024x1024 .f32) (x1 : Vec F S1x6x1024 .f32) (x2 : Vec F S1x1024 .f32) (x3 : Vec F S1024x2560 .bf16) :
    out0_4 x0 x1 x2 x3 = View.canon [⟨r0_5, project 256 shapeCasts_S1024x256_S1x1024x256 (hidden x0 x1 x2) (View.ld x3 r0_4)⟩] := rfl

theorem out4_apply (x0 : Vec Ideal S1x1024x1024 .f32) (x1 : Vec Ideal S1x6x1024 .f32) (x2 : Vec Ideal S1x1024 .f32) (x3 : Vec Ideal S1024x2560 .bf16)
    (r : Fin 1024) (a : Fin 256) :
    out0_4 x0 x1 x2 x3 (ix3 (0 : Fin 1) r a) = ∑ k : Fin 1024, hidden x0 x1 x2 (ix2 r k) * x3 (ix2 k (column 0 256 (by omega) a)) := by
  rw [out4_eq]
  refine (congrFun (View.canon_unit_zero (Val := Elt Ideal) offsets_zero inb_S1x1024x256_S1x1024x256_0_0_0 _) _).trans ?_
  refine (project_apply 256 _ _ _ r a).trans (Finset.sum_congr rfl fun k _ => ?_)
  refine congrArg (hidden x0 x1 x2 (ix2 r k) * ·) ?_
  exact ld_unit_apply _ _ _ _ _ _ fun a => match a with | ⟨0, _⟩ => (Nat.zero_add _).symm | ⟨1, _⟩ => rfl

theorem array4_apply (i : S4x4096x256.Idx) :
    (dats m 0 c).arrAt 4 cfg0.N i = result m c (i 0) (i 1) (column 0 256 (by omega) (i 2)) := by
  refine (dats m 0 c).arrAt_forall_of_covers 4 (fun (i : S4x4096x256.Idx) (v : EReal) => v = result m c (i 0) (i 1)
    (column 0 256 (by omega) (i 2))) (by decide +kernel) (fun t hf y => ?_) i
  blk_simp
  rw [after0_4]
  obtain ⟨r, a, rfl⟩ : ∃ (r : Fin 1024) (a : Fin 256), y = ix3 (0 : Fin 1) r a :=
    ⟨y 1, y 2, (eq_ix3 y).trans (congrArg (fun z : Fin 1 => ix3 z (y 1) (y 2)) (Subsingleton.elim _ _))⟩
  refine (out4_apply _ _ _ _ r a).trans ((blocks_apply m c t r _).trans ?_)
  exact (congrArg (fun i : S4x4096x256.Idx => result m c (i 0) (i 1) (column 0 256 (by omega) (i 2))) (place4 t r a)).symm

/-! ### Columns 256 to 1024 -/

theorem index5 : ∀ t : Fin cfg0.N, win0_5.index t = ![(grid0.coords t 0).val, (grid0.coords t 1).val, 0] :=
  (by decide +kernel : ∀ t : Fin grid0.N, _)
theorem place5 (t : Fin cfg0.N) (r : Fin 1024) (a : Fin 768) :
    (win0_5.blk t).view.emb (ix3 (0 : Fin 1) r a) = (ix3 (batchOf t) (rowOf (tileOf t) r) a : S4x4096x768.Idx) :=
  funext fun d => Fin.ext (match d with
    | ⟨0, _⟩ => by blk_simp [index5]; rfl
    | ⟨1, _⟩ => by blk_simp [index5]; rfl
    | ⟨2, _⟩ => by blk_simp [index5])

theorem out5_eq {F : FTy → Type} [FloatOps F] (x0 : Vec F S1x1024x1024 .f32) (x1 : Vec F S1x6x1024 .f32) (x2 : Vec F S1x1024 .f32) (x3 : Vec F S1024x2560 .bf16) :
    out0_5 x0 x1 x2 x3 = View.canon [⟨r0_7, project 768 shapeCasts_S1024x768_S1x1024x768 (hidden x0 x1 x2) (View.ld x3 r0_6)⟩] := rfl

theorem out5_apply (x0 : Vec Ideal S1x1024x1024 .f32) (x1 : Vec Ideal S1x6x1024 .f32) (x2 : Vec Ideal S1x1024 .f32) (x3 : Vec Ideal S1024x2560 .bf16)
    (r : Fin 1024) (a : Fin 768) :
    out0_5 x0 x1 x2 x3 (ix3 (0 : Fin 1) r a) = ∑ k : Fin 1024, hidden x0 x1 x2 (ix2 r k) * x3 (ix2 k (column 256 768 (by omega) a)) := by
  rw [out5_eq]
  refine (congrFun (View.canon_unit_zero (Val := Elt Ideal) offsets_zero inb_S1x1024x768_S1x1024x768_0_0_0 _) _).trans ?_
  refine (project_apply 768 _ _ _ r a).trans (Finset.sum_congr rfl fun k _ => ?_)
  refine congrArg (hidden x0 x1 x2 (ix2 r k) * ·) ?_
  exact ld_unit_apply _ _ _ _ _ _ fun a => match a with | ⟨0, _⟩ => (Nat.zero_add _).symm | ⟨1, _⟩ => rfl

theorem array5_apply (i : S4x4096x768.Idx) :
    (dats m 0 c).arrAt 5 cfg0.N i = result m c (i 0) (i 1) (column 256 768 (by omega) (i 2)) := by
  refine (dats m 0 c).arrAt_forall_of_covers 5 (fun (i : S4x4096x768.Idx) (v : EReal) => v = result m c (i 0) (i 1)
    (column 256 768 (by omega) (i 2))) (by decide +kernel) (fun t hf y => ?_) i
  blk_simp
  rw [after0_5]
  obtain ⟨r, a, rfl⟩ : ∃ (r : Fin 1024) (a : Fin 768), y = ix3 (0 : Fin 1) r a :=
    ⟨y 1, y 2, (eq_ix3 y).trans (congrArg (fun z : Fin 1 => ix3 z (y 1) (y 2)) (Subsingleton.elim _ _))⟩
  refine (out5_apply _ _ _ _ r a).trans ((blocks_apply m c t r _).trans ?_)
  exact (congrArg (fun i : S4x4096x768.Idx => result m c (i 0) (i 1) (column 256 768 (by omega) (i 2))) (place5 t r a)).symm

/-! ### Columns 1024 to 2048 -/

theorem index6 : ∀ t : Fin cfg0.N, win0_6.index t = ![(grid0.coords t 0).val, (grid0.coords t 1).val, 0] :=
  (by decide +kernel : ∀ t : Fin grid0.N, _)
theorem place6 (t : Fin cfg0.N) (r : Fin 1024) (a : Fin 1024) :
    (win0_6.blk t).view.emb (ix3 (0 : Fin 1) r a) = (ix3 (batchOf t) (rowOf (tileOf t) r) a : S4x4096x1024.Idx) :=
  funext fun d => Fin.ext (match d with
    | ⟨0, _⟩ => by blk_simp [index6]; rfl
    | ⟨1, _⟩ => by blk_simp [index6]; rfl
    | ⟨2, _⟩ => by blk_simp [index6])

theorem out6_eq {F : FTy → Type} [FloatOps F] (x0 : Vec F S1x1024x1024 .f32) (x1 : Vec F S1x6x1024 .f32) (x2 : Vec F S1x1024 .f32) (x3 : Vec F S1024x2560 .bf16) :
    out0_6 x0 x1 x2 x3 = View.canon [⟨r0_0, project 1024 shapeCasts_S1024x1024_S1x1024x1024 (hidden x0 x1 x2) (View.ld x3 r0_8)⟩] := rfl

theorem out6_apply (x0 : Vec Ideal S1x1024x1024 .f32) (x1 : Vec Ideal S1x6x1024 .f32) (x2 : Vec Ideal S1x1024 .f32) (x3 : Vec Ideal S1024x2560 .bf16)
    (r : Fin 1024) (a : Fin 1024) :
    out0_6 x0 x1 x2 x3 (ix3 (0 : Fin 1) r a) = ∑ k : Fin 1024, hidden x0 x1 x2 (ix2 r k) * x3 (ix2 k (column 1024 1024 (by omega) a)) := by
  rw [out6_eq]
  refine (congrFun (View.canon_unit_zero (Val := Elt Ideal) offsets_zero inb_S1x1024x1024_S1x1024x1024_0_0_0 _) _).trans ?_
  refine (project_apply 1024 _ _ _ r a).trans (Finset.sum_congr rfl fun k _ => ?_)
  refine congrArg (hidden x0 x1 x2 (ix2 r k) * ·) ?_
  exact ld_unit_apply _ _ _ _ _ _ fun a => match a with | ⟨0, _⟩ => (Nat.zero_add _).symm | ⟨1, _⟩ => rfl

theorem array6_apply (i : S4x4096x1024.Idx) :
    (dats m 0 c).arrAt 6 cfg0.N i = result m c (i 0) (i 1) (column 1024 1024 (by omega) (i 2)) := by
  refine (dats m 0 c).arrAt_forall_of_covers 6 (fun (i : S4x4096x1024.Idx) (v : EReal) => v = result m c (i 0) (i 1)
    (column 1024 1024 (by omega) (i 2))) (by decide +kernel) (fun t hf y => ?_) i
  blk_simp
  rw [after0_6]
  obtain ⟨r, a, rfl⟩ : ∃ (r : Fin 1024) (a : Fin 1024), y = ix3 (0 : Fin 1) r a :=
    ⟨y 1, y 2, (eq_ix3 y).trans (congrArg (fun z : Fin 1 => ix3 z (y 1) (y 2)) (Subsingleton.elim _ _))⟩
  refine (out6_apply _ _ _ _ r a).trans ((blocks_apply m c t r _).trans ?_)
  exact (congrArg (fun i : S4x4096x1024.Idx => result m c (i 0) (i 1) (column 1024 1024 (by omega) (i 2))) (place6 t r a)).symm

/-! ### Columns 2048 to 2560 -/

theorem index7 : ∀ t : Fin cfg0.N, win0_7.index t = ![(grid0.coords t 0).val, (grid0.coords t 1).val, 0] :=
  (by decide +kernel : ∀ t : Fin grid0.N, _)
theorem place7 (t : Fin cfg0.N) (r : Fin 1024) (a : Fin 512) :
    (win0_7.blk t).view.emb (ix3 (0 : Fin 1) r a) = (ix3 (batchOf t) (rowOf (tileOf t) r) a : S4x4096x512.Idx) :=
  funext fun d => Fin.ext (match d with
    | ⟨0, _⟩ => by blk_simp [index7]; rfl
    | ⟨1, _⟩ => by blk_simp [index7]; rfl
    | ⟨2, _⟩ => by blk_simp [index7])

theorem out7_eq {F : FTy → Type} [FloatOps F] (x0 : Vec F S1x1024x1024 .f32) (x1 : Vec F S1x6x1024 .f32) (x2 : Vec F S1x1024 .f32) (x3 : Vec F S1024x2560 .bf16) :
    out0_7 x0 x1 x2 x3 = View.canon [⟨r0_10, project 512 shapeCasts_S1024x512_S1x1024x512 (hidden x0 x1 x2) (View.ld x3 r0_9)⟩] := rfl

theorem out7_apply (x0 : Vec Ideal S1x1024x1024 .f32) (x1 : Vec Ideal S1x6x1024 .f32) (x2 : Vec Ideal S1x1024 .f32) (x3 : Vec Ideal S1024x2560 .bf16)
    (r : Fin 1024) (a : Fin 512) :
    out0_7 x0 x1 x2 x3 (ix3 (0 : Fin 1) r a) = ∑ k : Fin 1024, hidden x0 x1 x2 (ix2 r k) * x3 (ix2 k (column 2048 512 (by omega) a)) := by
  rw [out7_eq]
  refine (congrFun (View.canon_unit_zero (Val := Elt Ideal) offsets_zero inb_S1x1024x512_S1x1024x512_0_0_0 _) _).trans ?_
  refine (project_apply 512 _ _ _ r a).trans (Finset.sum_congr rfl fun k _ => ?_)
  refine congrArg (hidden x0 x1 x2 (ix2 r k) * ·) ?_
  exact ld_unit_apply _ _ _ _ _ _ fun a => match a with | ⟨0, _⟩ => (Nat.zero_add _).symm | ⟨1, _⟩ => rfl

theorem array7_apply (i : S4x4096x512.Idx) :
    (dats m 0 c).arrAt 7 cfg0.N i = result m c (i 0) (i 1) (column 2048 512 (by omega) (i 2)) := by
  refine (dats m 0 c).arrAt_forall_of_covers 7 (fun (i : S4x4096x512.Idx) (v : EReal) => v = result m c (i 0) (i 1)
    (column 2048 512 (by omega) (i 2))) (by decide +kernel) (fun t hf y => ?_) i
  blk_simp
  rw [after0_7]
  obtain ⟨r, a, rfl⟩ : ∃ (r : Fin 1024) (a : Fin 512), y = ix3 (0 : Fin 1) r a :=
    ⟨y 1, y 2, (eq_ix3 y).trans (congrArg (fun z : Fin 1 => ix3 z (y 1) (y 2)) (Subsingleton.elim _ _))⟩
  refine (out7_apply _ _ _ _ r a).trans ((blocks_apply m c t r _).trans ?_)
  exact (congrArg (fun i : S4x4096x512.Idx => result m c (i 0) (i 1) (column 2048 512 (by omega) (i 2))) (place7 t r a)).symm

end Arrays

end Kernel

section Reference
open Cert.Reference3Ideal Cert.Reference3Ideal.Gen Cert.Reference3Ideal.Read
variable (X : FVec Ideal S4x4096x1024 .f32) (M : FVec Ideal S4x6x1024 .f32) (G : FVec Ideal S1x1024 .f32) (W : FVec Ideal S1024x2560 .bf16)

/-- The reference's modulated rows. -/
theorem reference_hidden (i : S4x4096x1024.Idx) :
    val_main_v21 (F := Ideal) X M G i = modulated (fun k => X (ix3 (i 0) (i 1) k)) (fun k => G (ix2 (0 : Fin 1) k))
      (fun k => M (ix3 (i 0) (1 : Fin 6) k)) (fun k => M (ix3 (i 0) (0 : Fin 6) k)) (i 2) := by
  have hr : ∀ k : Fin 1024, idx_main_v2 (idx_main_v3 (idx_main_v9 i)) k = ix3 (i 0) (i 1) k := fun k =>
    funext fun a => match a with | ⟨0, _⟩ => rfl | ⟨1, _⟩ => rfl | ⟨2, _⟩ => rfl
  have hi : i = ix3 (i 0) (i 1) (i 2) := eq_ix3 i
  have hg : idx_main_v0 (idx_main_v11 (idx_main_v12 i)) = ix2 (0 : Fin 1) (i 2) := by
    funext a
    refine Fin.ext ?_
    match a with
    | ⟨0, _⟩ => rfl
    | ⟨1, _⟩ => exact Nat.mod_eq_of_lt (i 2).isLt
  have hs : idx_main_v15 (idx_main_v18 i) = ix3 (i 0) (1 : Fin 6) (i 2) :=
    funext fun a => match a with | ⟨0, _⟩ => rfl | ⟨1, _⟩ => rfl | ⟨2, _⟩ => rfl
  have hh : idx_main_v14 (idx_main_v20 i) = ix3 (i 0) (0 : Fin 6) (i 2) :=
    funext fun a => match a with | ⟨0, _⟩ => rfl | ⟨1, _⟩ => rfl | ⟨2, _⟩ => rfl
  rw [val_main_v21_apply, val_main_v20_apply, val_main_v14_apply, hh, val_main_v19_apply, val_main_v18_apply, val_main_v17_apply,
    val_main_v16_apply, val_main_cst_2_apply, val_main_v15_apply, hs, val_main_v13_apply, val_main_v12_apply, val_main_v11_apply,
    val_main_v0_apply, hg, val_main_v10_apply, val_main_v9_apply, val_main_v8_apply, val_main_v7_apply, val_main_v6_apply,
    val_main_cst_1_apply, val_main_v5_apply, val_main_v4_apply, val_main_cst_0_apply, val_main_v3_apply, val_main_v2_apply,
    val_main_cst_apply]
  simp only [val_main_v1_apply, hr, Ideal.addf_def, Ideal.mulf_def, Ideal.hostDivf_def, Ideal.hostUnary_rsqrt_def]
  rw [show (FloatOps.ofBits .f32 0x00000000#32 : Ideal .f32) = 0 from Ideal.ofBits_zero_f32, zero_add, congrArg X hi]
  rfl

/-- The reference's projection, before it is cut. -/
theorem reference_apply (i : S4x4096x2560.Idx) :
    val_main_v23 (F := Ideal) X M G W i = entry X M G W (i 0) (i 1) (i 2) := by
  rw [val_main_v23_apply]
  unfold entry
  refine Finset.sum_congr rfl fun k _ => ?_
  rw [reference_hidden, val_main_v22_apply]
  exact congrArg₂ (fun a b : EReal => a * b) rfl
    (congrArg W (funext fun a => match a with | ⟨0, _⟩ => rfl | ⟨1, _⟩ => rfl))

end Reference

theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

/-- THE INPUT PROJECTION: the kernel's four result arrays are the reference's. -/
theorem algebraic : Cert.algebraic_Kernel3Ideal_Reference3Ideal := by
  intro m ρ m' ρ' _ hagree
  refine ⟨_, _, _, _, Cert.Kernel3Ideal.Value.run_blocks (F := Ideal) m ρ, ?_⟩
  refine (θ_run Cert.Reference3Ideal.defs _ _).mono (fun _ h c => ⟨(h c).1.trans ?_, (h c).2.1.trans ?_, (h c).2.2.1.trans ?_, (h c).2.2.2.1.trans ?_, (h c).2.2.2.2⟩)
    (Cert.Reference3Ideal.Value.run (F := Ideal) m' ρ')
  all_goals rw [(hagree c).1, (hagree c).2.1, (hagree c).2.2.1, (hagree c).2.2.2]
  · refine (Cert.Reference3Ideal.Read.val_main_v28_eq _ _ _ _).trans (funext fun i => ?_)
    refine (Cert.Reference3Ideal.Read.val_main_v28_apply _ _ _ _ i).trans ?_
    refine ((Cert.Reference3Ideal.Read.val_main_v24_apply _ _ _ _ i).trans (reference_apply _ _ _ _ _)).trans ((array4_apply m c i).trans ?_).symm
    exact congrArg (result m c (i 0) (i 1)) (Fin.ext (Nat.zero_add _))
  · refine (Cert.Reference3Ideal.Read.val_main_v29_eq _ _ _ _).trans (funext fun i => ?_)
    refine (Cert.Reference3Ideal.Read.val_main_v29_apply _ _ _ _ i).trans ?_
    refine ((Cert.Reference3Ideal.Read.val_main_v25_apply _ _ _ _ i).trans (reference_apply _ _ _ _ _)).trans ((array5_apply m c i).trans ?_).symm
    exact congrArg (result m c (i 0) (i 1)) (Fin.ext rfl)
  · refine (Cert.Reference3Ideal.Read.val_main_v30_eq _ _ _ _).trans (funext fun i => ?_)
    refine (Cert.Reference3Ideal.Read.val_main_v30_apply _ _ _ _ i).trans ?_
    refine ((Cert.Reference3Ideal.Read.val_main_v26_apply _ _ _ _ i).trans (reference_apply _ _ _ _ _)).trans ((array6_apply m c i).trans ?_).symm
    exact congrArg (result m c (i 0) (i 1)) (Fin.ext rfl)
  · refine (Cert.Reference3Ideal.Read.val_main_v31_eq _ _ _ _).trans (funext fun i => ?_)
    refine (Cert.Reference3Ideal.Read.val_main_v31_apply _ _ _ _ i).trans ?_
    refine ((Cert.Reference3Ideal.Read.val_main_v27_apply _ _ _ _ i).trans (reference_apply _ _ _ _ _)).trans ((array7_apply m c i).trans ?_).symm
    exact congrArg (result m c (i 0) (i 1)) (Fin.ext rfl)

end Cert.InProj

end
-- ==== Proof.OutProj.lean ====
/- The output projection: what one grid point stores, the result array, and the reference, entry by entry. -/
module

public import proofs.«01_k».proof.Defs
public import proofs.«01_k».proof.Proof.Norm
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.IdealHost

@[expose] public section

noncomputable section

namespace Cert.OutProj

open Idealize.ShloMosaic.ValueIdx Idealize.ShloMosaic.TcCoe Idealize.SL.Sem
open Idealize.ShloMosaic hiding ix0 ix1 ix2 ix3 ix4 ix5 eq_ix3
open Cert.Norm
open scoped BigOperators

section Kernel
open Cert.Kernel4Ideal Cert.Kernel4Ideal.Gen

/-- Row `d` of the `h`-th quarter of the weights. -/
def quarter (h : Fin 4) (d : Fin 256) : Fin 1024 := ⟨256 * h.val + d.val, by omega⟩

/-- A row of the four pieces against column `n` of the weights. -/
def joined (Y : Fin 4 → Fin 256 → EReal) (W : Fin 1024 → Fin 1024 → EReal) (n : Fin 1024) : EReal :=
  ∑ h : Fin 4, ∑ d : Fin 256, Y h d * W (quarter h d) n

/-- An entry of the result: the stream plus the scaled, normalized projection. -/
def entry (Y : Fin 4 → FVec Ideal S4x4096x256 .bf16) (W : FVec Ideal S1024x1024 .bf16) (X : FVec Ideal S4x4096x1024 .f32)
    (M : FVec Ideal S4x6x1024 .f32) (G : FVec Ideal S1x1024 .f32) (b : Fin 4) (t : Fin 4096) (n : Fin 1024) : EReal :=
  X (ix3 b t n) + M (ix3 b (2 : Fin 6) n)
    * rms (joined (fun h d => Y h (ix3 b t d)) (fun k n => W (ix2 k n))) (fun k => G (ix2 (0 : Fin 1) k)) n

theorem rows : RowFacts 1024 :=
  ⟨reduces_S1024x1024_S1024, shapeCasts_S1024_S1024x1, broadcasts_S1024x1_S1024x1024, broadcasts_S1x1024_S1024x1024,
    shapeCasts_S1x1024x1024_S1024x1024⟩

/-- One piece against its quarter of the weights. -/
def piece {F : FTy → Type} [FloatOps F] (y : FVec F S1x1024x256 .bf16) (w : FVec F S256x1024 .bf16) : FVec F S1024x1024 .f32 :=
  matmul (DotDims.plain 1024 256 1024) none (shapeCast S1024x256 y shapeCasts_S1x1024x256_S1024x256) w (constant S1024x1024 .f32 0x00000000#32)

theorem piece_apply (y : FVec Ideal S1x1024x256 .bf16) (w : FVec Ideal S256x1024 .bf16) (r n : Fin 1024) :
    piece y w (ix2 r n) = ∑ d : Fin 256, y (ix3 (0 : Fin 1) r d) * w (ix2 d n) := by
  unfold piece
  refine (Ideal.matmul_plain_apply none _ _ _ r n).trans ?_
  rw [show (constant S1024x1024 .f32 0x00000000#32 : FVec Ideal _ .f32) (ix2 r n) = 0 from Ideal.ofBits_zero_f32, zero_add]
  exact Finset.sum_congr rfl fun d _ => congrArg (fun a : EReal => a * w (ix2 d n)) (unlead_apply y _ r d)

/-- The projected rows of a grid point. -/
def projected {F : FTy → Type} [FloatOps F] (x0 x1 x2 x3 : Vec F S1x1024x256 .bf16) (x4 : Vec F S1024x1024 .bf16) : FVec F S1024x1024 .f32 :=
  addf (addf (addf (piece (View.ld x0 r0_0) (View.ld x4 r0_1)) (piece (View.ld x1 r0_0) (View.ld x4 r0_2)))
    (piece (View.ld x2 r0_0) (View.ld x4 r0_3))) (piece (View.ld x3 r0_0) (View.ld x4 r0_4))

theorem projected_apply (x0 x1 x2 x3 : Vec Ideal S1x1024x256 .bf16) (x4 : Vec Ideal S1024x1024 .bf16) (r n : Fin 1024) :
    projected x0 x1 x2 x3 x4 (ix2 r n)
      = joined (fun h d => (![x0, x1, x2, x3] h : S1x1024x256.Idx → EReal) (ix3 (0 : Fin 1) r d)) (fun k n => x4 (ix2 k n)) n := by
  have ey : ∀ (x : Vec Ideal S1x1024x256 .bf16) (d : Fin 256), View.ld x r0_0 (ix3 (0 : Fin 1) r d) = x (ix3 (0 : Fin 1) r d) := fun x d =>
    ld_unit_apply _ _ _ _ _ _ fun a => match a with | ⟨0, _⟩ => rfl | ⟨1, _⟩ => (Nat.zero_add _).symm | ⟨2, _⟩ => (Nat.zero_add _).symm
  have e1 : ∀ d : Fin 256, View.ld x4 r0_1 (ix2 d n) = x4 (ix2 (quarter 0 d) n) := fun d =>
    ld_unit_apply _ _ _ _ _ _ fun a => match a with | ⟨0, _⟩ => rfl | ⟨1, _⟩ => (Nat.zero_add _).symm
  have e2 : ∀ d : Fin 256, View.ld x4 r0_2 (ix2 d n) = x4 (ix2 (quarter 1 d) n) := fun d =>
    ld_unit_apply _ _ _ _ _ _ fun a => match a with | ⟨0, _⟩ => rfl | ⟨1, _⟩ => (Nat.zero_add _).symm
  have e3 : ∀ d : Fin 256, View.ld x4 r0_3 (ix2 d n) = x4 (ix2 (quarter 2 d) n) := fun d =>
    ld_unit_apply _ _ _ _ _ _ fun a => match a with | ⟨0, _⟩ => rfl | ⟨1, _⟩ => (Nat.zero_add _).symm
  have e4 : ∀ d : Fin 256, View.ld x4 r0_4 (ix2 d n) = x4 (ix2 (quarter 3 d) n) := fun d =>
    ld_unit_apply _ _ _ _ _ _ fun a => match a with | ⟨0, _⟩ => rfl | ⟨1, _⟩ => (Nat.zero_add _).symm
  unfold projected joined
  rw [addf_apply, addf_apply, addf_apply, piece_apply, piece_apply, piece_apply, piece_apply, Fin.sum_univ_four]
  exact congrArg₂ (fun a b : EReal => a + b) (congrArg₂ (fun a b : EReal => a + b) (congrArg₂ (fun a b : EReal => a + b)
    (Finset.sum_congr rfl fun d _ => congrArg₂ (fun a b : EReal => a * b) (ey x0 d) (e1 d))
    (Finset.sum_congr rfl fun d _ => congrArg₂ (fun a b : EReal => a * b) (ey x1 d) (e2 d)))
    (Finset.sum_congr rfl fun d _ => congrArg₂ (fun a b : EReal => a * b) (ey x2 d) (e3 d)))
    (Finset.sum_congr rfl fun d _ => congrArg₂ (fun a b : EReal => a * b) (ey x3 d) (e4 d))

/-- The block a grid point stores. -/
def stored {F : FTy → Type} [FloatOps F] (x0 x1 x2 x3 : Vec F S1x1024x256 .bf16) (x4 : Vec F S1024x1024 .bf16) (x5 : Vec F S1x1024x1024 .f32)
    (x6 : Vec F S1x6x1024 .f32) (x7 : Vec F S1x1024 .f32) : FVec F S1x1024x1024 .f32 :=
  shapeCast S1x1024x1024 (addf (shapeCast S1024x1024 (View.ld x5 r0_5) shapeCasts_S1x1024x1024_S1024x1024)
    (mulf (broadcastTo S1024x1024 (shapeCast S1x1024 (View.ld x6 r0_6) shapeCasts_S1x1x1024_S1x1024) broadcasts_S1x1024_S1024x1024)
      (rmsBlock rows (projected x0 x1 x2 x3 x4) (View.ld x7 r0_7)))) shapeCasts_S1024x1024_S1x1024x1024

theorem out8_eq {F : FTy → Type} [FloatOps F] (x0 x1 x2 x3 : Vec F S1x1024x256 .bf16) (x4 : Vec F S1024x1024 .bf16) (x5 : Vec F S1x1024x1024 .f32)
    (x6 : Vec F S1x6x1024 .f32) (x7 : Vec F S1x1024 .f32) :
    out0_8 x0 x1 x2 x3 x4 x5 x6 x7 = View.canon [⟨r0_5, stored x0 x1 x2 x3 x4 x5 x6 x7⟩] := rfl

theorem offsets_zero : (![0, 0, 0] : Fin 3 → Nat) = fun _ => 0 := funext fun a => by fin_cases a <;> rfl

theorem out8_apply (x0 x1 x2 x3 : Vec Ideal S1x1024x256 .bf16) (x4 : Vec Ideal S1024x1024 .bf16) (x5 : Vec Ideal S1x1024x1024 .f32)
    (x6 : Vec Ideal S1x6x1024 .f32) (x7 : Vec Ideal S1x1024 .f32) (r n : Fin 1024) :
    out0_8 x0 x1 x2 x3 x4 x5 x6 x7 (ix3 (0 : Fin 1) r n)
      = x5 (ix3 (0 : Fin 1) r n) + x6 (ix3 (0 : Fin 1) (2 : Fin 6) n)
        * rms (joined (fun h d => (![x0, x1, x2, x3] h : S1x1024x256.Idx → EReal) (ix3 (0 : Fin 1) r d)) (fun k n => x4 (ix2 k n)))
          (fun k => x7 (ix2 (0 : Fin 1) k)) n := by
  have e5 : View.ld x5 r0_5 (ix3 (0 : Fin 1) r n) = x5 (ix3 (0 : Fin 1) r n) :=
    ld_unit_apply _ _ _ _ _ _ fun a => match a with | ⟨0, _⟩ => rfl | ⟨1, _⟩ => (Nat.zero_add _).symm | ⟨2, _⟩ => (Nat.zero_add _).symm
  have e6 : View.ld x6 r0_6 (ix3 (0 : Fin 1) (0 : Fin 1) n) = x6 (ix3 (0 : Fin 1) (2 : Fin 6) n) :=
    ld_unit_apply _ _ _ _ _ _ fun a => match a with | ⟨0, _⟩ => rfl | ⟨1, _⟩ => rfl | ⟨2, _⟩ => (Nat.zero_add _).symm
  have e7 : ∀ k, View.ld x7 r0_7 (ix2 (0 : Fin 1) k) = x7 (ix2 (0 : Fin 1) k) := fun k =>
    ld_unit_apply _ _ _ _ _ _ fun a => match a with | ⟨0, _⟩ => rfl | ⟨1, _⟩ => (Nat.zero_add _).symm
  rw [out8_eq]
  refine (congrFun (View.canon_unit_zero (Val := Elt Ideal) offsets_zero inb_S1x1024x1024_S1x1024x1024_0_0_0 _) _).trans ?_
  unfold stored
  refine (lead_apply _ _ r n).trans ?_
  rw [addf_apply, mulf_apply]
  refine congrArg₂ (fun a b : EReal => a + b) ((unlead_apply _ _ r n).trans e5) (congrArg₂ (fun a b : EReal => a * b) ?_ ?_)
  · exact (down_apply _ _ r n).trans ((unlead_apply _ _ (0 : Fin 1) n).trans e6)
  · refine (rmsBlock_apply rows _ _ r n).trans ?_
    rw [show (fun k => projected x0 x1 x2 x3 x4 (ix2 r k)) = _ from funext (projected_apply x0 x1 x2 x3 x4 r),
      show (fun k => View.ld x7 r0_7 (ix2 (0 : Fin 1) k)) = _ from funext e7]

/-- A grid point's batch and its tile of rows. -/
def batchOf (t : Fin cfg0.N) : Fin 4 := grid0.coords t 0
def tileOf (t : Fin cfg0.N) : Fin 4 := grid0.coords t 1

/-- Row `r` of tile `i`, in the whole array. -/
def rowOf (i : Fin 4) (r : Fin 1024) : Fin 4096 := ⟨i.val * 1024 + r.val, by omega⟩

theorem index0 : ∀ t : Fin cfg0.N, win0_0.index t = ![(grid0.coords t 0).val, (grid0.coords t 1).val, 0] :=
  (by decide +kernel : ∀ t : Fin grid0.N, _)
theorem place0 (t : Fin cfg0.N) (r : Fin 1024) (a : Fin 256) :
    (win0_0.blk t).view.emb (ix3 (0 : Fin 1) r a) = (ix3 (batchOf t) (rowOf (tileOf t) r) a : S4x4096x256.Idx) :=
  funext fun d => Fin.ext (match d with
    | ⟨0, _⟩ => by blk_simp [index0]; rfl
    | ⟨1, _⟩ => by blk_simp [index0]; rfl
    | ⟨2, _⟩ => by blk_simp [index0])

theorem index1 : ∀ t : Fin cfg0.N, win0_1.index t = ![(grid0.coords t 0).val, (grid0.coords t 1).val, 0] :=
  (by decide +kernel : ∀ t : Fin grid0.N, _)
theorem place1 (t : Fin cfg0.N) (r : Fin 1024) (a : Fin 256) :
    (win0_1.blk t).view.emb (ix3 (0 : Fin 1) r a) = (ix3 (batchOf t) (rowOf (tileOf t) r) a : S4x4096x256.Idx) :=
  funext fun d => Fin.ext (match d with
    | ⟨0, _⟩ => by blk_simp [index1]; rfl
    | ⟨1, _⟩ => by blk_simp [index1]; rfl
    | ⟨2, _⟩ => by blk_simp [index1])

theorem index2 : ∀ t : Fin cfg0.N, win0_2.index t = ![(grid0.coords t 0).val, (grid0.coords t 1).val, 0] :=
  (by decide +kernel : ∀ t : Fin grid0.N, _)
theorem place2 (t : Fin cfg0.N) (r : Fin 1024) (a : Fin 256) :
    (win0_2.blk t).view.emb (ix3 (0 : Fin 1) r a) = (ix3 (batchOf t) (rowOf (tileOf t) r) a : S4x4096x256.Idx) :=
  funext fun d => Fin.ext (match d with
    | ⟨0, _⟩ => by blk_simp [index2]; rfl
    | ⟨1, _⟩ => by blk_simp [index2]; rfl
    | ⟨2, _⟩ => by blk_simp [index2])

theorem index3 : ∀ t : Fin cfg0.N, win0_3.index t = ![(grid0.coords t 0).val, (grid0.coords t 1).val, 0] :=
  (by decide +kernel : ∀ t : Fin grid0.N, _)
theorem place3 (t : Fin cfg0.N) (r : Fin 1024) (a : Fin 256) :
    (win0_3.blk t).view.emb (ix3 (0 : Fin 1) r a) = (ix3 (batchOf t) (rowOf (tileOf t) r) a : S4x4096x256.Idx) :=
  funext fun d => Fin.ext (match d with
    | ⟨0, _⟩ => by blk_simp [index3]; rfl
    | ⟨1, _⟩ => by blk_simp [index3]; rfl
    | ⟨2, _⟩ => by blk_simp [index3])

theorem index5 : ∀ t : Fin cfg0.N, win0_5.index t = ![(grid0.coords t 0).val, (grid0.coords t 1).val, 0] :=
  (by decide +kernel : ∀ t : Fin grid0.N, _)
theorem place5 (t : Fin cfg0.N) (r : Fin 1024) (a : Fin 1024) :
    (win0_5.blk t).view.emb (ix3 (0 : Fin 1) r a) = (ix3 (batchOf t) (rowOf (tileOf t) r) a : S4x4096x1024.Idx) :=
  funext fun d => Fin.ext (match d with
    | ⟨0, _⟩ => by blk_simp [index5]; rfl
    | ⟨1, _⟩ => by blk_simp [index5]; rfl
    | ⟨2, _⟩ => by blk_simp [index5])

theorem index8 : ∀ t : Fin cfg0.N, win0_8.index t = ![(grid0.coords t 0).val, (grid0.coords t 1).val, 0] :=
  (by decide +kernel : ∀ t : Fin grid0.N, _)
theorem place8 (t : Fin cfg0.N) (r : Fin 1024) (a : Fin 1024) :
    (win0_8.blk t).view.emb (ix3 (0 : Fin 1) r a) = (ix3 (batchOf t) (rowOf (tileOf t) r) a : S4x4096x1024.Idx) :=
  funext fun d => Fin.ext (match d with
    | ⟨0, _⟩ => by blk_simp [index8]; rfl
    | ⟨1, _⟩ => by blk_simp [index8]; rfl
    | ⟨2, _⟩ => by blk_simp [index8])

theorem index4 : ∀ t : Fin cfg0.N, win0_4.index t = ![0, 0] :=
  (by decide +kernel : ∀ t : Fin grid0.N, _)
theorem index6 : ∀ t : Fin cfg0.N, win0_6.index t = ![(grid0.coords t 0).val, 0, 0] :=
  (by decide +kernel : ∀ t : Fin grid0.N, _)
theorem index7 : ∀ t : Fin cfg0.N, win0_7.index t = ![0, 0] :=
  (by decide +kernel : ∀ t : Fin grid0.N, _)
theorem place4 (t : Fin cfg0.N) (r a : Fin 1024) :
    (win0_4.blk t).view.emb (ix2 r a) = (ix2 r a : S1024x1024.Idx) :=
  funext fun d => Fin.ext (match d with
    | ⟨0, _⟩ => by blk_simp [index4]
    | ⟨1, _⟩ => by blk_simp [index4])
theorem place6 (t : Fin cfg0.N) (r : Fin 6) (a : Fin 1024) :
    (win0_6.blk t).view.emb (ix3 (0 : Fin 1) r a) = (ix3 (batchOf t) r a : S4x6x1024.Idx) :=
  funext fun d => Fin.ext (match d with
    | ⟨0, _⟩ => by blk_simp [index6]; rfl
    | ⟨1, _⟩ => by blk_simp [index6]
    | ⟨2, _⟩ => by blk_simp [index6])
theorem place7 (t : Fin cfg0.N) (r : Fin 1) (a : Fin 1024) :
    (win0_7.blk t).view.emb (ix2 r a) = (ix2 r a : S1x1024.Idx) :=
  funext fun d => Fin.ext (match d with
    | ⟨0, _⟩ => by blk_simp [index7]
    | ⟨1, _⟩ => by blk_simp [index7])

section Arrays
variable (m : (ℓ : Loc nD τ sig) → Buf (Elt Ideal) ℓ) (c : Dev nD)

/-- An entry of the result of the launched arrays. -/
def result (b : Fin 4) (t : Fin 4096) (n : Fin 1024) : EReal :=
  entry ![m ((c.tc : Thread nD τ).loc main_arg0), m ((c.tc : Thread nD τ).loc main_arg1), m ((c.tc : Thread nD τ).loc main_arg2),
    m ((c.tc : Thread nD τ).loc main_arg3)] (m ((c.tc : Thread nD τ).loc main_arg4)) (m ((c.tc : Thread nD τ).loc main_arg5))
    (m ((c.tc : Thread nD τ).loc main_arg6)) (m ((c.tc : Thread nD τ).loc main_arg7)) b t n

/-- What a grid point stores, in the launched arrays' terms. -/
theorem blocks_apply (t : Fin cfg0.N) (r n : Fin 1024) :
    out0_8 (iblk m c 0 t) (iblk m c 1 t) (iblk m c 2 t) (iblk m c 3 t) (iblk m c 4 t) (iblk m c 5 t) (iblk m c 6 t) (iblk m c 7 t)
      (ix3 (0 : Fin 1) r n) = result m c (batchOf t) (rowOf (tileOf t) r) n := by
  have e0 : ∀ d, iblk m c 0 t (ix3 (0 : Fin 1) r d) = m ((c.tc : Thread nD τ).loc main_arg0) (ix3 (batchOf t) (rowOf (tileOf t) r) d) := fun d => by
    blk_simp [iblk]; rw [place0]
  have e1 : ∀ d, iblk m c 1 t (ix3 (0 : Fin 1) r d) = m ((c.tc : Thread nD τ).loc main_arg1) (ix3 (batchOf t) (rowOf (tileOf t) r) d) := fun d => by
    blk_simp [iblk]; rw [place1]
  have e2 : ∀ d, iblk m c 2 t (ix3 (0 : Fin 1) r d) = m ((c.tc : Thread nD τ).loc main_arg2) (ix3 (batchOf t) (rowOf (tileOf t) r) d) := fun d => by
    blk_simp [iblk]; rw [place2]
  have e3 : ∀ d, iblk m c 3 t (ix3 (0 : Fin 1) r d) = m ((c.tc : Thread nD τ).loc main_arg3) (ix3 (batchOf t) (rowOf (tileOf t) r) d) := fun d => by
    blk_simp [iblk]; rw [place3]
  have e4 : ∀ k n, iblk m c 4 t (ix2 k n) = m ((c.tc : Thread nD τ).loc main_arg4) (ix2 k n) := fun k n => by
    blk_simp [iblk]; rw [place4]
  have e5 : iblk m c 5 t (ix3 (0 : Fin 1) r n) = m ((c.tc : Thread nD τ).loc main_arg5) (ix3 (batchOf t) (rowOf (tileOf t) r) n) := by
    blk_simp [iblk]; rw [place5]
  have e6 : iblk m c 6 t (ix3 (0 : Fin 1) (2 : Fin 6) n) = m ((c.tc : Thread nD τ).loc main_arg6) (ix3 (batchOf t) (2 : Fin 6) n) := by
    blk_simp [iblk]; rw [place6]
  have e7 : ∀ k, iblk m c 7 t (ix2 (0 : Fin 1) k) = m ((c.tc : Thread nD τ).loc main_arg7) (ix2 (0 : Fin 1) k) := fun k => by
    blk_simp [iblk]; rw [place7]
  refine (out8_apply _ _ _ _ _ _ _ _ r n).trans ?_
  unfold result entry
  refine congrArg₂ (fun a b : EReal => a + b) e5 (congrArg₂ (fun a b : EReal => a * b) e6 ?_)
  rw [show (fun k => iblk m c 7 t (ix2 (0 : Fin 1) k)) = _ from funext e7, show (fun k n => iblk m c 4 t (ix2 k n)) = _ from funext fun k => funext (e4 k)]
  refine congrArg (fun y => rms (joined y _) _ n) (funext fun h => funext fun d => ?_)
  match h with
  | 0 => exact e0 d
  | 1 => exact e1 d
  | 2 => exact e2 d
  | 3 => exact e3 d

theorem array_apply (i : S4x4096x1024.Idx) : (dats m 0 c).arrAt 8 cfg0.N i = result m c (i 0) (i 1) (i 2) := by
  refine (dats m 0 c).arrAt_forall_of_covers 8 (fun (i : S4x4096x1024.Idx) (v : EReal) => v = result m c (i 0) (i 1) (i 2))
    (by decide +kernel) (fun t hf y => ?_) i
  blk_simp
  rw [after0_8]
  obtain ⟨r, a, rfl⟩ : ∃ (r a : Fin 1024), y = ix3 (0 : Fin 1) r a :=
    ⟨y 1, y 2, (eq_ix3 y).trans (congrArg (fun z : Fin 1 => ix3 z (y 1) (y 2)) (Subsingleton.elim _ _))⟩
  refine (blocks_apply m c t r a).trans ?_
  exact (congrArg (fun i : S4x4096x1024.Idx => result m c (i 0) (i 1) (i 2)) (place8 t r a)).symm

end Arrays
end Kernel

section Reference
open Cert.Reference4Ideal Cert.Reference4Ideal.Gen Cert.Reference4Ideal.Read

variable (Y0 Y1 Y2 Y3 : FVec Ideal S4x4096x256 .bf16) (W : FVec Ideal S1024x1024 .bf16) (X : FVec Ideal S4x4096x1024 .f32)
  (M : FVec Ideal S4x6x1024 .f32) (G : FVec Ideal S1x1024 .f32)

/-- The four pieces. -/
def pieces (h : Fin 4) : S4x4096x256.Idx → EReal := ![Y0, Y1, Y2, Y3] h

/-- The joined array: entry `256 h + d` of a row is entry `d` of the `h`-th piece. -/
theorem concat_apply (b : Fin 4) (t : Fin 4096) (h : Fin 4) (d : Fin 256) (j : S4x4096x1024.Idx) (h0 : (j 0).val = b.val) (h1 : (j 1).val = t.val)
    (h2 : (j 2).val = 256 * h.val + d.val) :
    val_main_v0 (F := Ideal) Y0 Y1 Y2 Y3 j = (![Y0, Y1, Y2, Y3] h : S4x4096x256.Idx → EReal) (ix3 b t d) := by
  have hq : (j 2).val / 256 = h.val := by rw [h2]; omega
  have hm : d.val = (j 2).val % 256 := by rw [h2]; omega
  show concatenate S4x4096x1024 2 (List.ofFn fun n : Fin 4 => (⟨S4x4096x256, pieces Y0 Y1 Y2 Y3 n⟩ : (s : Shape) × (s.Idx → EReal))) _ j = _
  exact concatenate_ofFn_apply (t := S4x4096x1024) (s₁ := S4x4096x256) (2 : Fin 3) (pieces Y0 Y1 Y2 Y3) _ rfl 256 rfl j h hq (ix3 b t d) hm
    (fun a ha => match a with
      | ⟨0, _⟩ => h0.symm
      | ⟨1, _⟩ => h1.symm
      | ⟨2, _⟩ => absurd rfl ha)

/-- The reference's projection. -/
theorem reference_joined (i : S4x4096x1024.Idx) :
    val_main_v3 (F := Ideal) Y0 Y1 Y2 Y3 W i
      = joined (fun h d => (![Y0, Y1, Y2, Y3] h : S4x4096x256.Idx → EReal) (ix3 (i 0) (i 1) d)) (fun k n => W (ix2 k n)) (i 2) := by
  refine (val_main_v3_apply Y0 Y1 Y2 Y3 W i).trans ((sum_chunks 4 256 _).trans ?_)
  unfold joined
  refine Finset.sum_congr rfl fun h _ => Finset.sum_congr rfl fun d _ => congrArg₂ (fun a b : EReal => a * b) ?_ ?_
  · rw [val_main_v1_apply]
    exact concat_apply Y0 Y1 Y2 Y3 (i 0) (i 1) h d _ rfl rfl rfl
  · rw [val_main_v2_apply]
    exact congrArg W (funext fun a => match a with | ⟨0, _⟩ => rfl | ⟨1, _⟩ => rfl)

set_option maxHeartbeats 1600000 in
theorem reference_apply (i : S4x4096x1024.Idx) :
    val_main_v21 (F := Ideal) Y0 Y1 Y2 Y3 W X M G i = entry ![Y0, Y1, Y2, Y3] W X M G (i 0) (i 1) (i 2) := by
  have hr : ∀ k : Fin 1024, idx_main_v7 (idx_main_v8 (idx_main_v14 i)) k = ix3 (i 0) (i 1) k := fun k =>
    funext fun a => match a with | ⟨0, _⟩ => rfl | ⟨1, _⟩ => rfl | ⟨2, _⟩ => rfl
  have hg : idx_main_v5 (idx_main_v16 (idx_main_v17 i)) = ix2 (0 : Fin 1) (i 2) := by
    funext a
    refine Fin.ext ?_
    match a with
    | ⟨0, _⟩ => rfl
    | ⟨1, _⟩ => exact Nat.mod_eq_of_lt (i 2).isLt
  have hs : idx_main_v4 (idx_main_v19 i) = ix3 (i 0) (2 : Fin 6) (i 2) :=
    funext fun a => match a with | ⟨0, _⟩ => rfl | ⟨1, _⟩ => rfl | ⟨2, _⟩ => rfl
  rw [val_main_v21_apply, val_main_v20_apply, val_main_v19_apply, val_main_v4_apply, hs, val_main_v18_apply, val_main_v17_apply,
    val_main_v16_apply, val_main_v5_apply, hg, val_main_v15_apply, val_main_v14_apply, val_main_v13_apply, val_main_v12_apply,
    val_main_v11_apply, val_main_cst_1_apply, val_main_v10_apply, val_main_v9_apply, val_main_cst_0_apply, val_main_v8_apply,
    val_main_v7_apply, val_main_cst_apply]
  have hJ : ∀ j, val_main_v3 (F := Ideal) Y0 Y1 Y2 Y3 W j = _ := reference_joined Y0 Y1 Y2 Y3 W
  unfold val_main_v6
  have hk : ∀ k : Fin 1024, val_main_v3 (F := Ideal) Y0 Y1 Y2 Y3 W (ix3 (i 0) (i 1) k) = _ := fun k => hJ (ix3 (i 0) (i 1) k)
  have hi := hJ i
  clear hJ
  generalize val_main_v3 (F := Ideal) Y0 Y1 Y2 Y3 W = V at hk hi ⊢
  simp only [hr, mulf_apply, Ideal.addf_def, Ideal.mulf_def, Ideal.hostDivf_def, Ideal.hostUnary_rsqrt_def]
  rw [show (FloatOps.ofBits .f32 0x00000000#32 : Ideal .f32) = 0 from Ideal.ofBits_zero_f32, zero_add, congrArg X (eq_ix3 i), hi]
  unfold entry rms scaleOf
  exact congrArg (fun z : EReal => X (ix3 (i 0) (i 1) (i 2)) + M (ix3 (i 0) (2 : Fin 6) (i 2))
    * (joined (fun h d => (![Y0, Y1, Y2, Y3] h : S4x4096x256.Idx → EReal) (ix3 (i 0) (i 1) d)) (fun k n => W (ix2 k n)) (i 2)
      * Ideal.rsqrt (Ideal.div z (Ideal.ofBits .f32 0x44800000#32) + Ideal.ofBits .f32 0x358637BD#32) * G (ix2 (0 : Fin 1) (i 2))))
    (Finset.sum_congr rfl fun k _ => congrArg₂ (fun a b : EReal => a * b) (hk k) (hk k))

end Reference

theorem frame_p : Cert.quiescent_Kernel4 := fun m ρ _ => Cert.Kernel4.Gen.frame m ρ
theorem frame_pi : Cert.quiescent_Kernel4Ideal := fun m ρ _ => Cert.Kernel4Ideal.Gen.frame m ρ
theorem frame_ri : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- THE OUTPUT PROJECTION: the kernel's result array is the reference's. -/
theorem algebraic : Cert.algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨(h c).1.trans ?_, (h c).2⟩)
    (Cert.Reference4Ideal.Value.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  refine (Cert.Reference4Ideal.Read.val_main_v21_eq _ _ _ _ _ _ _ _).trans (funext fun i => ?_)
  exact (reference_apply _ _ _ _ _ _ _ _ i).trans (array_apply m c i).symm

end Cert.OutProj

end
-- ==== Proof.AdaLn.lean ====
/- The modulation: what one grid point stores, the result array, and the reference, entry by entry, for finite conditioning and weights. -/
module

public import proofs.«01_k».proof.Defs
public import proofs.«01_k».proof.Proof.Norm
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Pointwise.SelectCore
public import Idealize.ShloMosaic.Lib.IdealHost
public import Idealize.ShloMosaic.Lib.ReduceAll

@[expose] public section

noncomputable section

namespace Cert.AdaLn

open Idealize.ShloMosaic.ValueIdx Idealize.ShloMosaic.TcCoe Idealize.SL.Sem
open Idealize.ShloMosaic hiding ix0 ix1 ix2 ix3 ix4 ix5 eq_ix3
open Cert.Norm
open scoped BigOperators

/-- `x` over one plus `e` to the minus `x`. -/
def silu (x : EReal) : EReal := x * Ideal.logistic x

/-- A real number's `silu` is real. -/
theorem silu_real {x : EReal} (h : ∃ r : ℝ, x = (r : EReal)) : ∃ r : ℝ, silu x = (r : EReal) := by
  obtain ⟨r, rfl⟩ := h
  exact ⟨r * (1 + Real.exp (-r))⁻¹, by rw [silu, Ideal.logistic_coe, EReal.coe_mul]⟩

/-- The part of a matrix that its half-width rounding loses. -/
def lost {F : FTy → Type} [FloatOps F] {s : Shape} (x : FVec F s .f32) : FVec F s .bf16 :=
  truncf .bf16 (subf x (extf .f32 (truncf .bf16 x Cert.Kernel5Ideal.Gen.bitsLt_bf16_f32) Cert.Kernel5Ideal.Gen.bitsLt_bf16_f32))
    Cert.Kernel5Ideal.Gen.bitsLt_bf16_f32

/-- Of a real entry, nothing is lost. -/
theorem lost_apply {s : Shape} (x : FVec Ideal s .f32) (i : s.Idx) (h : ∃ r : ℝ, x i = (r : EReal)) : lost x i = 0 := by
  obtain ⟨r, hr⟩ := h
  refine (show lost x i = (x i - x i : EReal) from rfl).trans ?_
  rw [hr, ← EReal.coe_sub, sub_self, EReal.coe_zero]

section Kernel
open Cert.Kernel5Ideal Cert.Kernel5Ideal.Gen

/-- A product of a block of rows and a block of columns. -/
def product {F : FTy → Type} [FloatOps F] (a : FVec F S8x1024 .bf16) (b : FVec F S1024x1536 .bf16) : FVec F S8x1536 .f32 :=
  matmul (DotDims.plain 8 1024 1536) none a b (constant S8x1536 .f32 0x00000000#32)

theorem product_apply (a : FVec Ideal S8x1024 .bf16) (b : FVec Ideal S1024x1536 .bf16) (r : Fin 8) (n : Fin 1536) :
    product a b (ix2 r n) = ∑ k : Fin 1024, a (ix2 r k) * b (ix2 k n) := by
  unfold product
  refine (Ideal.matmul_plain_apply none _ _ _ r n).trans ?_
  rw [show (constant S8x1536 .f32 0x00000000#32 : FVec Ideal _ .f32) (ix2 r n) = 0 from Ideal.ofBits_zero_f32, zero_add]

/-- What a grid point stores: the product, its two corrections, and the bias. -/
def stored {F : FTy → Type} [FloatOps F] (x0 : Vec F S8x1024 .f32) (x1 : Vec F S1x1024x1536 .f32) (x2 : Vec F S1x1x1536 .f32) : FVec F S8x1536 .f32 :=
  addf (addf (product (truncf .bf16 (mulf x0 (logistic x0)) bitsLt_bf16_f32) (truncf .bf16 (shapeCast S1024x1536 x1 shapeCasts_S1x1024x1536_S1024x1536) bitsLt_bf16_f32))
      (addf (product (lost (mulf x0 (logistic x0))) (truncf .bf16 (shapeCast S1024x1536 x1 shapeCasts_S1x1024x1536_S1024x1536) bitsLt_bf16_f32))
        (product (truncf .bf16 (mulf x0 (logistic x0)) bitsLt_bf16_f32) (lost (shapeCast S1024x1536 x1 shapeCasts_S1x1024x1536_S1024x1536)))))
    (broadcastTo S8x1536 (shapeCast S1x1536 x2 shapeCasts_S1x1x1536_S1x1536) broadcasts_S1x1536_S8x1536)

theorem stored_apply (x0 : Vec Ideal S8x1024 .f32) (x1 : Vec Ideal S1x1024x1536 .f32) (x2 : Vec Ideal S1x1x1536 .f32) (r : Fin 8) (n : Fin 1536)
    (h0 : ∀ k : Fin 1024, ∃ z : ℝ, x0 (ix2 r k) = (z : EReal)) (h1 : ∀ k : Fin 1024, ∃ z : ℝ, x1 (ix3 (0 : Fin 1) k n) = (z : EReal)) :
    stored x0 x1 x2 (ix2 r n) = (∑ k : Fin 1024, silu (x0 (ix2 r k)) * x1 (ix3 (0 : Fin 1) k n)) + x2 (ix3 (0 : Fin 1) (0 : Fin 1) n) := by
  have hw : ∀ k : Fin 1024, shapeCast S1024x1536 x1 shapeCasts_S1x1024x1536_S1024x1536 (ix2 k n) = x1 (ix3 (0 : Fin 1) k n) := fun k =>
    unlead_apply (φ := .f32) x1 _ k n
  have hb : broadcastTo S8x1536 (shapeCast S1x1536 x2 shapeCasts_S1x1x1536_S1x1536) broadcasts_S1x1536_S8x1536 (ix2 r n)
      = x2 (ix3 (0 : Fin 1) (0 : Fin 1) n) := (down_apply _ _ r n).trans (unlead_apply (φ := .f32) x2 _ 0 n)
  have hs : ∀ k : Fin 1024, lost (mulf x0 (logistic x0) : FVec Ideal S8x1024 .f32) (ix2 r k) = 0 := fun k =>
    lost_apply (mulf x0 (logistic x0)) (ix2 r k) (show ∃ z : ℝ, silu (x0 (ix2 r k)) = (z : EReal) from silu_real (h0 k))
  have hl : ∀ k : Fin 1024, lost (shapeCast S1024x1536 x1 shapeCasts_S1x1024x1536_S1024x1536) (ix2 k n) = 0 := fun k =>
    lost_apply _ _ ((hw k).symm ▸ h1 k)
  unfold stored
  rw [ValueIdx.addf_apply, hb, ValueIdx.addf_apply, ValueIdx.addf_apply, product_apply, product_apply, product_apply]
  simp only [hs, hl, zero_mul, mul_zero, Finset.sum_const_zero, truncf_apply, hw, Ideal.addf_def, add_zero]
  rfl

theorem offsets_zero : (![0, 0, 0] : Fin 3 → Nat) = fun _ => 0 := funext fun a => by fin_cases a <;> rfl
theorem offsets_zero2 : (![0, 0] : Fin 2 → Nat) = fun _ => 0 := funext fun a => by fin_cases a <;> rfl

theorem out_eq {F : FTy → Type} [FloatOps F] (x0 : Vec F S8x1024 .f32) (x1 : Vec F S1x1024x1536 .f32) (x2 : Vec F S1x1x1536 .f32) :
    out0_3 x0 x1 x2 = View.canon [⟨r0_3, shapeCast S1x8x1536 (stored (shapeCast S8x1024 (View.ld x0 r0_0) shapeCasts_S8x1024_S8x1024)
      (View.ld x1 r0_1) (View.ld x2 r0_2)) shapeCasts_S8x1536_S1x8x1536⟩] := rfl

theorem out_apply (x0 : Vec Ideal S8x1024 .f32) (x1 : Vec Ideal S1x1024x1536 .f32) (x2 : Vec Ideal S1x1x1536 .f32) (r : Fin 8) (n : Fin 1536)
    (h0 : ∀ k : Fin 1024, ∃ z : ℝ, x0 (ix2 r k) = (z : EReal)) (h1 : ∀ k : Fin 1024, ∃ z : ℝ, x1 (ix3 (0 : Fin 1) k n) = (z : EReal)) :
    out0_3 x0 x1 x2 (ix3 (0 : Fin 1) r n)
      = (∑ k : Fin 1024, silu (x0 (ix2 r k)) * x1 (ix3 (0 : Fin 1) k n)) + x2 (ix3 (0 : Fin 1) (0 : Fin 1) n) := by
  rw [out_eq]
  refine (congrFun (View.canon_unit_zero (Val := Elt Ideal) offsets_zero inb_S1x8x1536_S1x8x1536_0_0_0 _) _).trans ?_
  refine (lead_apply (φ := .f32) _ _ r n).trans ?_
  have e0 : ∀ k : Fin 1024, shapeCast S8x1024 (View.ld x0 r0_0) shapeCasts_S8x1024_S8x1024 (ix2 r k) = x0 (ix2 r k) := fun k =>
    (shapeCast_apply _ _ _ (ix2 r k) rfl).trans
      (ld_unit_apply _ _ _ _ _ _ fun a => match a with | ⟨0, _⟩ => (Nat.zero_add _).symm | ⟨1, _⟩ => (Nat.zero_add _).symm)
  have e1 : ∀ k : Fin 1024, View.ld x1 r0_1 (ix3 (0 : Fin 1) k n) = x1 (ix3 (0 : Fin 1) k n) := fun k =>
    ld_unit_apply _ _ _ _ _ _ fun a => match a with | ⟨0, _⟩ => rfl | ⟨1, _⟩ => (Nat.zero_add _).symm | ⟨2, _⟩ => (Nat.zero_add _).symm
  have e2 : View.ld x2 r0_2 (ix3 (0 : Fin 1) (0 : Fin 1) n) = x2 (ix3 (0 : Fin 1) (0 : Fin 1) n) :=
    ld_unit_apply _ _ _ _ _ _ fun a => match a with | ⟨0, _⟩ => rfl | ⟨1, _⟩ => rfl | ⟨2, _⟩ => (Nat.zero_add _).symm
  refine (stored_apply _ _ _ r n (fun k => (e0 k).symm ▸ h0 k) (fun k => (e1 k).symm ▸ h1 k)).trans ?_
  rw [e2]
  simp only [e0, e1]

theorem index0 : ∀ t : Fin cfg0.N, win0_0.index t = ![0, 0] := (by decide +kernel : ∀ t : Fin grid0.N, _)
theorem index1 : ∀ t : Fin cfg0.N, win0_1.index t = ![(grid0.coords t 0).val, 0, (grid0.coords t 1).val] := (by decide +kernel : ∀ t : Fin grid0.N, _)
theorem index2 : ∀ t : Fin cfg0.N, win0_2.index t = ![(grid0.coords t 0).val, 0, (grid0.coords t 1).val] := (by decide +kernel : ∀ t : Fin grid0.N, _)
theorem index3 : ∀ t : Fin cfg0.N, win0_3.index t = ![(grid0.coords t 0).val, 0, (grid0.coords t 1).val] := (by decide +kernel : ∀ t : Fin grid0.N, _)

/-- A grid point's layer, and its tile of columns. -/
def layerOf (t : Fin cfg0.N) : Fin 2 := grid0.coords t 0
def tileOf (t : Fin cfg0.N) : Fin 4 := grid0.coords t 1

/-- Column `n` of tile `j`, in the whole array. -/
def colOf (j : Fin 4) (n : Fin 1536) : Fin 6144 := ⟨j.val * 1536 + n.val, by omega⟩

theorem place0 (t : Fin cfg0.N) (r : Fin 8) (k : Fin 1024) : (win0_0.blk t).view.emb (ix2 r k) = (ix2 r k : S8x1024.Idx) :=
  funext fun d => Fin.ext (match d with
    | ⟨0, _⟩ => by blk_simp [index0]
    | ⟨1, _⟩ => by blk_simp [index0])
theorem place1 (t : Fin cfg0.N) (k : Fin 1024) (n : Fin 1536) :
    (win0_1.blk t).view.emb (ix3 (0 : Fin 1) k n) = (ix3 (layerOf t) k (colOf (tileOf t) n) : S2x1024x6144.Idx) :=
  funext fun d => Fin.ext (match d with
    | ⟨0, _⟩ => by blk_simp [index1]; rfl
    | ⟨1, _⟩ => by blk_simp [index1]
    | ⟨2, _⟩ => by blk_simp [index1]; rfl)
theorem place2 (t : Fin cfg0.N) (n : Fin 1536) :
    (win0_2.blk t).view.emb (ix3 (0 : Fin 1) (0 : Fin 1) n) = (ix3 (layerOf t) (0 : Fin 1) (colOf (tileOf t) n) : S2x1x6144.Idx) :=
  funext fun d => Fin.ext (match d with
    | ⟨0, _⟩ => by blk_simp [index2]; rfl
    | ⟨1, _⟩ => by blk_simp [index2]
    | ⟨2, _⟩ => by blk_simp [index2]; rfl)
theorem place3 (t : Fin cfg0.N) (r : Fin 8) (n : Fin 1536) :
    (win0_3.blk t).view.emb (ix3 (0 : Fin 1) r n) = (ix3 (layerOf t) r (colOf (tileOf t) n) : S2x8x6144.Idx) :=
  funext fun d => Fin.ext (match d with
    | ⟨0, _⟩ => by blk_simp [index3]; rfl
    | ⟨1, _⟩ => by blk_simp [index3]
    | ⟨2, _⟩ => by blk_simp [index3]; rfl)

/-- The stacked conditioning: the samples' vectors, the context's, and rows of zeros. -/
abbrev stacked (C : FVec Ideal S4x1024 .f32) (X : FVec Ideal S1024 .f32) : FVec Ideal S8x1024 .f32 :=
  Cert.Reference5Ideal.Read.val_main_v2 (F := Ideal) C X

/-- Of real vectors, every entry of the stack is real. -/
theorem stacked_real (C : FVec Ideal S4x1024 .f32) (X : FVec Ideal S1024 .f32) (hC : ∀ i, ∃ z : ℝ, C i = (z : EReal))
    (hX : ∀ i, ∃ z : ℝ, X i = (z : EReal)) (i : S8x1024.Idx) : ∃ z : ℝ, stacked C X i = (z : EReal) := by
  refine concatenate_forall (P := fun x : EReal => ∃ z : ℝ, x = (z : EReal)) _ _ _ _ (fun p hp j => ?_) i
  simp only [List.mem_cons, List.not_mem_nil, or_false] at hp
  rcases hp with rfl | rfl | rfl
  · exact hC j
  · obtain ⟨z, hz⟩ := hX (Cert.Reference5Ideal.Read.idx_main_v0 j)
    exact ⟨z, (Cert.Reference5Ideal.Read.val_main_v0_apply (F := Ideal) X j).trans hz⟩
  · exact ⟨0, (Cert.Reference5Ideal.Read.val_main_v1_apply (F := Ideal) j).trans Ideal.ofBits_zero_f32⟩

/-- An entry of the modulations. -/
def entry (C : FVec Ideal S4x1024 .f32) (X : FVec Ideal S1024 .f32) (W : FVec Ideal S2x1024x6144 .f32) (B : FVec Ideal S2x6144 .f32)
    (l : Fin 2) (r : Fin 8) (n : Fin 6144) : EReal :=
  (∑ k : Fin 1024, silu (stacked C X (ix2 r k)) * W (ix3 l k n)) + B (ix2 l n)

section Arrays
variable (m : (ℓ : Loc nD τ sig) → Buf (Elt Ideal) ℓ) (c : Dev nD)

/-- An entry of the modulations of the launched arrays. -/
def result (l : Fin 2) (r : Fin 8) (n : Fin 6144) : EReal :=
  entry (m ((c.tc : Thread nD τ).loc main_arg0)) (m ((c.tc : Thread nD τ).loc main_arg1)) (m ((c.tc : Thread nD τ).loc main_arg2))
    (m ((c.tc : Thread nD τ).loc main_arg3)) l r n

/-- The arrays the host makes: the stacked conditioning, and the bias reshaped. -/
theorem host_v2 : (V m c main_v2 : S8x1024.Idx → EReal)
    = stacked (m ((c.tc : Thread nD τ).loc main_arg0)) (m ((c.tc : Thread nD τ).loc main_arg1)) := by
  unfold V hostOps0; after_results_simp <;> rfl
theorem host_v3 : (V m c main_v3 : S2x1x6144.Idx → EReal)
    = shapeCast S2x1x6144 (m ((c.tc : Thread nD τ).loc main_arg3)) shapeCasts_S2x6144_S2x1x6144 := by
  unfold V hostOps0; after_results_simp <;> rfl

theorem bias_apply (x : FVec Ideal S2x6144 .f32) (l : Fin 2) (n : Fin 6144) :
    shapeCast S2x1x6144 x shapeCasts_S2x6144_S2x1x6144 (ix3 l (0 : Fin 1) n) = x (ix2 l n) :=
  shapeCast_apply x _ _ _ (by
    rw [Shape.rowMajor_val_two, Shape.rowMajor_val_three]
    show l.val * 6144 + n.val = (l.val * 1 + 0) * 6144 + n.val
    omega)

theorem block0 (t : Fin cfg0.N) (r : Fin 8) (k : Fin 1024) : iblk m c 0 t (ix2 r k)
    = stacked (m ((c.tc : Thread nD τ).loc main_arg0)) (m ((c.tc : Thread nD τ).loc main_arg1)) (ix2 r k) := by
  refine Eq.trans ?_ (congrFun (host_v2 m c) (ix2 r k))
  blk_simp [iblk]; rw [place0]
theorem block1 (t : Fin cfg0.N) (k : Fin 1024) (n : Fin 1536) :
    iblk m c 1 t (ix3 (0 : Fin 1) k n) = m ((c.tc : Thread nD τ).loc main_arg2) (ix3 (layerOf t) k (colOf (tileOf t) n)) := by
  rw [← V_main_arg2 m c]
  blk_simp [iblk]; rw [place1]
theorem block2 (t : Fin cfg0.N) (n : Fin 1536) :
    iblk m c 2 t (ix3 (0 : Fin 1) (0 : Fin 1) n) = m ((c.tc : Thread nD τ).loc main_arg3) (ix2 (layerOf t) (colOf (tileOf t) n)) := by
  refine Eq.trans ?_ ((congrFun (host_v3 m c) (ix3 (layerOf t) (0 : Fin 1) (colOf (tileOf t) n))).trans (bias_apply _ _ _))
  blk_simp [iblk]; rw [place2]

theorem array_apply (hC : ∀ i, ∃ z : ℝ, m ((c.tc : Thread nD τ).loc main_arg0) i = (z : EReal))
    (hX : ∀ i, ∃ z : ℝ, m ((c.tc : Thread nD τ).loc main_arg1) i = (z : EReal))
    (hW : ∀ i, ∃ z : ℝ, m ((c.tc : Thread nD τ).loc main_arg2) i = (z : EReal)) (i : S2x8x6144.Idx) :
    (dats m 0 c).arrAt 3 cfg0.N i = result m c (i 0) (i 1) (i 2) := by
  refine (dats m 0 c).arrAt_forall_of_covers 3 (fun (i : S2x8x6144.Idx) (v : EReal) => v = result m c (i 0) (i 1) (i 2))
    (by decide +kernel) (fun t hf y => ?_) i
  blk_simp
  rw [after0_3]
  obtain ⟨r, n, rfl⟩ : ∃ (r : Fin 8) (n : Fin 1536), y = ix3 (0 : Fin 1) r n :=
    ⟨y 1, y 2, (eq_ix3 y).trans (congrArg (fun z : Fin 1 => ix3 z (y 1) (y 2)) (Subsingleton.elim _ _))⟩
  refine (out_apply _ _ _ r n (fun k => (block0 m c t r k).symm ▸ stacked_real _ _ hC hX _) (fun k => (block1 m c t k n).symm ▸ hW _)).trans ?_
  rw [block2]
  simp only [block0, block1]
  exact (congrArg (fun i : S2x8x6144.Idx => result m c (i 0) (i 1) (i 2)) (place3 t r n)).symm

end Arrays

end Kernel

section Reference
open Cert.Reference5Ideal Cert.Reference5Ideal.Gen Cert.Reference5Ideal.Read
variable (C : FVec Ideal S4x1024 .f32) (X : FVec Ideal S1024 .f32) (W : FVec Ideal S2x1024x6144 .f32) (B : FVec Ideal S2x6144 .f32)

/-- The reference's `silu`. -/
theorem reference_silu (i : S8x1024.Idx) : val_main_v3 (F := Ideal) C X i = silu (stacked C X i) := by
  rw [val_main_v3_apply, val_main_call0_v5_apply, val_main_call0_v4_apply, val_main_call0_cst_0_apply, val_main_call0_v3_apply,
    val_main_call0_v2_apply, val_main_call0_cst_apply, val_main_call0_v1_apply, val_main_call0_v0_apply]
  simp only [Ideal.addf_def, Ideal.mulf_def, Ideal.hostDivf_def, Ideal.hostUnary_exp_def, Ideal.hostNegf_def]
  rw [show (FloatOps.ofBits .f32 0x3F800000#32 : Ideal .f32) = 1 from Ideal.ofBits_one_f32]
  rfl

theorem reference_apply (i : S2x8x6144.Idx) : val_main_v8 (F := Ideal) C X W B i = entry C X W B (i 0) (i 1) (i 2) := by
  rw [val_main_v8_apply, val_main_v7_apply, val_main_v6_apply, val_main_v5_apply, val_main_v4_apply, Ideal.addf_def]
  unfold entry
  refine congrArg₂ (fun a b : EReal => a + b) (Finset.sum_congr rfl fun k _ => ?_) ?_
  · rw [reference_silu, mul_comm]
    exact congrArg₂ (fun a b : EReal => a * b) (congrArg (fun i => silu (stacked C X i)) (funext fun a => match a with | ⟨0, _⟩ => rfl | ⟨1, _⟩ => rfl))
      (congrArg W (funext fun a => match a with | ⟨0, _⟩ => rfl | ⟨1, _⟩ => rfl | ⟨2, _⟩ => rfl))
  · exact congrArg B (funext fun a => match a with | ⟨0, _⟩ => rfl | ⟨1, _⟩ => rfl)

end Reference

/-- The side conditions of the precondition's operations. -/
instance finiteFacts : Cert.Pre_finite_cond.Facts where
  bcast_S_S4x1024 := by decide
  reducesTo_S4x1024_S_d0_1 := by decide
  h_S_ := by decide
  bcast_S_S1024 := by decide
  reducesTo_S1024_S_d0 := by decide
  bcast_S_S2x1024x6144 := by decide
  reducesTo_S2x1024x6144_S_d0_1_2 := by decide

instance : Subsingleton Cert.Pre_finite_cond.S_.Idx := ⟨fun _ _ => funext fun a => a.elim0⟩

/-- A number whose absolute value is below infinity is real. -/
theorem real_of_lt (x : EReal)
    (h : BitVec.ofBool (decide (max x (-x) < Ideal.ofBits .f32 0x7F800000#32)) = 1#1) : ∃ r : ℝ, x = (r : EReal) := by
  have ht : Ideal.ofBits .f32 0x7F800000#32 = ⊤ := by simp [Ideal.ofBits, Ideal.ieee]
  rw [ht] at h
  induction x using EReal.rec with
  | bot => simp at h
  | coe r => exact ⟨r, rfl⟩
  | top => simp at h

/-- What the precondition says: the conditioning and the weights are real. -/
theorem real_of_finite (C : FVec Ideal Cert.Pre_finite_cond.S4x1024 .f32) (X : FVec Ideal Cert.Pre_finite_cond.S1024 .f32)
    (W : FVec Ideal Cert.Pre_finite_cond.S2x1024x6144 .f32) (B : FVec Ideal Cert.Pre_finite_cond.S2x6144 .f32)
    (h : Cert.Pre_finite_cond.fn (F := Ideal) C X W B = fun _ => 1#1) :
    (∀ i, ∃ r : ℝ, C i = (r : EReal)) ∧ (∀ i, ∃ r : ℝ, X i = (r : EReal)) ∧ ∀ i, ∃ r : ℝ, W i = (r : EReal) := by
  have h0 := congrFun h (Shape.Idx.first (by decide))
  have h1 := IntOp.andi_eq_one.1 h0
  have h2 := IntOp.andi_eq_one.1 h1.1
  exact ⟨fun i => real_of_lt _ (Host.reduce_andi_all _ _ _ _ _ h2.1 i), fun i => real_of_lt _ (Host.reduce_andi_all _ _ _ _ _ h2.2 i),
    fun i => real_of_lt _ (Host.reduce_andi_all _ _ _ _ _ h1.2 i)⟩

theorem frame_p : Cert.quiescent_Kernel5 := fun m ρ _ => Cert.Kernel5.Gen.frame m ρ
theorem frame_pi : Cert.quiescent_Kernel5Ideal := fun m ρ _ => Cert.Kernel5Ideal.Gen.frame m ρ
theorem frame_pi_pre : Cert.quiescent_Kernel5Ideal_pre_finite_cond := fun m ρ _ => Cert.Kernel5Ideal.Gen.frame m ρ
theorem frame_ri : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)
theorem frame_ri_pre : Cert.quiescent_Reference5Ideal_pre_finite_cond := fun m ρ _ =>
  (θ_run Cert.Reference5Ideal.defs _ _).mono (fun r h => ⟨fun c => (h c).2, sem_eq_zero_of_no_sems (by decide) r.2⟩)
    (Cert.Reference5Ideal.Value.run (F := Ideal) m ρ)

/-- THE MODULATION: the kernel's result array is the reference's. -/
theorem algebraic : Cert.algebraic_Kernel5Ideal_Reference5Ideal_pre_finite_cond := by
  intro m ρ m' ρ' hpre hagree
  refine ⟨_, Cert.Kernel5Ideal.Value.run_blocks (F := Ideal) m ρ, ?_⟩
  refine (θ_run Cert.Reference5Ideal.defs _ _).mono (fun _ h c => ⟨(h c).1.trans ?_, (h c).2⟩)
    (Cert.Reference5Ideal.Value.run (F := Ideal) m' ρ')
  rw [(hagree c).1, (hagree c).2.1, (hagree c).2.2.1, (hagree c).2.2.2]
  refine (Cert.Reference5Ideal.Read.val_main_v8_eq _ _ _ _).trans (funext fun i => ?_)
  have hf := real_of_finite _ _ _ _ (hpre c)
  exact (reference_apply _ _ _ _ i).trans (array_apply m c hf.1 hf.2.1 hf.2.2 i).symm

end Cert.AdaLn

end
-- ==== Proof.lean ====
module

public import proofs.«01_k».proof.Defs
public import proofs.«01_k».proof.Proof.AttnClaims
public import proofs.«01_k».proof.Proof.FfnClaims
public import proofs.«01_k».proof.Proof.InProj
public import proofs.«01_k».proof.Proof.OutProj
public import proofs.«01_k».proof.Proof.AdaLn
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Attn.finiteFacts, Cert.AdaLn.finiteFacts,
    Cert.Attn.frame_p, Cert.Attn.frame_pi, Cert.Attn.frame_pi_pre, Cert.Attn.frame_ri, Cert.Attn.frame_ri_pre,
    Cert.Ffn.frame_p, Cert.Ffn.frame_pi, Cert.Ffn.frame_ri,
    Cert.InProj.frame_p, Cert.InProj.frame_pi, Cert.InProj.frame_ri,
    Cert.OutProj.frame_p, Cert.OutProj.frame_pi, Cert.OutProj.frame_ri,
    Cert.AdaLn.frame_p, Cert.AdaLn.frame_pi, Cert.AdaLn.frame_pi_pre, Cert.AdaLn.frame_ri, Cert.AdaLn.frame_ri_pre,
    trivial, Cert.Attn.algebraic, trivial, Cert.Ffn.algebraic, trivial, Cert.InProj.algebraic, trivial, Cert.OutProj.algebraic,
    trivial, Cert.AdaLn.algebraic⟩

end Cert.Proof

end
